-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dpooled_finite [hPre_dpooled_finite : Cert.Pre_dpooled_finite.Facts] (m : (ℓ : Loc Cert.KernelIdeal.nD Cert.KernelIdeal.τ Cert.KernelIdeal.sig) → Buf (Elt Ideal) ℓ) : Prop :=
  ∀ c : Dev Cert.KernelIdeal.nD,
    (Cert.Pre_dpooled_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dpooled_finite [hPre_dpooled_finite : Cert.Pre_dpooled_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dpooled_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_out0_finite [hPre_out0_finite : Cert.Pre_out0_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_out0_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_out0_finite [hPre_out0_finite : Cert.Pre_out0_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_out0_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_dpooled_finite [hKernelIdeal : Cert.KernelIdeal.Facts] [hPre_dpooled_finite : Cert.Pre_dpooled_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dpooled_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_dpooled_finite [hReferenceIdeal : Cert.ReferenceIdeal.Facts] [hPre_dpooled_finite : Cert.Pre_dpooled_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dpooled_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_out0_finite [hKernel6Ideal : Cert.Kernel6Ideal.Facts] [hPre_out0_finite : Cert.Pre_out0_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_out0_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_out0_finite [hReference6Ideal : Cert.Reference6Ideal.Facts] [hPre_out0_finite : Cert.Pre_out0_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_out0_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15))
      ∧ r.2.sem = fun _ => 0)

def preserves_Kernel_KernelIdeal : Prop :=
  True

def algebraic_KernelIdeal_ReferenceIdeal_pre_dpooled_finite [hKernelIdeal : Cert.KernelIdeal.Facts] [hReferenceIdeal : Cert.ReferenceIdeal.Facts] [hPre_dpooled_finite : Cert.Pre_dpooled_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dpooled_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_v25) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_out0_finite [hKernel6Ideal : Cert.Kernel6Ideal.Facts] [hReference6Ideal : Cert.Reference6Ideal.Facts] [hPre_out0_finite : Cert.Pre_out0_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_out0_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)) (v2 : (c : Dev Cert.Kernel6Ideal.nD) → Buf (Elt Ideal) ((c.tc : Thread Cert.Kernel6Ideal.nD Cert.Kernel6Ideal.τ).loc Cert.Kernel6Ideal.main_v25_2)) (v3 : (c : Dev Cert.Kernel6Ideal.nD) → Buf (Elt Ideal) ((c.tc : Thread Cert.Kernel6Ideal.nD Cert.Kernel6Ideal.τ).loc Cert.Kernel6Ideal.main_v27)) (v4 : (c : Dev Cert.Kernel6Ideal.nD) → Buf (Elt Ideal) ((c.tc : Thread Cert.Kernel6Ideal.nD Cert.Kernel6Ideal.τ).loc Cert.Kernel6Ideal.main_v29)) (v5 : (c : Dev Cert.Kernel6Ideal.nD) → Buf (Elt Ideal) ((c.tc : Thread Cert.Kernel6Ideal.nD Cert.Kernel6Ideal.τ).loc Cert.Kernel6Ideal.main_v25_5)) (v6 : (c : Dev Cert.Kernel6Ideal.nD) → Buf (Elt Ideal) ((c.tc : Thread Cert.Kernel6Ideal.nD Cert.Kernel6Ideal.τ).loc Cert.Kernel6Ideal.main_v25_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_v25_2) = v2 c
          ∧ r.2.mem ((c.tc : Thread Cert.Kernel6Ideal.nD Cert.Kernel6Ideal.τ).loc Cert.Kernel6Ideal.main_v27) = v3 c
          ∧ r.2.mem ((c.tc : Thread Cert.Kernel6Ideal.nD Cert.Kernel6Ideal.τ).loc Cert.Kernel6Ideal.main_v29) = v4 c
          ∧ r.2.mem ((c.tc : Thread Cert.Kernel6Ideal.nD Cert.Kernel6Ideal.τ).loc Cert.Kernel6Ideal.main_v25_5) = v5 c
          ∧ r.2.mem ((c.tc : Thread Cert.Kernel6Ideal.nD Cert.Kernel6Ideal.τ).loc Cert.Kernel6Ideal.main_v25_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v81) = v0 c
          ∧ r.2.mem ((c.tc : Thread Cert.Reference6Ideal.nD Cert.Reference6Ideal.τ).loc Cert.Reference6Ideal.main_v82) = v1 c
          ∧ r.2.mem ((c.tc : Thread Cert.Reference6Ideal.nD Cert.Reference6Ideal.τ).loc Cert.Reference6Ideal.main_v76) = v2 c
          ∧ r.2.mem ((c.tc : Thread Cert.Reference6Ideal.nD Cert.Reference6Ideal.τ).loc Cert.Reference6Ideal.main_v38) = v3 c
          ∧ r.2.mem ((c.tc : Thread Cert.Reference6Ideal.nD Cert.Reference6Ideal.τ).loc Cert.Reference6Ideal.main_v83) = v4 c
          ∧ r.2.mem ((c.tc : Thread Cert.Reference6Ideal.nD Cert.Reference6Ideal.τ).loc Cert.Reference6Ideal.main_v75) = v5 c
          ∧ r.2.mem ((c.tc : Thread Cert.Reference6Ideal.nD Cert.Reference6Ideal.τ).loc Cert.Reference6Ideal.main_v84) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)) (v6 : (c : Dev Cert.Kernel7Ideal.nD) → Buf (Elt Ideal) ((c.tc : Thread Cert.Kernel7Ideal.nD Cert.Kernel7Ideal.τ).loc Cert.Kernel7Ideal.main_v0_6)) (v7 : (c : Dev Cert.Kernel7Ideal.nD) → Buf (Elt Ideal) ((c.tc : Thread Cert.Kernel7Ideal.nD Cert.Kernel7Ideal.τ).loc Cert.Kernel7Ideal.main_v0_7)) (v8 : (c : Dev Cert.Kernel7Ideal.nD) → Buf (Elt Ideal) ((c.tc : Thread Cert.Kernel7Ideal.nD Cert.Kernel7Ideal.τ).loc Cert.Kernel7Ideal.main_v0_8)) (v9 : (c : Dev Cert.Kernel7Ideal.nD) → Buf (Elt Ideal) ((c.tc : Thread Cert.Kernel7Ideal.nD Cert.Kernel7Ideal.τ).loc Cert.Kernel7Ideal.main_v0_9)) (v10 : (c : Dev Cert.Kernel7Ideal.nD) → Buf (Elt Ideal) ((c.tc : Thread Cert.Kernel7Ideal.nD Cert.Kernel7Ideal.τ).loc Cert.Kernel7Ideal.main_v0_10)) (v11 : (c : Dev Cert.Kernel7Ideal.nD) → Buf (Elt Ideal) ((c.tc : Thread Cert.Kernel7Ideal.nD Cert.Kernel7Ideal.τ).loc Cert.Kernel7Ideal.main_v0_11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_v0_6) = v6 c
          ∧ r.2.mem ((c.tc : Thread Cert.Kernel7Ideal.nD Cert.Kernel7Ideal.τ).loc Cert.Kernel7Ideal.main_v0_7) = v7 c
          ∧ r.2.mem ((c.tc : Thread Cert.Kernel7Ideal.nD Cert.Kernel7Ideal.τ).loc Cert.Kernel7Ideal.main_v0_8) = v8 c
          ∧ r.2.mem ((c.tc : Thread Cert.Kernel7Ideal.nD Cert.Kernel7Ideal.τ).loc Cert.Kernel7Ideal.main_v0_9) = v9 c
          ∧ r.2.mem ((c.tc : Thread Cert.Kernel7Ideal.nD Cert.Kernel7Ideal.τ).loc Cert.Kernel7Ideal.main_v0_10) = v10 c
          ∧ r.2.mem ((c.tc : Thread Cert.Kernel7Ideal.nD Cert.Kernel7Ideal.τ).loc Cert.Kernel7Ideal.main_v0_11) = v11 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_v95) = v3 c
          ∧ r.2.mem ((c.tc : Thread Cert.Reference7Ideal.nD Cert.Reference7Ideal.τ).loc Cert.Reference7Ideal.main_v4) = v4 c
          ∧ r.2.mem ((c.tc : Thread Cert.Reference7Ideal.nD Cert.Reference7Ideal.τ).loc Cert.Reference7Ideal.main_v28) = v5 c
          ∧ r.2.mem ((c.tc : Thread Cert.Reference7Ideal.nD Cert.Reference7Ideal.τ).loc Cert.Reference7Ideal.main_v52) = v6 c
          ∧ r.2.mem ((c.tc : Thread Cert.Reference7Ideal.nD Cert.Reference7Ideal.τ).loc Cert.Reference7Ideal.main_v76) = v7 c
          ∧ r.2.mem ((c.tc : Thread Cert.Reference7Ideal.nD Cert.Reference7Ideal.τ).loc Cert.Reference7Ideal.main_v10) = v8 c
          ∧ r.2.mem ((c.tc : Thread Cert.Reference7Ideal.nD Cert.Reference7Ideal.τ).loc Cert.Reference7Ideal.main_v34) = v9 c
          ∧ r.2.mem ((c.tc : Thread Cert.Reference7Ideal.nD Cert.Reference7Ideal.τ).loc Cert.Reference7Ideal.main_v58) = v10 c
          ∧ r.2.mem ((c.tc : Thread Cert.Reference7Ideal.nD Cert.Reference7Ideal.τ).loc Cert.Reference7Ideal.main_v82) = v11 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_dpooled_finite : Cert.Pre_dpooled_finite.Facts) (hPre_out0_finite : Cert.Pre_out0_finite.Facts),
    quiescent_Kernel (hKernel := hKernel)
    ∧ quiescent_KernelIdeal (hKernelIdeal := hKernelIdeal)
    ∧ quiescent_KernelIdeal_pre_dpooled_finite (hKernelIdeal := hKernelIdeal) (hPre_dpooled_finite := hPre_dpooled_finite)
    ∧ quiescent_ReferenceIdeal (hReferenceIdeal := hReferenceIdeal)
    ∧ quiescent_ReferenceIdeal_pre_dpooled_finite (hReferenceIdeal := hReferenceIdeal) (hPre_dpooled_finite := hPre_dpooled_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_out0_finite (hKernel6Ideal := hKernel6Ideal) (hPre_out0_finite := hPre_out0_finite)
    ∧ quiescent_Reference6Ideal (hReference6Ideal := hReference6Ideal)
    ∧ quiescent_Reference6Ideal_pre_out0_finite (hReference6Ideal := hReference6Ideal) (hPre_out0_finite := hPre_out0_finite)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_dpooled_finite (hKernelIdeal := hKernelIdeal) (hReferenceIdeal := hReferenceIdeal) (hPre_dpooled_finite := hPre_dpooled_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_out0_finite (hKernel6Ideal := hKernel6Ideal) (hReference6Ideal := hReference6Ideal) (hPre_out0_finite := hPre_out0_finite)
    ∧ preserves_Kernel7_Kernel7Ideal
    ∧ algebraic_Kernel7Ideal_Reference7Ideal (hKernel7Ideal := hKernel7Ideal) (hReference7Ideal := hReference7Ideal)
-- ==== Pre_dpooled_finite.lean ====
abbrev S8192x1024 : Shape := ⟨2, ![8192, 1024]⟩
abbrev S1x1024 : Shape := ⟨2, ![1, 1024]⟩
abbrev S1x1024x2304 : Shape := ⟨3, ![1, 1024, 2304]⟩
abbrev S8192x512 : Shape := ⟨2, ![8192, 512]⟩
abbrev S8192x256 : Shape := ⟨2, ![8192, 256]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x1024 .f32) (main_arg1 : FVec F S1x1024 .f32) (main_arg2 : FVec F S1x1024x2304 .f32) (main_arg3 : FVec F S8192x512 .f32) (main_arg4 : FVec F S8192x512 .bf16) (main_arg5 : FVec F S8192x256 .bf16) (main_arg6 : FVec F S8192x1024 .bf16) (main_arg7 : FVec F S8192x1024 .f32) : IVec S8192x512 1 :=
  let main_v0 : FVec F S8192x512 .f32 := subf main_arg3 main_arg3
  let main_cst : FVec F S_ .f32 := constant S_ .f32 0x00000000#32
  let main_v1 : FVec F S8192x512 .f32 := broadcastInDim S8192x512 ![] bcast_S_S8192x512 main_cst
  let main_v2 : IVec S8192x512 1 := cmpf .oeq main_v0 main_v1
  main_v2
-- ==== Pre_out0_finite.lean ====
abbrev S8192x1024 : Shape := ⟨2, ![8192, 1024]⟩
abbrev S1x1024 : Shape := ⟨2, ![1, 1024]⟩
abbrev S1x1024x1024 : Shape := ⟨3, ![1, 1024, 1024]⟩
abbrev S8192x1536 : Shape := ⟨2, ![8192, 1536]⟩
abbrev S8192x512 : Shape := ⟨2, ![8192, 512]⟩
abbrev S1x4x128x128 : Shape := ⟨4, ![1, 4, 128, 128]⟩
abbrev S1x512 : Shape := ⟨2, ![1, 512]⟩
abbrev S_ : Shape := ⟨0, ![]⟩

class Facts : Prop where
  reducesTo_S8192x1024_S_d0_1 : S8192x1024.ReducesTo [0, 1] S_
  h_S_ : 0 < S_.numel
  reducesTo_S1x1024_S_d0_1 : S1x1024.ReducesTo [0, 1] S_
  reducesTo_S1x1024x1024_S_d0_1_2 : S1x1024x1024.ReducesTo [0, 1, 2] S_
  reducesTo_S8192x512_S_d0_1 : S8192x512.ReducesTo [0, 1] S_
  bitsLt_bf16_f32 : FTy.bits .bf16 < FTy.bits .f32
  reducesTo_S1x4x128x128_S_d0_1_2_3 : S1x4x128x128.ReducesTo [0, 1, 2, 3] S_
  reducesTo_S1x512_S_d0_1 : S1x512.ReducesTo [0, 1] S_

variable [Facts]

def fn_part1 {F : FTy → Type} [FloatOps F] (main_arg7 : FVec F S1x512 .f32) (main_v17 : FVec F S_ .f32) : IVec S_ 1 :=
  let main_v18 : FVec F S1x512 .f32 := subf main_arg7 main_arg7
  let main_cst_5 : FVec F S_ .f32 := constant S_ .f32 0x00000000#32
  let main_v19 : FVec F S_ .f32 := (fun x v => Host.reduceAdd x v reducesTo_S1x512_S_d0_1 h_S_) main_v18 main_cst_5
  let main_v20 : FVec F S_ .f32 := addf main_v17 main_v19
  let main_cst_6 : FVec F S_ .f32 := constant S_ .f32 0x00000000#32
  let main_v21 : IVec S_ 1 := cmpf .oeq main_v20 main_cst_6
  main_v21

def fn {F : FTy → Type} [FloatOps F] (main_arg0 : FVec F S8192x1024 .f32) (main_arg1 : FVec F S1x1024 .f32) (main_arg2 : FVec F S1x1024x1024 .f32) (main_arg3 : FVec F S8192x1536 .bf16) (main_arg4 : FVec F S8192x512 .f32) (main_arg5 : FVec F S8192x512 .bf16) (main_arg6 : FVec F S1x4x128x128 .f32) (main_arg7 : FVec F S1x512 .f32) : IVec S_ 1 :=
  let main_v0 : FVec F S8192x1024 .f32 := subf main_arg0 main_arg0
  let main_cst : FVec F S_ .f32 := constant S_ .f32 0x00000000#32
  let main_v1 : FVec F S_ .f32 := (fun x v => Host.reduceAdd x v reducesTo_S8192x1024_S_d0_1 h_S_) main_v0 main_cst
  let main_v2 : FVec F S1x1024 .f32 := subf main_arg1 main_arg1
  let main_cst_0 : FVec F S_ .f32 := constant S_ .f32 0x00000000#32
  let main_v3 : FVec F S_ .f32 := (fun x v => Host.reduceAdd x v reducesTo_S1x1024_S_d0_1 h_S_) main_v2 main_cst_0
  let main_v4 : FVec F S_ .f32 := addf main_v1 main_v3
  let main_v5 : FVec F S1x1024x1024 .f32 := subf main_arg2 main_arg2
  let main_cst_1 : FVec F S_ .f32 := constant S_ .f32 0x00000000#32
  let main_v6 : FVec F S_ .f32 := (fun x v => Host.reduceAdd x v reducesTo_S1x1024x1024_S_d0_1_2 h_S_) main_v5 main_cst_1
  let main_v7 : FVec F S_ .f32 := addf main_v4 main_v6
  let main_v8 : FVec F S8192x512 .f32 := subf main_arg4 main_arg4
  let main_cst_2 : FVec F S_ .f32 := constant S_ .f32 0x00000000#32
  let main_v9 : FVec F S_ .f32 := (fun x v => Host.reduceAdd x v reducesTo_S8192x512_S_d0_1 h_S_) main_v8 main_cst_2
  let main_v10 : FVec F S_ .f32 := addf main_v7 main_v9
  let main_v11 : FVec F S8192x512 .f32 := (extf .f32 · bitsLt_bf16_f32) main_arg5
  let main_v12 : FVec F S8192x512 .f32 := subf main_v11 main_v11
  let main_cst_3 : FVec F S_ .f32 := constant S_ .f32 0x00000000#32
  let main_v13 : FVec F S_ .f32 := (fun x v => Host.reduceAdd x v reducesTo_S8192x512_S_d0_1 h_S_) main_v12 main_cst_3
  let main_v14 : FVec F S_ .f32 := addf main_v10 main_v13
  let main_v15 : FVec F S1x4x128x128 .f32 := subf main_arg6 main_arg6
  let main_cst_4 : FVec F S_ .f32 := constant S_ .f32 0x00000000#32
  let main_v16 : FVec F S_ .f32 := (fun x v => Host.reduceAdd x v reducesTo_S1x4x128x128_S_d0_1_2_3 h_S_) main_v15 main_cst_4
  let main_v17 : FVec F S_ .f32 := addf main_v14 main_v16
  fn_part1 (F := F) main_arg7 main_v17
-- ==== Kernel.lean ====
abbrev S8192x1024 : Shape := ⟨2, ![8192, 1024]⟩
abbrev S1x1024 : Shape := ⟨2, ![1, 1024]⟩
abbrev S1x1024x2304 : Shape := ⟨3, ![1, 1024, 2304]⟩
abbrev S8192x512 : Shape := ⟨2, ![8192, 512]⟩
abbrev S8192x256 : Shape := ⟨2, ![8192, 256]⟩
abbrev S1024x2304 : Shape := ⟨2, ![1024, 2304]⟩
abbrev S2304x1024 : Shape := ⟨2, ![2304, 1024]⟩
abbrev S8192x2304 : Shape := ⟨2, ![8192, 2304]⟩
abbrev S8x1024 : Shape := ⟨2, ![8, 1024]⟩
abbrev S512x512 : Shape := ⟨2, ![512, 512]⟩
abbrev S16x512 : Shape := ⟨2, ![16, 512]⟩
abbrev S512x256 : Shape := ⟨2, ![512, 256]⟩
abbrev S512x1024 : Shape := ⟨2, ![512, 1024]⟩
abbrev S512x2304 : Shape := ⟨2, ![512, 2304]⟩
abbrev S528x512 : Shape := ⟨2, ![528, 512]⟩
abbrev S512x128 : Shape := ⟨2, ![512, 128]⟩
abbrev S512x1 : Shape := ⟨2, ![512, 1]⟩
abbrev S16x128 : Shape := ⟨2, ![16, 128]⟩
abbrev S16x1 : Shape := ⟨2, ![16, 1]⟩
abbrev S512 : Shape := ⟨1, ![512]⟩
abbrev S64x8x1024 : Shape := ⟨3, ![64, 8, 1024]⟩
abbrev S_ : Shape := ⟨0, ![]⟩
abbrev S1024 : Shape := ⟨1, ![1024]⟩

abbrev nBuf : Space → Nat
  | .hbm => 17
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2304, .f32⟩
  | .hbm, ⟨3, _⟩ => ⟨S8192x512, .f32⟩
  | .hbm, ⟨4, _⟩ => ⟨S8192x512, .bf16⟩
  | .hbm, ⟨5, _⟩ => ⟨S8192x256, .bf16⟩
  | .hbm, ⟨6, _⟩ => ⟨S8192x1024, .bf16⟩
  | .hbm, ⟨7, _⟩ => ⟨S8192x1024, .f32⟩
  | .hbm, ⟨8, _⟩ => ⟨S1024x2304, .f32⟩
  | .hbm, ⟨9, _⟩ => ⟨S2304x1024, .f32⟩
  | .hbm, ⟨10, _⟩ => ⟨S2304x1024, .bf16⟩
  | .hbm, ⟨11, _⟩ => ⟨S8192x2304, .bf16⟩
  | .hbm, ⟨12, _⟩ => ⟨S8192x1024, .f32⟩
  | .hbm, ⟨13, _⟩ => ⟨S8x1024, .f32⟩
  | .hbm, ⟨14, _⟩ => ⟨S_, .f32⟩
  | .hbm, ⟨15, _⟩ => ⟨S1024, .f32⟩
  | .hbm, ⟨16, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S512x1024, .bf16⟩
  | .local _ .vmem, ⟨10, _⟩ => ⟨S2304x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x2304, .bf16⟩
  | .local _ .vmem, ⟨17, _⟩ => ⟨S512x2304, .bf16⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | .local _ .vmem, ⟨21, _⟩ => ⟨S528x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2304x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2304 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S1x1024 : Shape := ⟨2, ![1, 1024]⟩
abbrev S1x1024x2304 : Shape := ⟨3, ![1, 1024, 2304]⟩
abbrev S8192x512 : Shape := ⟨2, ![8192, 512]⟩
abbrev S8192x256 : Shape := ⟨2, ![8192, 256]⟩
abbrev S_ : Shape := ⟨0, ![]⟩
abbrev S8192x2304 : Shape := ⟨2, ![8192, 2304]⟩
abbrev S8192 : Shape := ⟨1, ![8192]⟩
abbrev S8192x1 : Shape := ⟨2, ![8192, 1]⟩
abbrev S1024x2304 : Shape := ⟨2, ![1024, 2304]⟩
abbrev S8192x4x128 : Shape := ⟨3, ![8192, 4, 128]⟩
abbrev S1x4x128 : Shape := ⟨3, ![1, 4, 128]⟩
abbrev S8193x4x128 : Shape := ⟨3, ![8193, 4, 128]⟩
abbrev S4 : Shape := ⟨1, ![4]⟩
abbrev S1x4 : Shape := ⟨2, ![1, 4]⟩
abbrev S8192x4 : Shape := ⟨2, ![8192, 4]⟩
abbrev S8192x4x1 : Shape := ⟨3, ![8192, 4, 1]⟩
abbrev S8192x4x2 : Shape := ⟨3, ![8192, 4, 2]⟩
abbrev S1024 : Shape := ⟨1, ![1024]⟩

abbrev nBuf : Space → Nat
  | .hbm => 148
  | .vmem => 0
  | .smem => 0
  | _ => 0

abbrev hbmTy0_0 (i : Nat) : BufTy := match i % 128 with
  | 0 => ⟨S8192x1024, .f32⟩
  | 1 => ⟨S1x1024, .f32⟩
  | 2 => ⟨S1x1024x2304, .f32⟩
  | 3 => ⟨S8192x512, .f32⟩
  | 4 => ⟨S8192x512, .bf16⟩
  | 5 => ⟨S8192x256, .bf16⟩
  | 6 => ⟨S8192x1024, .bf16⟩
  | 7 => ⟨S8192x1024, .f32⟩
  | 8 => ⟨S_, .f32⟩
  | 9 => ⟨S8192x2304, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S1024x2304, .f32⟩
  | 30 => ⟨S8192x2304, .f32⟩
  | 31 => ⟨S8192x2304, .f32⟩
  | 32 => ⟨S8192x512, .f32⟩
  | 33 => ⟨S8192x256, .f32⟩
  | 34 => ⟨S8192x512, .f32⟩
  | 35 => ⟨S8192x512, .f32⟩
  | 36 => ⟨S8192x512, .f32⟩
  | 37 => ⟨S8192x1024, .f32⟩
  | 38 => ⟨S8192x4x128, .f32⟩
  | 39 => ⟨S1x4x128, .f32⟩
  | 40 => ⟨S_, .f32⟩
  | 41 => ⟨S1x4x128, .f32⟩
  | 42 => ⟨S_, .f32⟩
  | 43 => ⟨S_, .f32⟩
  | 44 => ⟨S8192x4x128, .f32⟩
  | 45 => ⟨S8193x4x128, .f32⟩
  | 46 => ⟨S_, .f32⟩
  | 47 => ⟨S1x4x128, .f32⟩
  | 48 => ⟨S8192, .i32⟩
  | 49 => ⟨S8192x1, .i32⟩
  | 50 => ⟨S4, .i32⟩
  | 51 => ⟨S_, .i32⟩
  | 52 => ⟨S4, .i32⟩
  | 53 => ⟨S4, .i32⟩
  | 54 => ⟨S1x4, .i32⟩
  | 55 => ⟨S_, .i32⟩
  | 56 => ⟨S8192x1, .i32⟩
  | 57 => ⟨S8192x1, .i32⟩
  | 58 => ⟨S8192x4, .i32⟩
  | 59 => ⟨S8192x4, .i32⟩
  | 60 => ⟨S8192x4, .i32⟩
  | 61 => ⟨S_, .i32⟩
  | 62 => ⟨S8192x4, .i32⟩
  | 63 => ⟨S8192x4, .i32⟩
  | 64 => ⟨S_, .i32⟩
  | 65 => ⟨S8192x1, .i32⟩
  | 66 => ⟨S8192x1, .i32⟩
  | 67 => ⟨S8192x4, .i32⟩
  | 68 => ⟨S8192x4, .i32⟩
  | 69 => ⟨S8192x4, .f32⟩
  | 70 => ⟨S4, .i32⟩
  | 71 => ⟨S1x4, .i32⟩
  | 72 => ⟨S_, .i32⟩
  | 73 => ⟨S8192x4, .i32⟩
  | 74 => ⟨S8192x4, .i1⟩
  | 75 => ⟨S_, .i32⟩
  | 76 => ⟨S8192x4, .i32⟩
  | 77 => ⟨S8192x4, .i32⟩
  | 78 => ⟨S8192x4, .i32⟩
  | 79 => ⟨S_, .i32⟩
  | 80 => ⟨S1x4, .i32⟩
  | 81 => ⟨S1x4, .i1⟩
  | 82 => ⟨S_, .i32⟩
  | 83 => ⟨S1x4, .i32⟩
  | 84 => ⟨S1x4, .i32⟩
  | 85 => ⟨S1x4, .i32⟩
  | 86 => ⟨S8192x4, .i32⟩
  | 87 => ⟨S8192x4x1, .i32⟩
  | 88 => ⟨S8192x4x1, .i32⟩
  | 89 => ⟨S8192x4x2, .i32⟩
  | 90 => ⟨S8192x4x128, .f32⟩
  | 91 => ⟨S8192x4x128, .f32⟩
  | 92 => ⟨S8192x4x128, .f32⟩
  | 93 => ⟨S8192x4x1, .f32⟩
  | 94 => ⟨S8192x4x128, .f32⟩
  | 95 => ⟨S8192x4x128, .f32⟩
  | 96 => ⟨S8192x4x128, .f32⟩
  | 97 => ⟨S8192x512, .f32⟩
  | 98 => ⟨S8192x512, .f32⟩
  | 99 => ⟨S8192x256, .f32⟩
  | 100 => ⟨S8192x1024, .f32⟩
  | 101 => ⟨S8192x4x128, .f32⟩
  | 102 => ⟨S8192x4x128, .f32⟩
  | 103 => ⟨S8192x4x128, .f32⟩
  | 104 => ⟨S8192x4x128, .f32⟩
  | 105 => ⟨S8192x4x128, .f32⟩
  | 106 => ⟨S_, .f32⟩
  | 107 => ⟨S8193x4x128, .f32⟩
  | 108 => ⟨S_, .f32⟩
  | 109 => ⟨S8193x4x128, .f32⟩
  | 110 => ⟨S8193x4x128, .f32⟩
  | 111 => ⟨S8193x4x128, .f32⟩
  | 112 => ⟨S1x4x128, .f32⟩
  | 113 => ⟨S8192x4x128, .f32⟩
  | 114 => ⟨S_, .f32⟩
  | 115 => ⟨S_, .f32⟩
  | 116 => ⟨S8192x4x128, .f32⟩
  | 117 => ⟨S8192x4x128, .f32⟩
  | 118 => ⟨S8192x512, .f32⟩
  | 119 => ⟨S8192x512, .f32⟩
  | 120 => ⟨S8192x512, .f32⟩
  | 121 => ⟨S8192x2304, .f32⟩
  | 122 => ⟨S8192x1024, .f32⟩
  | 123 => ⟨S8192x1024, .f32⟩
  | 124 => ⟨S_, .f32⟩
  | 125 => ⟨S1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S8192, .f32⟩
  | 4 => ⟨S8192x1, .f32⟩
  | 5 => ⟨S8192x1024, .f32⟩
  | 6 => ⟨S8192x1024, .f32⟩
  | 7 => ⟨S8192x1024, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x2304, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_call0_call0_cst : Ref sig .tc := ⟨.hbm, 42, rfl⟩
abbrev main_call0_call0_v0 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_call1_call0_cst : Ref sig .tc := ⟨.hbm, 114, rfl⟩
abbrev main_call1_call0_v0 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_15 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_16 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_17 : Ref sig .tc := ⟨.hbm, 137, rfl⟩
abbrev main_v106 : Ref sig .tc := ⟨.hbm, 138, rfl⟩
abbrev main_v107 : Ref sig .tc := ⟨.hbm, 139, rfl⟩
abbrev main_cst_18 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩

abbrev nD : Nat := 1
abbrev τ : Topo := Topo.v7x

variable {F : FTy → Type} [FloatOps F]
-- ==== Kernel2.lean ====
abbrev S8192x3072 : Shape := ⟨2, ![8192, 3072]⟩
abbrev S8192x1024 : Shape := ⟨2, ![8192, 1024]⟩
abbrev S3072x1024 : Shape := ⟨2, ![3072, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x3072 : Shape := ⟨2, ![8192, 3072]⟩
abbrev S8192x1024 : Shape := ⟨2, ![8192, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2304 : Shape := ⟨2, ![8192, 2304]⟩
abbrev S8192x1024 : Shape := ⟨2, ![8192, 1024]⟩
abbrev S2304x1024 : Shape := ⟨2, ![2304, 1024]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S2304x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2304 : Shape := ⟨2, ![8192, 2304]⟩
abbrev S8192x1024 : Shape := ⟨2, ![8192, 1024]⟩
abbrev S_ : Shape := ⟨0, ![]⟩
abbrev S1024x2304 : Shape := ⟨2, ![1024, 2304]⟩
abbrev S2304x1024 : Shape := ⟨2, ![2304, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S_, .f32⟩
  | .hbm, ⟨3, _⟩ => ⟨S1024x2304, .f32⟩
  | .hbm, ⟨4, _⟩ => ⟨S8192x1024, .f32⟩
  | .hbm, ⟨5, _⟩ => ⟨S8192x2304, .f32⟩
  | .hbm, ⟨6, _⟩ => ⟨S8192x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | .hbm, ⟨10, _⟩ => ⟨S2304x1024, .bf16⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1x1024x3072 : Shape := ⟨3, ![1, 1024, 3072]⟩
abbrev S1024x3072 : Shape := ⟨2, ![1024, 3072]⟩
abbrev S3072x1024 : Shape := ⟨2, ![3072, 1024]⟩
abbrev S8192x3072 : Shape := ⟨2, ![8192, 3072]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x3072, .f32⟩
  | .hbm, ⟨3, _⟩ => ⟨S1024x3072, .f32⟩
  | .hbm, ⟨4, _⟩ => ⟨S3072x1024, .f32⟩
  | .hbm, ⟨5, _⟩ => ⟨S3072x1024, .bf16⟩
  | .hbm, ⟨6, _⟩ => ⟨S8192x1024, .bf16⟩
  | .hbm, ⟨7, _⟩ => ⟨S8192x3072, .bf16⟩
  | .hbm, ⟨8, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S3072x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x3072, .bf16⟩
  | .local _ .vmem, ⟨7, _⟩ => ⟨S1024x3072, .bf16⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x1024 : Shape := ⟨2, ![8192, 1024]⟩
abbrev S1x1024 : Shape := ⟨2, ![1, 1024]⟩
abbrev S1x1024x3072 : Shape := ⟨3, ![1, 1024, 3072]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S8192x3072 : Shape := ⟨2, ![8192, 3072]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x3072, .f32⟩
  | .hbm, ⟨19, _⟩ => ⟨S8192x3072, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x3072, .bf16⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1x1024x1024 : Shape := ⟨3, ![1, 1024, 1024]⟩
abbrev S8192x1536 : Shape := ⟨2, ![8192, 1536]⟩
abbrev S8192x512 : Shape := ⟨2, ![8192, 512]⟩
abbrev S1x4x128x128 : Shape := ⟨4, ![1, 4, 128, 128]⟩
abbrev S1x512 : Shape := ⟨2, ![1, 512]⟩
abbrev S4x128x128 : Shape := ⟨3, ![4, 128, 128]⟩
abbrev S512 : Shape := ⟨1, ![512]⟩
abbrev S_ : Shape := ⟨0, ![]⟩
abbrev S8192x4x128 : Shape := ⟨3, ![8192, 4, 128]⟩
abbrev S4x128x8192 : Shape := ⟨3, ![4, 128, 8192]⟩
abbrev S4x128 : Shape := ⟨2, ![4, 128]⟩
abbrev S1x4x128 : Shape := ⟨3, ![1, 4, 128]⟩
abbrev S1024x1024 : Shape := ⟨2, ![1024, 1024]⟩
abbrev S8x1024 : Shape := ⟨2, ![8, 1024]⟩
abbrev S8x512 : Shape := ⟨2, ![8, 512]⟩
abbrev S512x1024 : Shape := ⟨2, ![512, 1024]⟩
abbrev S512x1536 : Shape := ⟨2, ![512, 1536]⟩
abbrev S512x512 : Shape := ⟨2, ![512, 512]⟩
abbrev S512x1 : Shape := ⟨2, ![512, 1]⟩
abbrev S64x8x1024 : Shape := ⟨3, ![64, 8, 1024]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S8x128 : Shape := ⟨2, ![8, 128]⟩
abbrev S64x8x128 : Shape := ⟨3, ![64, 8, 128]⟩
abbrev S1024 : Shape := ⟨1, ![1024]⟩

abbrev nBuf : Space → Nat
  | .hbm => 62
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1024, .f32⟩
  | .hbm, ⟨3, _⟩ => ⟨S8192x1536, .bf16⟩
  | .hbm, ⟨4, _⟩ => ⟨S8192x512, .f32⟩
  | .hbm, ⟨5, _⟩ => ⟨S8192x512, .bf16⟩
  | .hbm, ⟨6, _⟩ => ⟨S1x4x128x128, .f32⟩
  | .hbm, ⟨7, _⟩ => ⟨S1x512, .f32⟩
  | .hbm, ⟨8, _⟩ => ⟨S8192x1536, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S4x128x128, .f32⟩
  | .hbm, ⟨13, _⟩ => ⟨S512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x4x128, .f32⟩
  | .hbm, ⟨25, _⟩ => ⟨S4x128x8192, .f32⟩
  | .hbm, ⟨26, _⟩ => ⟨S8192x4x128, .f32⟩
  | .hbm, ⟨27, _⟩ => ⟨S4x128, .f32⟩
  | .hbm, ⟨28, _⟩ => ⟨S1x4x128, .f32⟩
  | .hbm, ⟨29, _⟩ => ⟨S8192x4x128, .f32⟩
  | .hbm, ⟨30, _⟩ => ⟨S8192x4x128, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S1024x1024, .f32⟩
  | .hbm, ⟨46, _⟩ => ⟨S1024x1024, .bf16⟩
  | .hbm, ⟨47, _⟩ => ⟨S4x128x128, .f32⟩
  | .hbm, ⟨48, _⟩ => ⟨S8192x1024, .bf16⟩
  | .hbm, ⟨49, _⟩ => ⟨S8192x512, .bf16⟩
  | .hbm, ⟨50, _⟩ => ⟨S8192x1024, .bf16⟩
  | .hbm, ⟨51, _⟩ => ⟨S8192x512, .f32⟩
  | .hbm, ⟨52, _⟩ => ⟨S8x1024, .f32⟩
  | .hbm, ⟨53, _⟩ => ⟨S8x512, .f32⟩
  | .hbm, ⟨54, _⟩ => ⟨S4x128x128, .f32⟩
  | .hbm, ⟨55, _⟩ => ⟨S1024x1024, .bf16⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S512, .f32⟩
  | .hbm, ⟨61, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1536, .bf16⟩
  | .local _ .vmem, ⟨7, _⟩ => ⟨S512x1536, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S4x128x128, .f32⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x512, .f32⟩
  | .local _ .vmem, ⟨21, _⟩ => ⟨S512x512, .f32⟩
  | .local _ .vmem, ⟨22, _⟩ => ⟨S8x1024, .f32⟩
  | .local _ .vmem, ⟨23, _⟩ => ⟨S8x512, .f32⟩
  | .local _ .vmem, ⟨24, _⟩ => ⟨S4x128x128, .f32⟩
  | .local _ .vmem, ⟨25, _⟩ => ⟨S1024x1024, .bf16⟩
  | .local _ .vmem, ⟨26, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25_0 : Ref sig .tc := ⟨.hbm, 49, rfl⟩
abbrev main_v25_1 : Ref sig .tc := ⟨.hbm, 50, rfl⟩
abbrev main_v25_2 : Ref sig .tc := ⟨.hbm, 51, rfl⟩
abbrev main_v25_3 : Ref sig .tc := ⟨.hbm, 52, rfl⟩
abbrev main_v25_4 : Ref sig .tc := ⟨.hbm, 53, rfl⟩
abbrev main_v25_5 : Ref sig .tc := ⟨.hbm, 54, rfl⟩
abbrev main_v25_6 : Ref sig .tc := ⟨.hbm, 55, rfl⟩
abbrev main_cst : Ref sig .tc := ⟨.hbm, 56, rfl⟩
abbrev main_v26 : Ref sig .tc := ⟨.hbm, 57, rfl⟩
abbrev main_v27 : Ref sig .tc := ⟨.hbm, 58, rfl⟩
abbrev main_cst_0 : Ref sig .tc := ⟨.hbm, 59, rfl⟩
abbrev main_v28 : Ref sig .tc := ⟨.hbm, 60, rfl⟩
abbrev main_v29 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v238 : BitVec 1 := Scalar.cmpi .eq arg0 c15_i32
  let v239 : BitVec 32 := Scalar.extui v238
  let c0_i32_136 : BitVec 32 := 0#32
  let v240 : BitVec 1 := Scalar.cmpi .ne v239 c0_i32_136
  v240

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference6Ideal.lean ====
abbrev S8192x1024 : Shape := ⟨2, ![8192, 1024]⟩
abbrev S1x1024 : Shape := ⟨2, ![1, 1024]⟩
abbrev S1x1024x1024 : Shape := ⟨3, ![1, 1024, 1024]⟩
abbrev S8192x1536 : Shape := ⟨2, ![8192, 1536]⟩
abbrev S8192x512 : Shape := ⟨2, ![8192, 512]⟩
abbrev S1x4x128x128 : Shape := ⟨4, ![1, 4, 128, 128]⟩
abbrev S1x512 : Shape := ⟨2, ![1, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S8192x4x128 : Shape := ⟨3, ![8192, 4, 128]⟩
abbrev S4x128x8192 : Shape := ⟨3, ![4, 128, 8192]⟩
abbrev S4x128 : Shape := ⟨2, ![4, 128]⟩
abbrev S1x4x128 : Shape := ⟨3, ![1, 4, 128]⟩
abbrev S8192 : Shape := ⟨1, ![8192]⟩
abbrev S8192x1 : Shape := ⟨2, ![8192, 1]⟩
abbrev S1024 : Shape := ⟨1, ![1024]⟩
abbrev S4x8192x128 : Shape := ⟨3, ![4, 8192, 128]⟩

abbrev nBuf : Space → Nat
  | .hbm => 133
  | .vmem => 0
  | .smem => 0
  | _ => 0

abbrev hbmTy0_0 (i : Nat) : BufTy := match i % 128 with
  | 0 => ⟨S8192x1024, .f32⟩
  | 1 => ⟨S1x1024, .f32⟩
  | 2 => ⟨S1x1024x1024, .f32⟩
  | 3 => ⟨S8192x1536, .bf16⟩
  | 4 => ⟨S8192x512, .f32⟩
  | 5 => ⟨S8192x512, .bf16⟩
  | 6 => ⟨S1x4x128x128, .f32⟩
  | 7 => ⟨S1x512, .f32⟩
  | 8 => ⟨S8192x1536, .f32⟩
  | 9 => ⟨S8192x512, .f32⟩
  | 10 => ⟨S8192x512, .f32⟩
  | 11 => ⟨S8192x512, .f32⟩
  | 12 => ⟨S4x128x128, .f32⟩
  | 13 => ⟨S512, .f32⟩
  | 14 => ⟨S1024x1024, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x4x128, .f32⟩
  | 30 => ⟨S4x128x8192, .f32⟩
  | 31 => ⟨S8192x4x128, .f32⟩
  | 32 => ⟨S4x128, .f32⟩
  | 33 => ⟨S1x4x128, .f32⟩
  | 34 => ⟨S8192x4x128, .f32⟩
  | 35 => ⟨S8192x4x128, .f32⟩
  | 36 => ⟨S8192x512, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S8192x512, .f32⟩
  | 50 => ⟨S8192x512, .f32⟩
  | 51 => ⟨S8192x1024, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S1024, .f32⟩
  | 75 => ⟨S1x1024, .f32⟩
  | 76 => ⟨S8192x1024, .f32⟩
  | 77 => ⟨S8192x1024, .f32⟩
  | 78 => ⟨S8192x1024, .f32⟩
  | 79 => ⟨S_, .f32⟩
  | 80 => ⟨S8192, .f32⟩
  | 81 => ⟨S8192x1, .f32⟩
  | 82 => ⟨S8192x1024, .f32⟩
  | 83 => ⟨S8192x1024, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S1024x1024, .f32⟩
  | 96 => ⟨S1024x1024, .f32⟩
  | 97 => ⟨S8192x1024, .f32⟩
  | 98 => ⟨S8192x512, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x4x128, .f32⟩
  | 107 => ⟨S8192x4x128, .f32⟩
  | 108 => ⟨S_, .f32⟩
  | 109 => ⟨S4x128, .f32⟩
  | 110 => ⟨S1x4x128, .f32⟩
  | 111 => ⟨S8192x4x128, .f32⟩
  | 112 => ⟨S8192x4x128, .f32⟩
  | 113 => ⟨S_, .f32⟩
  | 114 => ⟨S4x128, .f32⟩
  | 115 => ⟨S512, .f32⟩
  | 116 => ⟨S4x128x8192, .f32⟩
  | 117 => ⟨S4x8192x128, .f32⟩
  | 118 => ⟨S8192x4x128, .f32⟩
  | 119 => ⟨S4x128x128, .f32⟩
  | 120 => ⟨S4x128x128, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x1024, .f32⟩
  | 1 => ⟨S8192x512, .bf16⟩
  | 2 => ⟨S8192x1024, .bf16⟩
  | 3 => ⟨S1x512, .f32⟩
  | 4 => ⟨S1024x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v7_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v7_1 : Ref sig .tc := ⟨.hbm, 26, rfl⟩
abbrev main_v7_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_v17_2 : Ref sig .tc := ⟨.hbm, 44, rfl⟩
abbrev main_call1_cst_1 : Ref sig .tc := ⟨.hbm, 45, rfl⟩
abbrev main_call1_v6 : Ref sig .tc := ⟨.hbm, 46, rfl⟩
abbrev main_call1_v7 : Ref sig .tc := ⟨.hbm, 47, rfl⟩
abbrev main_v17_1 : Ref sig .tc := ⟨.hbm, 48, rfl⟩
abbrev main_v17_0 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst : Ref sig .tc := ⟨.hbm, 54, rfl⟩
abbrev main_v22 : Ref sig .tc := ⟨.hbm, 55, rfl⟩
abbrev main_v23 : Ref sig .tc := ⟨.hbm, 56, rfl⟩
abbrev main_cst_0 : Ref sig .tc := ⟨.hbm, 57, rfl⟩
abbrev main_v24 : Ref sig .tc := ⟨.hbm, 58, rfl⟩
abbrev main_v25 : Ref sig .tc := ⟨.hbm, 59, rfl⟩
abbrev main_cst_1 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_2 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_3 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_4 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_5 : Ref sig .tc := ⟨.hbm, 85, rfl⟩
abbrev main_v47 : Ref sig .tc := ⟨.hbm, 86, rfl⟩
abbrev main_v48 : Ref sig .tc := ⟨.hbm, 87, rfl⟩
abbrev main_cst_6 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_7 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_8 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩

abbrev nD : Nat := 1
abbrev τ : Topo := Topo.v7x

variable {F : FTy → Type} [FloatOps F]
-- ==== Kernel7.lean ====
abbrev S1024x288 : Shape := ⟨2, ![1024, 288]⟩
abbrev S128x1024 : Shape := ⟨2, ![128, 1024]⟩
abbrev S1024x384 : Shape := ⟨2, ![1024, 384]⟩

abbrev nBuf : Space → Nat
  | .hbm => 28
  | .vmem => 28
  | .smem => 0
  | _ => 0

abbrev bufTy : (tb : Table) → Fin (tcTables nBuf tb) → BufTy
  | .hbm, ⟨0, _⟩ => ⟨S1024x288, .f32⟩
  | .hbm, ⟨1, _⟩ => ⟨S128x1024, .f32⟩
  | .hbm, ⟨2, _⟩ => ⟨S1024x384, .f32⟩
  | .hbm, ⟨3, _⟩ => ⟨S128x1024, .f32⟩
  | .hbm, ⟨4, _⟩ => ⟨S1024x288, .f32⟩
  | .hbm, ⟨5, _⟩ => ⟨S128x1024, .f32⟩
  | .hbm, ⟨6, _⟩ => ⟨S1024x384, .f32⟩
  | .hbm, ⟨7, _⟩ => ⟨S128x1024, .f32⟩
  | .hbm, ⟨8, _⟩ => ⟨S1024x288, .f32⟩
  | .hbm, ⟨9, _⟩ => ⟨S128x1024, .f32⟩
  | .hbm, ⟨10, _⟩ => ⟨S1024x384, .f32⟩
  | .hbm, ⟨11, _⟩ => ⟨S128x1024, .f32⟩
  | .hbm, ⟨12, _⟩ => ⟨S1024x288, .f32⟩
  | .hbm, ⟨13, _⟩ => ⟨S128x1024, .f32⟩
  | .hbm, ⟨14, _⟩ => ⟨S1024x384, .f32⟩
  | .hbm, ⟨15, _⟩ => ⟨S128x1024, .f32⟩
  | .hbm, ⟨16, _⟩ => ⟨S1024x288, .f32⟩
  | .hbm, ⟨17, _⟩ => ⟨S128x1024, .f32⟩
  | .hbm, ⟨18, _⟩ => ⟨S1024x384, .f32⟩
  | .hbm, ⟨19, _⟩ => ⟨S128x1024, .f32⟩
  | .hbm, ⟨20, _⟩ => ⟨S1024x288, .f32⟩
  | .hbm, ⟨21, _⟩ => ⟨S128x1024, .f32⟩
  | .hbm, ⟨22, _⟩ => ⟨S1024x384, .f32⟩
  | .hbm, ⟨23, _⟩ => ⟨S128x1024, .f32⟩
  | .hbm, ⟨24, _⟩ => ⟨S1024x288, .f32⟩
  | .hbm, ⟨25, _⟩ => ⟨S128x1024, .f32⟩
  | .hbm, ⟨26, _⟩ => ⟨S1024x384, .f32⟩
  | .hbm, ⟨27, _⟩ => ⟨S128x1024, .f32⟩
  | .local _ .vmem, ⟨0, _⟩ => ⟨S1024x288, .f32⟩
  | .local _ .vmem, ⟨1, _⟩ => ⟨S128x1024, .f32⟩
  | .local _ .vmem, ⟨2, _⟩ => ⟨S1024x384, .f32⟩
  | .local _ .vmem, ⟨3, _⟩ => ⟨S128x1024, .f32⟩
  | .local _ .vmem, ⟨4, _⟩ => ⟨S1024x288, .f32⟩
  | .local _ .vmem, ⟨5, _⟩ => ⟨S128x1024, .f32⟩
  | .local _ .vmem, ⟨6, _⟩ => ⟨S1024x384, .f32⟩
  | .local _ .vmem, ⟨7, _⟩ => ⟨S128x1024, .f32⟩
  | .local _ .vmem, ⟨8, _⟩ => ⟨S1024x288, .f32⟩
  | .local _ .vmem, ⟨9, _⟩ => ⟨S128x1024, .f32⟩
  | .local _ .vmem, ⟨10, _⟩ => ⟨S1024x384, .f32⟩
  | .local _ .vmem, ⟨11, _⟩ => ⟨S128x1024, .f32⟩
  | .local _ .vmem, ⟨12, _⟩ => ⟨S1024x288, .f32⟩
  | .local _ .vmem, ⟨13, _⟩ => ⟨S128x1024, .f32⟩
  | .local _ .vmem, ⟨14, _⟩ => ⟨S1024x384, .f32⟩
  | .local _ .vmem, ⟨15, _⟩ => ⟨S128x1024, .f32⟩
  | .local _ .vmem, ⟨16, _⟩ => ⟨S1024x288, .f32⟩
  | .local _ .vmem, ⟨17, _⟩ => ⟨S128x1024, .f32⟩
  | .local _ .vmem, ⟨18, _⟩ => ⟨S1024x384, .f32⟩
  | .local _ .vmem, ⟨19, _⟩ => ⟨S128x1024, .f32⟩
  | .local _ .vmem, ⟨20, _⟩ => ⟨S1024x288, .f32⟩
  | .local _ .vmem, ⟨21, _⟩ => ⟨S128x1024, .f32⟩
  | .local _ .vmem, ⟨22, _⟩ => ⟨S1024x384, .f32⟩
  | .local _ .vmem, ⟨23, _⟩ => ⟨S128x1024, .f32⟩
  | .local _ .vmem, ⟨24, _⟩ => ⟨S1024x288, .f32⟩
  | .local _ .vmem, ⟨25, _⟩ => ⟨S128x1024, .f32⟩
  | .local _ .vmem, ⟨26, _⟩ => ⟨S1024x384, .f32⟩
  | .local _ .vmem, ⟨27, _⟩ => ⟨S128x1024, .f32⟩
  | _, _ => ⟨S1024x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1024x288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x288 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x288 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x288 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024x288 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x384 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1024x288 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S128x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1024x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S128x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference7Ideal.lean ====
abbrev S1024x288 : Shape := ⟨2, ![1024, 288]⟩
abbrev S128x1024 : Shape := ⟨2, ![128, 1024]⟩
abbrev S1024x384 : Shape := ⟨2, ![1024, 384]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1024x288, .f32⟩
  | 1 => ⟨S128x1024, .f32⟩
  | 2 => ⟨S1024x384, .f32⟩
  | 3 => ⟨S128x1024, .f32⟩
  | 4 => ⟨S1024x288, .f32⟩
  | 5 => ⟨S128x1024, .f32⟩
  | 6 => ⟨S1024x384, .f32⟩
  | 7 => ⟨S128x1024, .f32⟩
  | 8 => ⟨S1024x288, .f32⟩
  | 9 => ⟨S128x1024, .f32⟩
  | 10 => ⟨S1024x384, .f32⟩
  | 11 => ⟨S128x1024, .f32⟩
  | 12 => ⟨S1024x288, .f32⟩
  | 13 => ⟨S128x1024, .f32⟩
  | 14 => ⟨S1024x384, .f32⟩
  | 15 => ⟨S128x1024, .f32⟩
  | 16 => ⟨S_, .f32⟩
  | 17 => ⟨S1024x288, .f32⟩
  | 18 => ⟨S1024x288, .f32⟩
  | 19 => ⟨S_, .f32⟩
  | 20 => ⟨S1024x288, .f32⟩
  | 21 => ⟨S1024x288, .f32⟩
  | 22 => ⟨S1024x288, .f32⟩
  | 23 => ⟨S_, .f32⟩
  | 24 => ⟨S1024x288, .f32⟩
  | 25 => ⟨S1024x288, .f32⟩
  | 26 => ⟨S1024x288, .f32⟩
  | 27 => ⟨S_, .f32⟩
  | 28 => ⟨S1024x288, .f32⟩
  | 29 => ⟨S1024x288, .f32⟩
  | 30 => ⟨S1024x288, .f32⟩
  | 31 => ⟨S_, .f32⟩
  | 32 => ⟨S1024x288, .f32⟩
  | 33 => ⟨S1024x288, .f32⟩
  | 34 => ⟨S_, .f32⟩
  | 35 => ⟨S1024x288, .f32⟩
  | 36 => ⟨S1024x288, .f32⟩
  | 37 => ⟨S1024x288, .f32⟩
  | 38 => ⟨S_, .f32⟩
  | 39 => ⟨S1024x288, .f32⟩
  | 40 => ⟨S1024x288, .f32⟩
  | 41 => ⟨S1024x288, .f32⟩
  | 42 => ⟨S_, .f32⟩
  | 43 => ⟨S1024x288, .f32⟩
  | 44 => ⟨S1024x288, .f32⟩
  | 45 => ⟨S1024x288, .f32⟩
  | 46 => ⟨S_, .f32⟩
  | 47 => ⟨S1024x288, .f32⟩
  | 48 => ⟨S1024x288, .f32⟩
  | 49 => ⟨S_, .f32⟩
  | 50 => ⟨S128x1024, .f32⟩
  | 51 => ⟨S128x1024, .f32⟩
  | 52 => ⟨S_, .f32⟩
  | 53 => ⟨S128x1024, .f32⟩
  | 54 => ⟨S128x1024, .f32⟩
  | 55 => ⟨S128x1024, .f32⟩
  | 56 => ⟨S_, .f32⟩
  | 57 => ⟨S128x1024, .f32⟩
  | 58 => ⟨S128x1024, .f32⟩
  | 59 => ⟨S128x1024, .f32⟩
  | 60 => ⟨S_, .f32⟩
  | 61 => ⟨S128x1024, .f32⟩
  | 62 => ⟨S128x1024, .f32⟩
  | 63 => ⟨S128x1024, .f32⟩
  | 64 => ⟨S_, .f32⟩
  | 65 => ⟨S128x1024, .f32⟩
  | 66 => ⟨S128x1024, .f32⟩
  | 67 => ⟨S_, .f32⟩
  | 68 => ⟨S128x1024, .f32⟩
  | 69 => ⟨S128x1024, .f32⟩
  | 70 => ⟨S128x1024, .f32⟩
  | 71 => ⟨S_, .f32⟩
  | 72 => ⟨S128x1024, .f32⟩
  | 73 => ⟨S128x1024, .f32⟩
  | 74 => ⟨S128x1024, .f32⟩
  | 75 => ⟨S_, .f32⟩
  | 76 => ⟨S128x1024, .f32⟩
  | 77 => ⟨S128x1024, .f32⟩
  | 78 => ⟨S128x1024, .f32⟩
  | 79 => ⟨S_, .f32⟩
  | 80 => ⟨S128x1024, .f32⟩
  | 81 => ⟨S128x1024, .f32⟩
  | 82 => ⟨S_, .f32⟩
  | 83 => ⟨S1024x384, .f32⟩
  | 84 => ⟨S1024x384, .f32⟩
  | 85 => ⟨S_, .f32⟩
  | 86 => ⟨S1024x384, .f32⟩
  | 87 => ⟨S1024x384, .f32⟩
  | 88 => ⟨S1024x384, .f32⟩
  | 89 => ⟨S_, .f32⟩
  | 90 => ⟨S1024x384, .f32⟩
  | 91 => ⟨S1024x384, .f32⟩
  | 92 => ⟨S1024x384, .f32⟩
  | 93 => ⟨S_, .f32⟩
  | 94 => ⟨S1024x384, .f32⟩
  | 95 => ⟨S1024x384, .f32⟩
  | 96 => ⟨S1024x384, .f32⟩
  | 97 => ⟨S_, .f32⟩
  | 98 => ⟨S1024x384, .f32⟩
  | 99 => ⟨S1024x384, .f32⟩
  | 100 => ⟨S_, .f32⟩
  | 101 => ⟨S1024x384, .f32⟩
  | 102 => ⟨S1024x384, .f32⟩
  | 103 => ⟨S1024x384, .f32⟩
  | 104 => ⟨S_, .f32⟩
  | 105 => ⟨S1024x384, .f32⟩
  | 106 => ⟨S1024x384, .f32⟩
  | 107 => ⟨S1024x384, .f32⟩
  | 108 => ⟨S_, .f32⟩
  | 109 => ⟨S1024x384, .f32⟩
  | 110 => ⟨S1024x384, .f32⟩
  | 111 => ⟨S1024x384, .f32⟩
  | 112 => ⟨S_, .f32⟩
  | 113 => ⟨S1024x384, .f32⟩
  | 114 => ⟨S1024x384, .f32⟩
  | 115 => ⟨S_, .f32⟩
  | 116 => ⟨S128x1024, .f32⟩
  | 117 => ⟨S128x1024, .f32⟩
  | 118 => ⟨S_, .f32⟩
  | 119 => ⟨S128x1024, .f32⟩
  | 120 => ⟨S128x1024, .f32⟩
  | 121 => ⟨S128x1024, .f32⟩
  | 122 => ⟨S_, .f32⟩
  | 123 => ⟨S128x1024, .f32⟩
  | 124 => ⟨S128x1024, .f32⟩
  | 125 => ⟨S128x1024, .f32⟩
  | 126 => ⟨S_, .f32⟩
  | 127 => ⟨S128x1024, .f32⟩
  | _ => ⟨S1024x288, .f32⟩

abbrev hbmTy0_1 (i : Nat) : BufTy := match i % 128 with
  | 0 => ⟨S128x1024, .f32⟩
  | 1 => ⟨S128x1024, .f32⟩
  | 2 => ⟨S_, .f32⟩
  | 3 => ⟨S128x1024, .f32⟩
  | 4 => ⟨S128x1024, .f32⟩
  | 5 => ⟨S_, .f32⟩
  | 6 => ⟨S128x1024, .f32⟩
  | 7 => ⟨S128x1024, .f32⟩
  | 8 => ⟨S128x1024, .f32⟩
  | 9 => ⟨S_, .f32⟩
  | 10 => ⟨S128x1024, .f32⟩
  | 11 => ⟨S128x1024, .f32⟩
  | 12 => ⟨S128x1024, .f32⟩
  | 13 => ⟨S_, .f32⟩
  | 14 => ⟨S128x1024, .f32⟩
  | 15 => ⟨S128x1024, .f32⟩
  | 16 => ⟨S128x1024, .f32⟩
  | 17 => ⟨S_, .f32⟩
  | 18 => ⟨S128x1024, .f32⟩
  | 19 => ⟨S128x1024, .f32⟩
  | _ => ⟨S1024x288, .f32⟩

abbrev hbmTy (i : Nat) : BufTy := match i / 128 with
  | 0 => hbmTy0_0 i
  | 1 => hbmTy0_1 i
  | _ => ⟨S1024x288, .f32⟩

abbrev bufTy : (tb : Table) → Fin (tcTables nBuf tb) → BufTy
  | .hbm, ⟨i, _⟩ => hbmTy i
  | _, _ => ⟨S1024x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Proof.PoolGrad.Arrays.lean ====
/-
  Arrays of two axes read at natural numbers, and the numbers that the pooling's windows bring with them.
-/
module
public import Idealize.ShloMosaic.Lib.Pipeline.Value
public import Idealize.ShloMosaic.Lib.ValueIdx
public import Idealize.ShloMosaic.Lib.Pointwise
@[expose] public section
noncomputable section
namespace PoolGrad
open Idealize.ShloMosaic

/-- An array of two axes read at two natural numbers: its element there, and zero outside of it. -/
def at2 {n0 n1 : ℕ} (A : (⟨2, ![n0, n1]⟩ : Shape).Idx → EReal) (r c : ℕ) : EReal :=
  if h : r < n0 ∧ c < n1 then A (ix2 ⟨r, h.1⟩ ⟨c, h.2⟩) else 0

/-- An element of the array is what `at2` reads at its coordinates. -/
theorem elem_eq_at2 {n0 n1 : ℕ} (A : (⟨2, ![n0, n1]⟩ : Shape).Idx → EReal) (r : Fin n0) (c : Fin n1) :
    A (ix2 r c) = at2 A r.val c.val := by
  rw [at2, dif_pos ⟨r.isLt, c.isLt⟩]

/-- The same of an index that is not given by its coordinates. -/
theorem idx_eq_at2 {n0 n1 : ℕ} (A : (⟨2, ![n0, n1]⟩ : Shape).Idx → EReal) (y : (⟨2, ![n0, n1]⟩ : Shape).Idx) :
    A y = at2 A (y 0).val (y 1).val := by
  rw [← elem_eq_at2 A (y 0) (y 1), ix2_eta]

/-- Outside of the rows there is zero. -/
theorem at2_of_row_ge {n0 n1 : ℕ} (A : (⟨2, ![n0, n1]⟩ : Shape).Idx → EReal) {r : ℕ} (h : n0 ≤ r) (c : ℕ) : at2 A r c = 0 :=
  dif_neg fun h' => absurd h'.1 (Nat.not_lt.2 h)

/-- A coordinate of an element of a box is the box's offset plus the coordinate inside it. -/
theorem unit_coord {s : Shape} (off size : Fin s.rank → ℕ) (inb) (x : (Rect.unit off size inb).shape.Idx) (a : Fin s.rank) :
    ((Rect.unit off size inb).emb x a : ℕ) = off a + x a := by
  rw [Rect.emb_apply]
  exact congrArg (off a + ·) (Nat.one_mul _)

/-- An array's element in a box. -/
theorem emb_eq_at2 {n0 n1 : ℕ} (A : (⟨2, ![n0, n1]⟩ : Shape).Idx → EReal) (off size : Fin 2 → ℕ) (inb)
    (x : (Rect.unit (s := ⟨2, ![n0, n1]⟩) off size inb).shape.Idx) :
    A ((Rect.unit (s := ⟨2, ![n0, n1]⟩) off size inb).emb x) = at2 A (off 0 + (x 0).val) (off 1 + (x 1).val) := by
  rw [← unit_coord (s := ⟨2, ![n0, n1]⟩) off size inb x 0, ← unit_coord (s := ⟨2, ![n0, n1]⟩) off size inb x 1]
  exact idx_eq_at2 A _

/-- The length of the pooling window of lane `c`: 2, 4, 8 and 16 for the four groups of 128 lanes. -/
def win (c : ℕ) : ℕ := 2 ^ (c / 128 + 1)

theorem win_pos (c : ℕ) : 0 < win c := Nat.two_pow_pos _

/-- How many rows the window of lane `c` that ends in row `r` holds. -/
def cnt (r c : ℕ) : ℕ := min (r + 1) (win c)

theorem cnt_pos (r c : ℕ) : 0 < cnt r c := Nat.lt_min.2 ⟨Nat.succ_pos r, win_pos c⟩

/-- The row count of the kernel's word arithmetic, where the block that holds the row begins in row `512 a`: the word is
    the smaller of the row's position and the window's length, read exactly. -/
theorem word_count (a r w : ℕ) (ha : a < 17) (hr : r < 512) (hw : w < 17) :
    FloatOps.sitofp (F := Ideal) FTy.f32 (IntOp.minsi (IntOp.addi (IntOp.addi (Scalar.muli (BitVec.ofNat 32 a) 512#32)
      (BitVec.ofNat 32 r)) 1#32) (BitVec.ofNat 32 w)) = (((min (512 * a + r + 1) w : ℕ) : ℝ) : EReal) := by
  have e : IntOp.addi (IntOp.addi (Scalar.muli (BitVec.ofNat 32 a) 512#32) (BitVec.ofNat 32 r)) 1#32
      = BitVec.ofNat 32 (512 * a + r + 1) := by
    show BitVec.ofNat 32 a * 512#32 + BitVec.ofNat 32 r + 1#32 = _
    apply BitVec.eq_of_toNat_eq
    simp [BitVec.toNat_add, BitVec.toNat_mul, Nat.mul_comm]
  rw [e]
  have h1 : (BitVec.ofNat 32 (512 * a + r + 1)).toInt = ((512 * a + r + 1 : ℕ) : ℤ) := by
    rw [BitVec.toInt_eq_toNat_of_lt (by rw [BitVec.toNat_ofNat]; omega), BitVec.toNat_ofNat, Nat.mod_eq_of_lt (by omega)]
  have h2 : (BitVec.ofNat 32 w).toInt = ((w : ℕ) : ℤ) := by
    rw [BitVec.toInt_eq_toNat_of_lt (by rw [BitVec.toNat_ofNat]; omega), BitVec.toNat_ofNat, Nat.mod_eq_of_lt (by omega)]
  show ((((IntOp.minsi (BitVec.ofNat 32 (512 * a + r + 1)) (BitVec.ofNat 32 w)).toInt : ℤ) : ℝ) : EReal) = _
  unfold IntOp.minsi
  rw [BitVec.slt_eq_decide, h1, h2]
  by_cases h : 512 * a + r + 1 < w
  · rw [if_pos (by rw [decide_eq_true_eq]; exact_mod_cast h), h1, min_eq_left h.le]; simp
  · rw [if_neg (by rw [decide_eq_true_eq]; exact_mod_cast h), h2, min_eq_right (Nat.not_lt.1 h)]; simp

/-- The same for the rows that follow block `a`. -/
theorem word_count_next (a r w : ℕ) (ha : a < 16) (hr : r < 512) (hw : w < 17) :
    FloatOps.sitofp (F := Ideal) FTy.f32 (IntOp.minsi (IntOp.addi (IntOp.addi (Scalar.muli (Scalar.addi (BitVec.ofNat 32 a) 1#32)
      512#32) (BitVec.ofNat 32 r)) 1#32) (BitVec.ofNat 32 w)) = (((min (512 * a + (512 + r) + 1) w : ℕ) : ℝ) : EReal) := by
  have e : Scalar.addi (BitVec.ofNat 32 a) 1#32 = BitVec.ofNat 32 (a + 1) := by
    apply BitVec.eq_of_toNat_eq
    simp [Scalar.addi, IntOp.addi, BitVec.toNat_add]
  rw [e, word_count (a + 1) r w (by omega) hr hw]
  congr 4
  omega

/-- Whether another block follows, as the kernel's word comparison tells it. -/
theorem word_not_last (a : ℕ) (ha : a < 16) :
    Scalar.cmpi .slt (BitVec.ofNat 32 a) 15#32 = if a < 15 then 1#1 else 0#1 := by
  interval_cases a <;> rfl

end PoolGrad
end
-- ==== Proof.PoolGrad.Buffer.lean ====
/-
  The kernel's scratch buffer at one grid point: the rows of the incoming pooled gradient's block and the sixteen rows
  that follow it, each divided by its window's row count.
-/
module
public import proofs.«01_k».proof.Proof.PoolGrad.Arrays
public import proofs.«01_k».proof.Proof.Gen.KernelIdeal.Frame
@[expose] public section
set_option maxRecDepth 16384
noncomputable section
namespace PoolGrad
open Cert.KernelIdeal Cert.KernelIdeal.Gen Idealize.ShloMosaic Idealize.ShloMosaic.TcCoe Idealize.SL.Sem

/-- Row `r`, lane `c` of the buffer at grid point `a`: `x0` is the block of 512 rows, `x1` the sixteen rows after it, in
    whose place there is zero at the last block. -/
def buf (a : ℕ) (x0 : Vec Ideal S512x512 .f32) (x1 : Vec Ideal S16x512 .f32) (r c : ℕ) : EReal :=
  Ideal.div (if r < 512 then at2 x0 r c else if a < 15 then at2 x1 (r - 512) c else 0) (((min (512 * a + r + 1) (win c) : ℕ) : ℝ) : EReal)

/-- The stores that fill the buffer, the last one first. -/
def fills (i : grid0.Coords) (x0 : Vec Ideal S512x512 .f32) (x1 : Vec Ideal S16x512 .f32) : List (View.Piece (Elt Ideal) S528x512 .f32) :=
  [⟨Rect.unit ![512, 384] ![16, 128] inb_S528x512_S16x128_512_384, k0_pay16 (k0_pay14 (k0_pay3 i x1)) (k0_pay15 (BitVec.ofNat 32 (i 0).val)) 1#32⟩,
   ⟨Rect.unit ![0, 384] ![512, 128] inb_S528x512_S512x128_0_384, k0_pay13 (BitVec.ofNat 32 (i 0).val) x0⟩,
   ⟨Rect.unit ![512, 256] ![16, 128] inb_S528x512_S16x128_512_256, k0_pay12 (BitVec.ofNat 32 (i 0).val) (k0_pay3 i x1)⟩,
   ⟨Rect.unit ![0, 256] ![512, 128] inb_S528x512_S512x128_0_256, k0_pay11 (k0_pay9 x0) (k0_pay10 (BitVec.ofNat 32 (i 0).val))⟩,
   ⟨Rect.unit ![512, 128] ![16, 128] inb_S528x512_S16x128_512_128, k0_pay8 (BitVec.ofNat 32 (i 0).val) (k0_pay3 i x1)⟩,
   ⟨Rect.unit ![0, 128] ![512, 128] inb_S528x512_S512x128_0_128, k0_pay7 (BitVec.ofNat 32 (i 0).val) x0⟩,
   ⟨Rect.unit ![512, 0] ![16, 128] inb_S528x512_S16x128_512_0, k0_pay6 (k0_pay5 i x1)⟩,
   ⟨Rect.unit ![0, 0] ![512, 128] inb_S528x512_S512x128_0_0, k0_pay4 i x0⟩]

theorem coord_lt (i : grid0.Coords) : (i 0).val < 16 := (i 0).isLt

/-- What the stores of the rows of the block hold, group of lanes by group of lanes. -/
theorem fill_rows (i : grid0.Coords) (x0 : Vec Ideal S512x512 .f32) (x1 : Vec Ideal S16x512 .f32) (r : Fin 512) (l : Fin 128) :
    k0_pay4 i x0 (ix2 r l) = buf (i 0).val x0 x1 r.val l.val
    ∧ k0_pay7 (BitVec.ofNat 32 (i 0).val) x0 (ix2 r l) = buf (i 0).val x0 x1 r.val (128 + l.val)
    ∧ k0_pay11 (k0_pay9 x0) (k0_pay10 (BitVec.ofNat 32 (i 0).val)) (ix2 r l) = buf (i 0).val x0 x1 r.val (256 + l.val)
    ∧ k0_pay13 (BitVec.ofNat 32 (i 0).val) x0 (ix2 r l) = buf (i 0).val x0 x1 r.val (384 + l.val) := by
  have hi := coord_lt i
  have w0 : win l.val = 2 := by rw [win, show l.val / 128 = 0 by omega]; rfl
  have w1 : win (128 + l.val) = 4 := by rw [win, show (128 + l.val) / 128 = 1 by omega]; rfl
  have w2 : win (256 + l.val) = 8 := by rw [win, show (256 + l.val) / 128 = 2 by omega]; rfl
  have w3 : win (384 + l.val) = 16 := by rw [win, show (384 + l.val) / 128 = 3 by omega]; rfl
  refine ⟨?_, ?_, ?_, ?_⟩
  · pointwise [k0_pay4]
    rw [word_count _ _ 2 (by omega) r.isLt (by omega), buf, if_pos r.isLt, w0]
    exact congrArg (Ideal.div · _) (elem_eq_at2 x0 _ _)
  · pointwise [k0_pay7]
    rw [word_count _ _ 4 (by omega) r.isLt (by omega), buf, if_pos r.isLt, w1]
    exact congrArg (Ideal.div · _) (elem_eq_at2 x0 _ _)
  · pointwise [k0_pay11, k0_pay9, k0_pay10]
    rw [word_count _ _ 8 (by omega) r.isLt (by omega), buf, if_pos r.isLt, w2]
    exact congrArg (Ideal.div · _) (elem_eq_at2 x0 _ _)
  · pointwise [k0_pay13]
    rw [word_count _ _ 16 (by omega) r.isLt (by omega), buf, if_pos r.isLt, w3]
    exact congrArg (Ideal.div · _) (elem_eq_at2 x0 _ _)

/-- What the stores of the sixteen rows after the block hold. -/
theorem fill_next (i : grid0.Coords) (x0 : Vec Ideal S512x512 .f32) (x1 : Vec Ideal S16x512 .f32) (r : Fin 16) (l : Fin 128) :
    k0_pay6 (k0_pay5 i x1) (ix2 r l) = buf (i 0).val x0 x1 (512 + r.val) l.val
    ∧ k0_pay8 (BitVec.ofNat 32 (i 0).val) (k0_pay3 i x1) (ix2 r l) = buf (i 0).val x0 x1 (512 + r.val) (128 + l.val)
    ∧ k0_pay12 (BitVec.ofNat 32 (i 0).val) (k0_pay3 i x1) (ix2 r l) = buf (i 0).val x0 x1 (512 + r.val) (256 + l.val)
    ∧ k0_pay16 (k0_pay14 (k0_pay3 i x1)) (k0_pay15 (BitVec.ofNat 32 (i 0).val)) 1#32 (ix2 r l) = buf (i 0).val x0 x1 (512 + r.val) (384 + l.val) := by
  have hi := coord_lt i
  have hr : r.val < 512 := by omega
  have hn : ¬ 512 + r.val < 512 := by omega
  have hs : 512 + r.val - 512 = r.val := by omega
  have w0 : win l.val = 2 := by rw [win, show l.val / 128 = 0 by omega]; rfl
  have w1 : win (128 + l.val) = 4 := by rw [win, show (128 + l.val) / 128 = 1 by omega]; rfl
  have w2 : win (256 + l.val) = 8 := by rw [win, show (256 + l.val) / 128 = 2 by omega]; rfl
  have w3 : win (384 + l.val) = 16 := by rw [win, show (384 + l.val) / 128 = 3 by omega]; rfl
  have hsel : ∀ z : EReal, Scalar.select (if (i 0).val < 15 then 1#1 else 0#1) z (0 : EReal) = if (i 0).val < 15 then z else 0 := by
    intro z; split <;> rfl
  refine ⟨?_, ?_, ?_, ?_⟩
  · pointwise [k0_pay6, k0_pay5, k0_pay3]
    rw [word_count_next _ _ 2 hi hr (by omega), buf, if_neg hn, hs, w0]
    refine congrArg (Ideal.div · _) ?_
    rw [word_not_last _ hi, hsel]
    exact congrArg (fun z : EReal => if (i 0).val < 15 then z else 0) (elem_eq_at2 x1 _ _)
  · pointwise [k0_pay8, k0_pay3]
    rw [word_count_next _ _ 4 hi hr (by omega), buf, if_neg hn, hs, w1]
    refine congrArg (Ideal.div · _) ?_
    rw [word_not_last _ hi, hsel]
    exact congrArg (fun z : EReal => if (i 0).val < 15 then z else 0) (elem_eq_at2 x1 _ _)
  · pointwise [k0_pay12, k0_pay3]
    rw [word_count_next _ _ 8 hi hr (by omega), buf, if_neg hn, hs, w2]
    refine congrArg (Ideal.div · _) ?_
    rw [word_not_last _ hi, hsel]
    exact congrArg (fun z : EReal => if (i 0).val < 15 then z else 0) (elem_eq_at2 x1 _ _)
  · pointwise [k0_pay16, k0_pay14, k0_pay15, k0_pay3]
    rw [word_count_next _ _ 16 hi hr (by omega), buf, if_neg hn, hs, w3]
    refine congrArg (Ideal.div · _) ?_
    rw [word_not_last _ hi, hsel]
    exact congrArg (fun z : EReal => if (i 0).val < 15 then z else 0) (elem_eq_at2 x1 _ _)

/-- The stores leave `buf` in the buffer. -/
theorem fills_read (i : grid0.Coords) (x0 : Vec Ideal S512x512 .f32) (x1 : Vec Ideal S16x512 .f32) (y : S528x512.Idx) :
    View.canon (fills i x0 x1) y = buf (i 0).val x0 x1 (y 0).val (y 1).val := by
  refine View.canon_apply_of_pieces (fun y : S528x512.Idx => buf (i 0).val x0 x1 (y 0).val (y 1).val) (fills i x0 x1) ?_ y ?_
  · intro p hp
    simp only [fills, List.mem_cons, List.not_mem_nil, or_false] at hp
    rcases hp with rfl | rfl | rfl | rfl | rfl | rfl | rfl | rfl <;> intro x <;>
      simp only [unit_coord, Matrix.cons_val_zero, Matrix.cons_val_one, Nat.zero_add]
    · exact (congrArg _ (eq_ix2 (n0 := 16) (n1 := 128) x)).trans (fill_next i x0 x1 (x 0) (x 1)).2.2.2
    · exact (congrArg _ (eq_ix2 (n0 := 512) (n1 := 128) x)).trans (fill_rows i x0 x1 (x 0) (x 1)).2.2.2
    · exact (congrArg _ (eq_ix2 (n0 := 16) (n1 := 128) x)).trans (fill_next i x0 x1 (x 0) (x 1)).2.2.1
    · exact (congrArg _ (eq_ix2 (n0 := 512) (n1 := 128) x)).trans (fill_rows i x0 x1 (x 0) (x 1)).2.2.1
    · exact (congrArg _ (eq_ix2 (n0 := 16) (n1 := 128) x)).trans (fill_next i x0 x1 (x 0) (x 1)).2.1
    · exact (congrArg _ (eq_ix2 (n0 := 512) (n1 := 128) x)).trans (fill_rows i x0 x1 (x 0) (x 1)).2.1
    · exact (congrArg _ (eq_ix2 (n0 := 16) (n1 := 128) x)).trans (fill_next i x0 x1 (x 0) (x 1)).1
    · exact (congrArg _ (eq_ix2 (n0 := 512) (n1 := 128) x)).trans (fill_rows i x0 x1 (x 0) (x 1)).1
  · have h0 : (y 0).val < 528 := (y 0).isLt
    have h1 : (y 1).val < 512 := (y 1).isLt
    simp only [fills, List.exists_mem_cons_iff, Rect.mem_set_unit, Fin.forall_fin_two, Matrix.cons_val_zero, Matrix.cons_val_one]
    simp only [List.not_mem_nil, false_and, exists_false, or_false]
    omega

end PoolGrad
end
-- ==== Proof.PoolGrad.Tile.lean ====
/-
  The rows of the projection's gradient that the kernel writes at one grid point.
-/
module
public import proofs.«01_k».proof.Proof.PoolGrad.Buffer
@[expose] public section
set_option maxRecDepth 16384
noncomputable section
namespace PoolGrad
open Cert.KernelIdeal Cert.KernelIdeal.Gen Idealize.ShloMosaic Idealize.ShloMosaic.TcCoe Idealize.SL.Sem

variable (i : grid0.Coords) (x0 : Vec Ideal S512x512 .f32) (x1 : Vec Ideal S16x512 .f32) (x2 : Vec Ideal S512x512 .bf16)
  (x3 : Vec Ideal S512x256 .bf16) (x4 : Vec Ideal S512x1024 .bf16)

/-- A load of 512 rows and one group of lanes of the filled buffer. -/
def rd (off : Fin 2 → ℕ) (hb : ∀ a, off a + S512x128.size a ≤ S528x512.size a) : Vec Ideal S512x128 .f32 :=
  (View.whole (sig := sig) cc0_scratch0).readCov (fills i x0 x1) (Rect.unit (s := S528x512) off S512x128.size hb).toLoadRect

theorem rd_apply (off : Fin 2 → ℕ) (hb : ∀ a, off a + S512x128.size a ≤ S528x512.size a) (r : Fin 512) (l : Fin 128) :
    rd i x0 x1 off hb (ix2 r l) = buf (i 0).val x0 x1 (off 0 + r.val) (off 1 + l.val) := by
  rw [rd, View.readCov_eq_canon']
  exact (fills_read i x0 x1 _).trans (congrArg₂ (buf (i 0).val x0 x1)
    (unit_coord (s := S528x512) off S512x128.size hb (ix2 r l) 0) (unit_coord (s := S528x512) off S512x128.size hb (ix2 r l) 1))

/-- The gradient of the pooling's input in row `r` of the block and lane `c`: the sum of the window's rows of the buffer
    from row `r` on, less the block's own element. -/
def poolTile (a : ℕ) (r c : ℕ) : EReal := (∑ k ∈ Finset.range (win c), buf a x0 x1 (r + k) c) - at2 x0 r c

/-- Row `r`, column `c` of what the kernel writes of the projection's gradient. -/
def projTile (a : ℕ) (r c : ℕ) : EReal :=
  if c < 512 then at2 x2 r c else if c < 768 then at2 x3 r (c - 512) else if c < 1280 then at2 x4 r (c - 768)
  else if c < 1792 then poolTile x0 x1 a r (c - 1280) else at2 x4 r (c - 1280)

/-- The four groups of lanes of the pooling's gradient. -/
theorem pool_groups (r : Fin 512) (l : Fin 128) :
    k0_pay17 x0 (rd i x0 x1 ![0, 0] inb_S528x512_S512x128_0_0) (rd i x0 x1 ![1, 0] inb_S528x512_S512x128_1_0) (ix2 r l) = poolTile x0 x1 (i 0).val r.val l.val
    ∧ k0_pay18 x0 (rd i x0 x1 ![0, 128] inb_S528x512_S512x128_0_128) (rd i x0 x1 ![1, 128] inb_S528x512_S512x128_1_128) (rd i x0 x1 ![2, 128] inb_S528x512_S512x128_2_128) (rd i x0 x1 ![3, 128] inb_S528x512_S512x128_3_128) (ix2 r l) = poolTile x0 x1 (i 0).val r.val (128 + l.val)
    ∧ k0_pay20 x0 (k0_pay19 (rd i x0 x1 ![0, 256] inb_S528x512_S512x128_0_256) (rd i x0 x1 ![1, 256] inb_S528x512_S512x128_1_256)) (rd i x0 x1 ![2, 256] inb_S528x512_S512x128_2_256) (rd i x0 x1 ![3, 256] inb_S528x512_S512x128_3_256) (rd i x0 x1 ![4, 256] inb_S528x512_S512x128_4_256) (rd i x0 x1 ![5, 256] inb_S528x512_S512x128_5_256) (rd i x0 x1 ![6, 256] inb_S528x512_S512x128_6_256) (rd i x0 x1 ![7, 256] inb_S528x512_S512x128_7_256) (ix2 r l) = poolTile x0 x1 (i 0).val r.val (256 + l.val)
    ∧ k0_pay22 x0 (k0_pay21 (rd i x0 x1 ![0, 384] inb_S528x512_S512x128_0_384) (rd i x0 x1 ![1, 384] inb_S528x512_S512x128_1_384) (rd i x0 x1 ![2, 384] inb_S528x512_S512x128_2_384) (rd i x0 x1 ![3, 384] inb_S528x512_S512x128_3_384) (rd i x0 x1 ![4, 384] inb_S528x512_S512x128_4_384) (rd i x0 x1 ![5, 384] inb_S528x512_S512x128_5_384) (rd i x0 x1 ![6, 384] inb_S528x512_S512x128_6_384) (rd i x0 x1 ![7, 384] inb_S528x512_S512x128_7_384)) (rd i x0 x1 ![8, 384] inb_S528x512_S512x128_8_384) (rd i x0 x1 ![9, 384] inb_S528x512_S512x128_9_384) (rd i x0 x1 ![10, 384] inb_S528x512_S512x128_10_384) (rd i x0 x1 ![11, 384] inb_S528x512_S512x128_11_384) (rd i x0 x1 ![12, 384] inb_S528x512_S512x128_12_384) (rd i x0 x1 ![13, 384] inb_S528x512_S512x128_13_384) (rd i x0 x1 ![14, 384] inb_S528x512_S512x128_14_384) (rd i x0 x1 ![15, 384] inb_S528x512_S512x128_15_384) (ix2 r l) = poolTile x0 x1 (i 0).val r.val (384 + l.val) := by
  have w0 : win l.val = 2 := by rw [win, show l.val / 128 = 0 by omega]; rfl
  have w1 : win (128 + l.val) = 4 := by rw [win, show (128 + l.val) / 128 = 1 by omega]; rfl
  have w2 : win (256 + l.val) = 8 := by rw [win, show (256 + l.val) / 128 = 2 by omega]; rfl
  have w3 : win (384 + l.val) = 16 := by rw [win, show (384 + l.val) / 128 = 3 by omega]; rfl
  refine ⟨?_, ?_, ?_, ?_⟩
  · pointwise [k0_pay17]
    simp only [rd_apply, poolTile, w0, Finset.sum_range_succ, Finset.sum_range_zero, zero_add, Matrix.cons_val_zero, Matrix.cons_val_one]
    simp only [Nat.add_comm r.val, Nat.zero_add]
    exact congrArg (_ - ·) (elem_eq_at2 x0 _ _)
  · pointwise [k0_pay18]
    simp only [rd_apply, poolTile, w1, Finset.sum_range_succ, Finset.sum_range_zero, zero_add, Matrix.cons_val_zero, Matrix.cons_val_one]
    simp only [Nat.add_comm r.val, Nat.zero_add]
    exact congrArg (_ - ·) (elem_eq_at2 x0 _ _)
  · pointwise [k0_pay20, k0_pay19]
    simp only [rd_apply, poolTile, w2, Finset.sum_range_succ, Finset.sum_range_zero, zero_add, Matrix.cons_val_zero, Matrix.cons_val_one]
    simp only [Nat.add_comm r.val, Nat.zero_add]
    exact congrArg (_ - ·) (elem_eq_at2 x0 _ _)
  · pointwise [k0_pay22, k0_pay21]
    simp only [rd_apply, poolTile, w3, Finset.sum_range_succ, Finset.sum_range_zero, zero_add, Matrix.cons_val_zero, Matrix.cons_val_one]
    simp only [Nat.add_comm r.val, Nat.zero_add]
    exact congrArg (_ - ·) (elem_eq_at2 x0 _ _)

/-- The stores of the projection's gradient, the last one first. -/
def stores : List (View.Piece (Elt Ideal) S512x2304 .bf16) :=
  [⟨Rect.unit ![0, 1792] ![512, 512] inb_S512x2304_S512x512_0_1792, View.ld x4 (Rect.unit ![0, 512] ![512, 512] inb_S512x1024_S512x512_0_512)⟩,
   ⟨Rect.unit ![0, 768] ![512, 512] inb_S512x2304_S512x512_0_768, View.ld x4 (Rect.unit ![0, 0] ![512, 512] inb_S512x1024_S512x512_0_0)⟩,
   ⟨Rect.unit ![0, 512] ![512, 256] inb_S512x2304_S512x256_0_512, View.ld x3 (Rect.unit ![0, 0] ![512, 256] inb_S512x256_S512x256_0_0)⟩,
   ⟨Rect.unit ![0, 0] ![512, 512] inb_S512x2304_S512x512_0_0, View.ld x2 (Rect.unit ![0, 0] ![512, 512] inb_S512x512_S512x512_0_0)⟩,
   ⟨Rect.unit ![0, 1664] ![512, 128] inb_S512x2304_S512x128_0_1664, k0_pay22 x0 (k0_pay21 (rd i x0 x1 ![0, 384] inb_S528x512_S512x128_0_384) (rd i x0 x1 ![1, 384] inb_S528x512_S512x128_1_384) (rd i x0 x1 ![2, 384] inb_S528x512_S512x128_2_384) (rd i x0 x1 ![3, 384] inb_S528x512_S512x128_3_384) (rd i x0 x1 ![4, 384] inb_S528x512_S512x128_4_384) (rd i x0 x1 ![5, 384] inb_S528x512_S512x128_5_384) (rd i x0 x1 ![6, 384] inb_S528x512_S512x128_6_384) (rd i x0 x1 ![7, 384] inb_S528x512_S512x128_7_384)) (rd i x0 x1 ![8, 384] inb_S528x512_S512x128_8_384) (rd i x0 x1 ![9, 384] inb_S528x512_S512x128_9_384) (rd i x0 x1 ![10, 384] inb_S528x512_S512x128_10_384) (rd i x0 x1 ![11, 384] inb_S528x512_S512x128_11_384) (rd i x0 x1 ![12, 384] inb_S528x512_S512x128_12_384) (rd i x0 x1 ![13, 384] inb_S528x512_S512x128_13_384) (rd i x0 x1 ![14, 384] inb_S528x512_S512x128_14_384) (rd i x0 x1 ![15, 384] inb_S528x512_S512x128_15_384)⟩,
   ⟨Rect.unit ![0, 1536] ![512, 128] inb_S512x2304_S512x128_0_1536, k0_pay20 x0 (k0_pay19 (rd i x0 x1 ![0, 256] inb_S528x512_S512x128_0_256) (rd i x0 x1 ![1, 256] inb_S528x512_S512x128_1_256)) (rd i x0 x1 ![2, 256] inb_S528x512_S512x128_2_256) (rd i x0 x1 ![3, 256] inb_S528x512_S512x128_3_256) (rd i x0 x1 ![4, 256] inb_S528x512_S512x128_4_256) (rd i x0 x1 ![5, 256] inb_S528x512_S512x128_5_256) (rd i x0 x1 ![6, 256] inb_S528x512_S512x128_6_256) (rd i x0 x1 ![7, 256] inb_S528x512_S512x128_7_256)⟩,
   ⟨Rect.unit ![0, 1408] ![512, 128] inb_S512x2304_S512x128_0_1408, k0_pay18 x0 (rd i x0 x1 ![0, 128] inb_S528x512_S512x128_0_128) (rd i x0 x1 ![1, 128] inb_S528x512_S512x128_1_128) (rd i x0 x1 ![2, 128] inb_S528x512_S512x128_2_128) (rd i x0 x1 ![3, 128] inb_S528x512_S512x128_3_128)⟩,
   ⟨Rect.unit ![0, 1280] ![512, 128] inb_S512x2304_S512x128_0_1280, k0_pay17 x0 (rd i x0 x1 ![0, 0] inb_S528x512_S512x128_0_0) (rd i x0 x1 ![1, 0] inb_S528x512_S512x128_1_0)⟩]

theorem stores_read (y : S512x2304.Idx) :
    View.canon (stores i x0 x1 x2 x3 x4) y = projTile x0 x1 x2 x3 x4 (i 0).val (y 0).val (y 1).val := by
  refine View.canon_apply_of_pieces (fun y : S512x2304.Idx => projTile x0 x1 x2 x3 x4 (i 0).val (y 0).val (y 1).val)
    (stores i x0 x1 x2 x3 x4) ?_ y ?_
  · intro p hp
    simp only [stores, List.mem_cons, List.not_mem_nil, or_false] at hp
    rcases hp with rfl | rfl | rfl | rfl | rfl | rfl | rfl | rfl <;> intro x <;>
      simp only [unit_coord, Matrix.cons_val_zero, Matrix.cons_val_one, Nat.zero_add]
    · have h : (x 1).val < 512 := (x 1).isLt
      refine (emb_eq_at2 x4 ![0, 512] ![512, 512] inb_S512x1024_S512x512_0_512 x).trans ?_
      rw [projTile, if_neg (by omega), if_neg (by omega), if_neg (by omega), if_neg (by omega)]
      exact congrArg₂ (at2 x4) (Nat.zero_add _) (by show 512 + _ = 1792 + _ - 1280; omega)
    · have h : (x 1).val < 512 := (x 1).isLt
      refine (emb_eq_at2 x4 ![0, 0] ![512, 512] inb_S512x1024_S512x512_0_0 x).trans ?_
      rw [projTile, if_neg (by omega), if_neg (by omega), if_pos (by omega)]
      exact congrArg₂ (at2 x4) (Nat.zero_add _) (by show 0 + _ = 768 + _ - 768; omega)
    · have h : (x 1).val < 256 := (x 1).isLt
      refine (emb_eq_at2 x3 ![0, 0] ![512, 256] inb_S512x256_S512x256_0_0 x).trans ?_
      rw [projTile, if_neg (by omega), if_pos (by omega)]
      exact congrArg₂ (at2 x3) (Nat.zero_add _) (by show 0 + _ = 512 + _ - 512; omega)
    · have h : (x 1).val < 512 := (x 1).isLt
      refine (emb_eq_at2 x2 ![0, 0] ![512, 512] inb_S512x512_S512x512_0_0 x).trans ?_
      rw [projTile, if_pos (by omega)]
      exact congrArg₂ (at2 x2) (Nat.zero_add _) (Nat.zero_add _)
    · have h : (x 1).val < 128 := (x 1).isLt
      rw [projTile, if_neg (by omega), if_neg (by omega), if_neg (by omega), if_pos (by omega), show 1664 + (x 1).val - 1280 = 384 + (x 1).val by omega]
      exact (congrArg _ (eq_ix2 (n0 := 512) (n1 := 128) x)).trans (pool_groups i x0 x1 (x 0) (x 1)).2.2.2
    · have h : (x 1).val < 128 := (x 1).isLt
      rw [projTile, if_neg (by omega), if_neg (by omega), if_neg (by omega), if_pos (by omega), show 1536 + (x 1).val - 1280 = 256 + (x 1).val by omega]
      exact (congrArg _ (eq_ix2 (n0 := 512) (n1 := 128) x)).trans (pool_groups i x0 x1 (x 0) (x 1)).2.2.1
    · have h : (x 1).val < 128 := (x 1).isLt
      rw [projTile, if_neg (by omega), if_neg (by omega), if_neg (by omega), if_pos (by omega), show 1408 + (x 1).val - 1280 = 128 + (x 1).val by omega]
      exact (congrArg _ (eq_ix2 (n0 := 512) (n1 := 128) x)).trans (pool_groups i x0 x1 (x 0) (x 1)).2.1
    · have h : (x 1).val < 128 := (x 1).isLt
      rw [projTile, if_neg (by omega), if_neg (by omega), if_neg (by omega), if_pos (by omega), show 1280 + (x 1).val - 1280 = (x 1).val by omega]
      exact (congrArg _ (eq_ix2 (n0 := 512) (n1 := 128) x)).trans (pool_groups i x0 x1 (x 0) (x 1)).1
  · have h0 : (y 0).val < 512 := (y 0).isLt
    have h1 : (y 1).val < 2304 := (y 1).isLt
    simp only [stores, List.exists_mem_cons_iff, Rect.mem_set_unit, Fin.forall_fin_two, Matrix.cons_val_zero, Matrix.cons_val_one]
    simp only [List.not_mem_nil, false_and, exists_false, or_false]
    omega

end PoolGrad
end
-- ==== Proof.PoolGrad.Norm.lean ====
/-
  The gradient of the root-mean-square norm as the kernel writes it, of rows given as functions of natural numbers, and
  the kernel's arithmetic at one grid point read at an element.
-/
module
public import proofs.«01_k».proof.Proof.PoolGrad.Tile
@[expose] public section
set_option maxRecDepth 16384
noncomputable section
namespace PoolGrad
open Cert.KernelIdeal Cert.KernelIdeal.Gen Idealize.ShloMosaic Idealize.ShloMosaic.TcCoe Idealize.SL.Sem

/-- The number of columns of the norm, as the literal that both programs divide by. -/
def nCols : EReal := Ideal.ofBits FTy.f32 1149239296#32
/-- The norm's epsilon, as the literal that both programs add. -/
def nEps : EReal := Ideal.ofBits FTy.f32 897988541#32

/-- The gradient of the normalised rows: the projection's gradient `P` times the transposed weights `W`. -/
def dHid (P W : ℕ → ℕ → EReal) (r j : ℕ) : EReal := ∑ k : Fin 2304, P r k.val * W k.val j

/-- The mean of the squares of row `r`, with epsilon. -/
def meanSq (X : ℕ → ℕ → EReal) (r : ℕ) : EReal := Ideal.div (∑ k : Fin 1024, X r k.val * X r k.val) nCols + nEps

/-- The reciprocal root of it. -/
def rms (X : ℕ → ℕ → EReal) (r : ℕ) : EReal := Ideal.rsqrt (meanSq X r)

/-- The gradient of the norm's input plus what arrives on the residual, as the kernel writes it. -/
def dInput (P W X G D : ℕ → ℕ → EReal) (r j : ℕ) : EReal :=
  D r j + (rms X r * (dHid P W r j * G 0 j)
    - X r j * (rms X r * rms X r * rms X r) * Ideal.div (∑ k : Fin 1024, X r k.val * (dHid P W r k.val * G 0 k.val)) nCols)

/-- The contribution of row `r` to the gradient of the norm's gain. -/
def dGain (P W X : ℕ → ℕ → EReal) (r j : ℕ) : EReal := dHid P W r j * (X r j * rms X r)

/-- Shifting the rows of the gradient, the input and the residual shifts the result's rows. -/
theorem dInput_shift (P P' W X X' G D D' : ℕ → ℕ → EReal) (r r' : ℕ) (hP : P r = P' r') (hX : X r = X' r') (hD : D r = D' r') (j : ℕ) :
    dInput P W X G D r j = dInput P' W X' G D' r' j := by
  simp only [dInput, rms, meanSq, dHid, hP, hX, hD]

theorem dGain_shift (P P' W X X' : ℕ → ℕ → EReal) (r r' : ℕ) (hP : P r = P' r') (hX : X r = X' r') (j : ℕ) :
    dGain P W X r j = dGain P' W X' r' j := by
  simp only [dGain, rms, meanSq, dHid, hP, hX]

variable (p : Vec Ideal S512x2304 .bf16) (w : Vec Ideal S2304x1024 .bf16) (x : Vec Ideal S512x1024 .f32) (g : Vec Ideal S1x1024 .f32)
  (d : Vec Ideal S512x1024 .f32)

/-- The block of the input's gradient. -/
theorem block_input (r : Fin 512) (j : Fin 1024) :
    k0_pay26 p w x g d (ix2 r j) = dInput (at2 p) (at2 w) (at2 x) (at2 g) (at2 d) r.val j.val := by
  pointwise [k0_pay26, k0_pay23, k0_pay24]
  simp only [elem_eq_at2 p, elem_eq_at2 w, elem_eq_at2 x, elem_eq_at2 g, elem_eq_at2 d]
  rfl

/-- The block of the gain's contributions. -/
theorem block_gain (r : Fin 512) (j : Fin 1024) :
    k0_pay25 p w x (ix2 r j) = dGain (at2 p) (at2 w) (at2 x) r.val j.val := by
  pointwise [k0_pay25, k0_pay23, k0_pay24]
  simp only [elem_eq_at2 p, elem_eq_at2 w, elem_eq_at2 x]
  rfl

/-- The kernel adds the block's rows to eight running rows, row `q` of the block to running row `q mod 8`. -/
theorem block_rows8 (v : FVec Ideal S512x1024 .f32) (a : Vec Ideal S8x1024 .f32) (s : Fin 8) (j : Fin 1024) :
    k0_pay1 v a (ix2 s j) = at2 a s.val j.val + ∑ q : Fin 64, at2 v (q.val * 8 + s.val) j.val := by
  pointwise [k0_pay1]
  rw [elem_eq_at2 a]
  exact congrArg _ (Finset.sum_congr rfl fun q _ => elem_eq_at2 v _ _)

end PoolGrad
end
-- ==== Proof.PoolGrad.Points.lean ====
/-
  What one grid point leaves in the three result blocks.
-/
module
public import proofs.«01_k».proof.Proof.PoolGrad.Norm
@[expose] public section
set_option maxRecDepth 16384
noncomputable section
namespace PoolGrad
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ) (c : Dev nD)

/-- The block of the projection's gradient of point `t`, from the blocks that the point reads. -/
def projBlk (t : Fin cfg0.N) : Vec Ideal S512x2304 .bf16 :=
  fun y => projTile (iblk m c 0 t) (iblk m c 1 t) (iblk m c 2 t) (iblk m c 3 t) (iblk m c 4 t) (grid0.coords t 0).val (y 0).val (y 1).val

/-- Loading a whole array returns it. -/
theorem ld_whole {e : EltTy} {n0 n1 : ℕ} (A : (⟨2, ![n0, n1]⟩ : Shape).Idx → Elt Ideal e) (inb) :
    View.ld A (Rect.unit (s := ⟨2, ![n0, n1]⟩) ![0, 0] ![n0, n1] inb) = A := by
  funext y
  refine congrArg A (?_ : (Rect.unit (s := ⟨2, ![n0, n1]⟩) ![0, 0] ![n0, n1] inb).emb y = y)
  funext a
  apply Fin.ext
  refine (unit_coord (s := ⟨2, ![n0, n1]⟩) ![0, 0] ![n0, n1] inb y a).trans ?_
  fin_cases a <;> simp

/-- What one store of a whole array leaves. -/
theorem canon_whole {e : EltTy} {n0 n1 : ℕ} (inb) (A : (⟨2, ![n0, n1]⟩ : Shape).Idx → Elt Ideal e)
    (L : List (View.Piece (Elt Ideal) (⟨2, ![n0, n1]⟩ : Shape) e)) :
    View.canon (⟨Rect.unit (s := ⟨2, ![n0, n1]⟩) ![0, 0] ![n0, n1] inb, A⟩ :: L) = A := by
  funext y
  have h := View.canon_cons_emb (Rect.unit (s := ⟨2, ![n0, n1]⟩) ![0, 0] ![n0, n1] inb) A L y
  rw [← h]
  refine congrArg _ ?_
  funext a
  apply Fin.ext
  refine Eq.symm ((unit_coord (s := ⟨2, ![n0, n1]⟩) ![0, 0] ![n0, n1] inb y a).trans ?_)
  fin_cases a <;> simp

/-- The stores of the projection's gradient at point `t` leave that block. -/
theorem stores_point (t : Fin cfg0.N) :
    View.canon (stores (grid0.coords t) (View.ld (iblk m c 0 t) (Rect.unit (s := S512x512) ![0, 0] S512x512.size inb_S512x512_S512x512_0_0))
      (View.ld (iblk m c 1 t) (Rect.unit (s := S16x512) ![0, 0] S16x512.size inb_S16x512_S16x512_0_0)) (iblk m c 2 t) (iblk m c 3 t) (iblk m c 4 t))
      = projBlk m c t := by
  funext y
  rw [stores_read, ld_whole (n0 := 512) (n1 := 512) (e := .f32), ld_whole (n0 := 16) (n1 := 512) (e := .f32)]
  rfl

/-- The whole block loaded back after those stores. -/
theorem stores_load (t : Fin cfg0.N) :
    (ms0_9 t).view.readCov (stores (grid0.coords t) (View.ld (iblk m c 0 t) (Rect.unit (s := S512x512) ![0, 0] S512x512.size inb_S512x512_S512x512_0_0))
      (View.ld (iblk m c 1 t) (Rect.unit (s := S16x512) ![0, 0] S16x512.size inb_S16x512_S16x512_0_0)) (iblk m c 2 t) (iblk m c 3 t) (iblk m c 4 t))
      (Rect.unit (s := S512x2304) ![0, 0] S512x2304.size inb_S512x2304_S512x2304_0_0).toLoadRect = projBlk m c t := by
  rw [View.readCov_eq_canon', stores_point]
  exact ld_whole (e := .bf16) (projBlk m c t) inb_S512x2304_S512x2304_0_0

/-- The block of the input's gradient of point `t`. -/
def inputBlk (t : Fin cfg0.N) : Vec Ideal S512x1024 .f32 :=
  k0_pay26 (projBlk m c t) (iblk m c 5 t) (iblk m c 6 t) (iblk m c 7 t) (iblk m c 8 t)

/-- The block of the gain's contributions of point `t`. -/
def gainBlk (t : Fin cfg0.N) : FVec Ideal S512x1024 .f32 := k0_pay25 (projBlk m c t) (iblk m c 5 t) (iblk m c 6 t)

theorem input_term (t : Fin cfg0.N) (y : S512x1024.Idx) (P : Vec Ideal S512x2304 .bf16) (hP : P = projBlk m c t) :
    View.canon (Val := Elt Ideal) (s := S512x1024) (e := .f32) [⟨Rect.unit (s := S512x1024) ![0, 0] S512x1024.size inb_S512x1024_S512x1024_0_0,
      k0_pay26 P (View.ld (iblk m c 5 t) (Rect.unit (s := S2304x1024) ![0, 0] S2304x1024.size inb_S2304x1024_S2304x1024_0_0))
        (View.ld (iblk m c 6 t) (Rect.unit (s := S512x1024) ![0, 0] S512x1024.size inb_S512x1024_S512x1024_0_0))
        (View.ld (iblk m c 7 t) (Rect.unit (s := S1x1024) ![0, 0] S1x1024.size inb_S1x1024_S1x1024_0_0))
        (View.ld (iblk m c 8 t) (Rect.unit (s := S512x1024) ![0, 0] S512x1024.size inb_S512x1024_S512x1024_0_0))⟩] y = inputBlk m c t y := by
  subst hP
  rw [canon_whole (e := .f32) (n0 := 512) (n1 := 1024), ld_whole (e := .bf16) (n0 := 2304) (n1 := 1024), ld_whole (e := .f32) (n0 := 512) (n1 := 1024),
    ld_whole (e := .f32) (n0 := 1) (n1 := 1024), ld_whole (e := .f32) (n0 := 512) (n1 := 1024)]
  rfl

theorem gain_term (t : Fin cfg0.N) (P : Vec Ideal S512x2304 .bf16) (hP : P = projBlk m c t) :
    k0_pay25 P (View.ld (iblk m c 5 t) (Rect.unit (s := S2304x1024) ![0, 0] S2304x1024.size inb_S2304x1024_S2304x1024_0_0))
        (View.ld (iblk m c 6 t) (Rect.unit (s := S512x1024) ![0, 0] S512x1024.size inb_S512x1024_S512x1024_0_0)) = gainBlk m c t := by
  subst hP
  rw [ld_whole (e := .bf16) (n0 := 2304) (n1 := 1024), ld_whole (e := .f32) (n0 := 512) (n1 := 1024)]
  rfl

set_option maxHeartbeats 2000000 in
theorem proj_first (t : Fin cfg0.N) (h0 : t.val % 16 = 0) : (outsAt0 m c t.val t.isLt).1 = projBlk m c t := by
  rw [outsAt0_A m c t h0]
  dsimp only
  unfold out0_A_9
  rw [View.read_writes_eq_canon _ _ _ (cover0_A_9 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  exact stores_point m c t

set_option maxHeartbeats 2000000 in
theorem input_first (t : Fin cfg0.N) (h0 : t.val % 16 = 0) : (outsAt0 m c t.val t.isLt).2.1 = inputBlk m c t := by
  rw [outsAt0_A m c t h0]
  dsimp only
  unfold out0_A_10
  rw [View.read_writes_eq_canon _ _ _ (cover0_A_10 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  exact funext fun y => input_term m c t y _ (stores_load m c t)

set_option maxHeartbeats 2000000 in
theorem proj_later (t : Fin cfg0.N) (h0 : ¬ t.val % 16 = 0) : (outsAt0 m c t.val t.isLt).1 = projBlk m c t := by
  rw [outsAt0_B m c t h0]
  dsimp only
  unfold out0_B_9
  rw [View.read_writes_eq_canon _ _ _ (cover0_B_9 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  exact stores_point m c t

set_option maxHeartbeats 2000000 in
theorem input_later (t : Fin cfg0.N) (h0 : ¬ t.val % 16 = 0) : (outsAt0 m c t.val t.isLt).2.1 = inputBlk m c t := by
  rw [outsAt0_B m c t h0]
  dsimp only
  unfold out0_B_10
  rw [View.read_writes_eq_canon _ _ _ (cover0_B_10 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  exact funext fun y => input_term m c t y _ (stores_load m c t)

set_option maxHeartbeats 2000000 in
theorem gain_first (t : Fin cfg0.N) (h0 : t.val % 16 = 0) : (outsAt0 m c t.val t.isLt).2.2 = k0_pay1 (gainBlk m c t) (k0_pay2 (F := Ideal)) := by
  rw [outsAt0_A m c t h0]
  dsimp only
  unfold out0_A_11
  rw [View.read_writes_eq_canon _ _ _ (cover0_A_11 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  refine (canon_whole (e := .f32) (n0 := 8) (n1 := 1024) inb_S8x1024_S8x1024_0_0 _ _).trans ?_
  rw [View.readCov_cons_toLoadRect]
  exact congrArg (k0_pay1 · (k0_pay2 (F := Ideal))) (gain_term m c t _ (stores_load m c t))

set_option maxHeartbeats 2000000 in
theorem gain_later (t : Fin cfg0.N) (h0 : ¬ t.val % 16 = 0) : (outsAt0 m c t.val t.isLt).2.2 = k0_pay1 (gainBlk m c t) (outsAt0 m c (t.val - 1) (Nat.lt_of_le_of_lt (Nat.sub_le _ _) t.isLt)).2.2 := by
  rw [outsAt0_B m c t h0]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_11 t).read_unread]
  refine (canon_whole (e := .f32) (n0 := 8) (n1 := 1024) inb_S8x1024_S8x1024_0_0 _ _).trans ?_
  exact congrArg₂ k0_pay1 (gain_term m c t _ (stores_load m c t)) (ld_whole (e := .f32) (n0 := 8) (n1 := 1024) _ inb_S8x1024_S8x1024_0_0)

end PoolGrad
end
-- ==== Proof.PoolGrad.Blocks.lean ====
/-
  The blocks that a grid point reads, as parts of the whole argument arrays, and the result blocks as parts of whole
  arrays of results.
-/
module
public import proofs.«01_k».proof.Proof.PoolGrad.Points
public import Idealize.ShloMosaic.Lib.StableHlo.ReadAt
@[expose] public section
set_option maxRecDepth 16384
noncomputable section
namespace PoolGrad
open Cert.KernelIdeal Cert.KernelIdeal.Gen Idealize.ShloMosaic Idealize.ShloMosaic.TcCoe Idealize.SL.Sem
open Idealize.ShloMosaic.Pipeline (Dat)

/-! ## The whole arrays of results, as functions of the argument arrays -/

/-- The gradient of the window mean of lane `c` that ends in row `r`, per row of that window. -/
def share (U : ℕ → ℕ → EReal) (r c : ℕ) : EReal := Ideal.div (U r c) (((cnt r c : ℕ) : ℝ) : EReal)

/-- The gradient of the pooling's input: row `r` lies in the windows that end in the rows `r`, `r+1`, …, and is itself
    subtracted from the mean. -/
def poolRow (U : ℕ → ℕ → EReal) (r c : ℕ) : EReal := (∑ k ∈ Finset.range (win c), share U (r + k) c) - U r c

/-- The gradient of the projection's output: the queries' part, the keys' and values', the gate's, the pooling's input
    and the pooling's gate. -/
def projRow (U Q K G : ℕ → ℕ → EReal) (r c : ℕ) : EReal :=
  if c < 512 then Q r c else if c < 768 then K r (c - 512) else if c < 1280 then G r (c - 768)
  else if c < 1792 then poolRow U r (c - 1280) else G r (c - 1280)

/-- The weights with their two axes exchanged. -/
def flip3 (w : S1x1024x2304.Idx → EReal) : S2304x1024.Idx → EReal := fun y => w (ix3 0 (y 1) (y 0))

/-! ## Reading a block -/

/-- A block whose elements are those of an array's rows from row `o` on. -/
theorem at2_block {n0 n1 b0 : ℕ} (A : (⟨2, ![n0, n1]⟩ : Shape).Idx → EReal) (B : (⟨2, ![b0, n1]⟩ : Shape).Idx → EReal) (o : ℕ)
    (h : ∀ (p : Fin b0) (j : Fin n1), ∃ i : (⟨2, ![n0, n1]⟩ : Shape).Idx, B (ix2 p j) = A i ∧ (i 0).val = o + p.val ∧ (i 1).val = j.val)
    (p j : ℕ) (hp : p < b0) : at2 B p j = at2 A (o + p) j := by
  by_cases hj : j < n1
  · obtain ⟨i, e, e0, e1⟩ := h ⟨p, hp⟩ ⟨j, hj⟩
    rw [at2, dif_pos ⟨hp, hj⟩, e, idx_eq_at2 A i, e0, e1]
  · rw [at2, at2, dif_neg (fun h => hj h.2), dif_neg (fun h => hj h.2)]

variable (m : (ℓ : Loc nD τ sig) → Buf (Elt Ideal) ℓ) (c : Dev nD)

theorem point_coord (t : Fin cfg0.N) : (grid0.coords t 0).val = t.val :=
  (by decide +kernel : ∀ t : Fin grid0.N, (grid0.coords t 0).val = t.val) t

theorem point_lt (t : Fin cfg0.N) : t.val < 16 := t.isLt

theorem index_rows : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_6.index t 0 = t.val ∧ win0_6.index t 1 = 0) ∧ (win0_8.index t 0 = t.val ∧ win0_8.index t 1 = 0)
    ∧ (win0_9.index t 0 = t.val ∧ win0_9.index t 1 = 0) ∧ (win0_10.index t 0 = t.val ∧ win0_10.index t 1 = 0) := by decide +kernel

theorem index_next : ∀ t : Fin grid0.N, t.val < 15 → win0_1.index t 0 = (t.val + 1) * 32 ∧ win0_1.index t 1 = 0 := by decide +kernel

theorem index_whole : ∀ t : Fin grid0.N, (win0_5.index t 0 = 0 ∧ win0_5.index t 1 = 0) ∧ (win0_7.index t 0 = 0 ∧ win0_7.index t 1 = 0)
    ∧ (win0_11.index t 0 = 0 ∧ win0_11.index t 1 = 0) := by decide +kernel

theorem rows0 (t : Fin cfg0.N) (p j : ℕ) (hp : p < 512) :
    at2 (n0 := 512) (n1 := 512) (iblk m c 0 t) p j = at2 (n0 := 8192) (n1 := 512) (m ((c : Thread nD τ).loc main_arg3)) (512 * t.val + p) j := by
  refine at2_block _ _ _ (fun p j => ⟨((cfg0.win 0).rect t).emb (ix2 p j), congrFun (V_main_arg3 m c) _, ?_, ?_⟩) p j hp
  · refine (Pipeline.Window.rect_emb_val (cfg0.win 0) t (ix2 p j) 0).trans ?_
    rw [show (cfg0.win 0).index t 0 = t.val from (index_rows t).1.1]; exact congrArg (· + p.val) (Nat.mul_comm _ _)
  · exact Pipeline.Window.rect_emb_val_of_index_zero (cfg0.win 0) t 1 (index_rows t).1.2 (ix2 p j)

theorem rows2 (t : Fin cfg0.N) (p j : ℕ) (hp : p < 512) :
    at2 (n0 := 512) (n1 := 512) (iblk m c 2 t) p j = at2 (n0 := 8192) (n1 := 512) (m ((c : Thread nD τ).loc main_arg4)) (512 * t.val + p) j := by
  refine at2_block _ _ _ (fun p j => ⟨((cfg0.win 2).rect t).emb (ix2 p j), congrFun (V_main_arg4 m c) _, ?_, ?_⟩) p j hp
  · refine (Pipeline.Window.rect_emb_val (cfg0.win 2) t (ix2 p j) 0).trans ?_
    rw [show (cfg0.win 2).index t 0 = t.val from (index_rows t).2.1.1]; exact congrArg (· + p.val) (Nat.mul_comm _ _)
  · exact Pipeline.Window.rect_emb_val_of_index_zero (cfg0.win 2) t 1 (index_rows t).2.1.2 (ix2 p j)

theorem rows3 (t : Fin cfg0.N) (p j : ℕ) (hp : p < 512) :
    at2 (n0 := 512) (n1 := 256) (iblk m c 3 t) p j = at2 (n0 := 8192) (n1 := 256) (m ((c : Thread nD τ).loc main_arg5)) (512 * t.val + p) j := by
  refine at2_block _ _ _ (fun p j => ⟨((cfg0.win 3).rect t).emb (ix2 p j), congrFun (V_main_arg5 m c) _, ?_, ?_⟩) p j hp
  · refine (Pipeline.Window.rect_emb_val (cfg0.win 3) t (ix2 p j) 0).trans ?_
    rw [show (cfg0.win 3).index t 0 = t.val from (index_rows t).2.2.1.1]; exact congrArg (· + p.val) (Nat.mul_comm _ _)
  · exact Pipeline.Window.rect_emb_val_of_index_zero (cfg0.win 3) t 1 (index_rows t).2.2.1.2 (ix2 p j)

theorem rows4 (t : Fin cfg0.N) (p j : ℕ) (hp : p < 512) :
    at2 (n0 := 512) (n1 := 1024) (iblk m c 4 t) p j = at2 (n0 := 8192) (n1 := 1024) (m ((c : Thread nD τ).loc main_arg6)) (512 * t.val + p) j := by
  refine at2_block _ _ _ (fun p j => ⟨((cfg0.win 4).rect t).emb (ix2 p j), congrFun (V_main_arg6 m c) _, ?_, ?_⟩) p j hp
  · refine (Pipeline.Window.rect_emb_val (cfg0.win 4) t (ix2 p j) 0).trans ?_
    rw [show (cfg0.win 4).index t 0 = t.val from (index_rows t).2.2.2.1.1]; exact congrArg (· + p.val) (Nat.mul_comm _ _)
  · exact Pipeline.Window.rect_emb_val_of_index_zero (cfg0.win 4) t 1 (index_rows t).2.2.2.1.2 (ix2 p j)

theorem rows6 (t : Fin cfg0.N) (p j : ℕ) (hp : p < 512) :
    at2 (n0 := 512) (n1 := 1024) (iblk m c 6 t) p j = at2 (n0 := 8192) (n1 := 1024) (m ((c : Thread nD τ).loc main_arg0)) (512 * t.val + p) j := by
  refine at2_block _ _ _ (fun p j => ⟨((cfg0.win 6).rect t).emb (ix2 p j), congrFun (V_main_arg0 m c) _, ?_, ?_⟩) p j hp
  · refine (Pipeline.Window.rect_emb_val (cfg0.win 6) t (ix2 p j) 0).trans ?_
    rw [show (cfg0.win 6).index t 0 = t.val from (index_rows t).2.2.2.2.1.1]; exact congrArg (· + p.val) (Nat.mul_comm _ _)
  · exact Pipeline.Window.rect_emb_val_of_index_zero (cfg0.win 6) t 1 (index_rows t).2.2.2.2.1.2 (ix2 p j)

theorem rows8 (t : Fin cfg0.N) (p j : ℕ) (hp : p < 512) :
    at2 (n0 := 512) (n1 := 1024) (iblk m c 8 t) p j = at2 (n0 := 8192) (n1 := 1024) (m ((c : Thread nD τ).loc main_arg7)) (512 * t.val + p) j := by
  refine at2_block _ _ _ (fun p j => ⟨((cfg0.win 8).rect t).emb (ix2 p j), congrFun (V_main_arg7 m c) _, ?_, ?_⟩) p j hp
  · refine (Pipeline.Window.rect_emb_val (cfg0.win 8) t (ix2 p j) 0).trans ?_
    rw [show (cfg0.win 8).index t 0 = t.val from (index_rows t).2.2.2.2.2.1.1]; exact congrArg (· + p.val) (Nat.mul_comm _ _)
  · exact Pipeline.Window.rect_emb_val_of_index_zero (cfg0.win 8) t 1 (index_rows t).2.2.2.2.2.1.2 (ix2 p j)

/-- The sixteen rows after the block. -/
theorem rows1 (t : Fin cfg0.N) (ht : t.val < 15) (p j : ℕ) (hp : p < 16) :
    at2 (n0 := 16) (n1 := 512) (iblk m c 1 t) p j = at2 (n0 := 8192) (n1 := 512) (m ((c : Thread nD τ).loc main_arg3)) (512 * (t.val + 1) + p) j := by
  refine at2_block _ _ _ (fun p j => ⟨((cfg0.win 1).rect t).emb (ix2 p j), congrFun (V_main_arg3 m c) _, ?_, ?_⟩) p j hp
  · refine (Pipeline.Window.rect_emb_val (cfg0.win 1) t (ix2 p j) 0).trans ?_
    rw [show (cfg0.win 1).index t 0 = (t.val + 1) * 32 from (index_next t ht).1]
    show (t.val + 1) * 32 * 16 + p.val = 512 * (t.val + 1) + p.val
    omega
  · exact Pipeline.Window.rect_emb_val_of_index_zero (cfg0.win 1) t 1 (index_next t ht).2 (ix2 p j)

/-- The gain. -/
theorem whole7 (t : Fin cfg0.N) (j : ℕ) :
    at2 (n0 := 1) (n1 := 1024) (iblk m c 7 t) 0 j = at2 (n0 := 1) (n1 := 1024) (m ((c : Thread nD τ).loc main_arg1)) 0 j := by
  refine (at2_block _ _ 0 (fun p j => ⟨((cfg0.win 7).rect t).emb (ix2 p j), congrFun (V_main_arg1 m c) _, ?_, ?_⟩) 0 j Nat.one_pos).trans rfl
  · exact (Pipeline.Window.rect_emb_val_of_index_zero (cfg0.win 7) t 0 (index_whole t).2.1.1 (ix2 p j)).trans (Nat.zero_add _).symm
  · exact Pipeline.Window.rect_emb_val_of_index_zero (cfg0.win 7) t 1 (index_whole t).2.1.2 (ix2 p j)

/-- What the host hands the kernel for the weights. -/
theorem entry_weights : V m c main_v2 = flip3 (m ((c : Thread nD τ).loc main_arg2)) := by
  funext y
  rw [eq_ix2 (n0 := 2304) (n1 := 1024) y]
  unfold V V0
  after_reads_at
  rfl

/-- The weights. -/
theorem whole5 (t : Fin cfg0.N) (p j : ℕ) (hp : p < 2304) :
    at2 (n0 := 2304) (n1 := 1024) (iblk m c 5 t) p j = at2 (flip3 (m ((c : Thread nD τ).loc main_arg2))) p j := by
  refine (at2_block _ _ 0 (fun p j => ⟨((cfg0.win 5).rect t).emb (ix2 p j), congrFun (entry_weights m c) _, ?_, ?_⟩) p j hp).trans (by rw [Nat.zero_add])
  · exact (Pipeline.Window.rect_emb_val_of_index_zero (cfg0.win 5) t 0 (index_whole t).1.1 (ix2 p j)).trans (Nat.zero_add _).symm
  · exact Pipeline.Window.rect_emb_val_of_index_zero (cfg0.win 5) t 1 (index_whole t).1.2 (ix2 p j)

/-! ## The whole arrays -/

/-- The gradient with respect to the pooling's output, the queries, the keys and values, the gates, the input, the gain,
    the weights and the residual's gradient, read at numbers. -/
def aU : ℕ → ℕ → EReal := at2 (n0 := 8192) (n1 := 512) (m ((c : Thread nD τ).loc main_arg3))
def aQ : ℕ → ℕ → EReal := at2 (n0 := 8192) (n1 := 512) (m ((c : Thread nD τ).loc main_arg4))
def aK : ℕ → ℕ → EReal := at2 (n0 := 8192) (n1 := 256) (m ((c : Thread nD τ).loc main_arg5))
def aG : ℕ → ℕ → EReal := at2 (n0 := 8192) (n1 := 1024) (m ((c : Thread nD τ).loc main_arg6))
def aX : ℕ → ℕ → EReal := at2 (n0 := 8192) (n1 := 1024) (m ((c : Thread nD τ).loc main_arg0))
def aN : ℕ → ℕ → EReal := at2 (n0 := 1) (n1 := 1024) (m ((c : Thread nD τ).loc main_arg1))
def aW : ℕ → ℕ → EReal := at2 (flip3 (m ((c : Thread nD τ).loc main_arg2)))
def aD : ℕ → ℕ → EReal := at2 (n0 := 8192) (n1 := 1024) (m ((c : Thread nD τ).loc main_arg7))

/-- The whole gradient of the projection's output. -/
def aP : ℕ → ℕ → EReal := projRow (aU m c) (aQ m c) (aK m c) (aG m c)

/-- The kernel's buffer of shares holds the whole array's. -/
theorem buf_share (t : Fin cfg0.N) (r l : ℕ) (hr : r < 528) :
    buf (grid0.coords t 0).val (iblk m c 0 t) (iblk m c 1 t) r l = share (aU m c) (512 * t.val + r) l := by
  rw [point_coord, buf, share, cnt]
  refine congrArg (Ideal.div · _) ?_
  by_cases h : r < 512
  · rw [if_pos h]; exact rows0 m c t r l h
  · rw [if_neg h]
    by_cases ht : t.val < 15
    · rw [if_pos ht]
      refine (rows1 m c t ht (r - 512) l (by omega)).trans ?_
      show aU m c _ l = _
      congr 1; omega
    · rw [if_neg ht]
      exact (at2_of_row_ge _ (by have := point_lt t; omega) l).symm

/-- A block of the projection's gradient is a part of the whole. -/
theorem projTile_eq (t : Fin cfg0.N) (r l : ℕ) (hr : r < 512) :
    projTile (iblk m c 0 t) (iblk m c 1 t) (iblk m c 2 t) (iblk m c 3 t) (iblk m c 4 t) (grid0.coords t 0).val r l = aP m c (512 * t.val + r) l := by
  unfold projTile aP projRow
  by_cases h1 : l < 512
  · rw [if_pos h1, if_pos h1]; exact rows2 m c t r l hr
  rw [if_neg h1, if_neg h1]
  by_cases h2 : l < 768
  · rw [if_pos h2, if_pos h2]; exact rows3 m c t r _ hr
  rw [if_neg h2, if_neg h2]
  by_cases h3 : l < 1280
  · rw [if_pos h3, if_pos h3]; exact rows4 m c t r _ hr
  rw [if_neg h3, if_neg h3]
  by_cases h4 : l < 1792
  · rw [if_pos h4, if_pos h4, poolTile, poolRow]
    refine congrArg₂ (· - ·) (Finset.sum_congr rfl fun k hk => ?_) (rows0 m c t r _ hr)
    have hw : win (l - 1280) ≤ 16 := (Nat.pow_le_pow_right (by omega) (by omega : (l - 1280) / 128 + 1 ≤ 4)).trans (by norm_num)
    have hk' := Finset.mem_range.1 hk
    rw [buf_share m c t (r + k) _ (by omega), Nat.add_assoc]
  · rw [if_neg h4, if_neg h4]; exact rows4 m c t r _ hr

theorem projBlk_at2 (t : Fin cfg0.N) (r : ℕ) (hr : r < 512) (l : ℕ) (hl : l < 2304) : at2 (n0 := 512) (n1 := 2304) (projBlk m c t) r l = aP m c (512 * t.val + r) l := by
  rw [at2, dif_pos ⟨hr, hl⟩]
  exact projTile_eq m c t r l hr

/-- A block of the product with the weights is a part of the whole. -/
theorem dHid_blk (t : Fin cfg0.N) (r : ℕ) (hr : r < 512) (j : ℕ) :
    dHid (at2 (n0 := 512) (n1 := 2304) (projBlk m c t)) (at2 (n0 := 2304) (n1 := 1024) (iblk m c 5 t)) r j = dHid (aP m c) (aW m c) (512 * t.val + r) j := by
  unfold dHid
  refine Finset.sum_congr rfl fun k _ => ?_
  rw [projBlk_at2 m c t r hr k.val k.isLt, whole5 m c t k.val j k.isLt]
  rfl

theorem rms_blk (t : Fin cfg0.N) (r : ℕ) (hr : r < 512) : rms (at2 (n0 := 512) (n1 := 1024) (iblk m c 6 t)) r = rms (aX m c) (512 * t.val + r) := by
  unfold rms meanSq
  simp only [rows6 m c t r _ hr]
  rfl

/-- A block of the input's gradient is a part of the whole. -/
theorem inputBlk_apply (t : Fin cfg0.N) (r : Fin 512) (j : Fin 1024) :
    inputBlk m c t (ix2 r j) = dInput (aP m c) (aW m c) (aX m c) (aN m c) (aD m c) (512 * t.val + r.val) j.val := by
  refine (block_input _ _ _ _ _ r j).trans ?_
  unfold dInput
  simp only [dHid_blk m c t r.val r.isLt, rms_blk m c t r.val r.isLt, rows6 m c t r.val _ r.isLt, rows8 m c t r.val _ r.isLt, whole7 m c t]
  rfl

/-- A block of the gain's contributions is a part of the whole. -/
theorem gainBlk_apply (t : Fin cfg0.N) (r : Fin 512) (j : Fin 1024) :
    gainBlk m c t (ix2 r j) = dGain (aP m c) (aW m c) (aX m c) (512 * t.val + r.val) j.val := by
  refine (block_gain _ _ _ r j).trans ?_
  unfold dGain
  simp only [dHid_blk m c t r.val r.isLt, rms_blk m c t r.val r.isLt, rows6 m c t r.val _ r.isLt]
  rfl

end PoolGrad
end
-- ==== Proof.PoolGrad.Final.lean ====
/-
  What the kernel's three results hold when the program ends.
-/
module
public import proofs.«01_k».proof.Proof.PoolGrad.Blocks
@[expose] public section
set_option maxRecDepth 16384
noncomputable section
namespace PoolGrad
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ) (c : Dev nD)

theorem proj_point (t : Fin cfg0.N) : (outsAt0 m c t.val t.isLt).1 = projBlk m c t := by
  by_cases h : t.val % 16 = 0
  · exact proj_first m c t h
  · exact proj_later m c t h

theorem input_point (t : Fin cfg0.N) : (outsAt0 m c t.val t.isLt).2.1 = inputBlk m c t := by
  by_cases h : t.val % 16 = 0
  · exact input_first m c t h
  · exact input_later m c t h

/-- The point whose block holds row `i`. -/
def pointOf (i : ℕ) (h : i < 8192) : Fin cfg0.N := ⟨i / 512, Nat.div_lt_of_lt_mul h⟩

/-- The gradient of the projection's output, whole. -/
def projAll : S8192x2304.Idx → EReal := fun i => aP m c (i 0).val (i 1).val

/-- The gradient of the input, whole. -/
def inputAll : S8192x1024.Idx → EReal := fun i => dInput (aP m c) (aW m c) (aX m c) (aN m c) (aD m c) (i 0).val (i 1).val

theorem proj_final : (dats m 0 c).arrAt 9 cfg0.N = projAll m c := by
  funext i
  refine (dats m 0 c).arrAt_forall_of_cover 9 (fun i v => v = projAll m c i) (fun t _ y => ?_) (fun i => ?_) i
  · show (cfg0.win 9).cut (grid0.coords t) ((dats m 0 c).after 9 t) y = _
    rw [after0_9, proj_point]
    have h0 : ((((cfg0.win 9).rect t).emb y 0 : Fin _) : ℕ) = 512 * t.val + (y 0).val :=
      (Pipeline.Window.rect_emb_val (cfg0.win 9) t y 0).trans (by
        rw [show (cfg0.win 9).index t 0 = t.val from (index_rows t).2.2.2.2.2.2.1.1]; exact congrArg (· + (y 0).val) (Nat.mul_comm _ _))
    have h1 : ((((cfg0.win 9).rect t).emb y 1 : Fin _) : ℕ) = (y 1).val :=
      Pipeline.Window.rect_emb_val_of_index_zero (cfg0.win 9) t 1 (index_rows t).2.2.2.2.2.2.1.2 y
    refine (projTile_eq m c t (y 0).val (y 1).val (y 0).isLt).trans ?_
    exact congrArg₂ (aP m c) h0.symm h1.symm
  · refine ⟨pointOf (i 0).val (i 0).isLt, flush0_9 _, Finset.mem_map.2 ⟨ix2 ⟨(i 0).val % 512, Nat.mod_lt _ (by norm_num)⟩ (i 1), Finset.mem_univ _, ?_⟩⟩
    funext a
    apply Fin.ext
    match a with
    | ⟨0, _⟩ =>
      refine (Pipeline.Window.rect_emb_val (cfg0.win 9) (pointOf (i 0).val (i 0).isLt) _ 0).trans ?_
      rw [show (cfg0.win 9).index (pointOf (i 0).val (i 0).isLt) 0 = (i 0).val / 512 from (index_rows _).2.2.2.2.2.2.1.1]
      exact Nat.div_add_mod' _ _
    | ⟨1, _⟩ => exact Pipeline.Window.rect_emb_val_of_index_zero (cfg0.win 9) _ 1 (index_rows _).2.2.2.2.2.2.1.2 _

theorem input_final : (dats m 0 c).arrAt 10 cfg0.N = inputAll m c := by
  funext i
  refine (dats m 0 c).arrAt_forall_of_cover 10 (fun i v => v = inputAll m c i) (fun t _ y => ?_) (fun i => ?_) i
  · show (cfg0.win 10).cut (grid0.coords t) ((dats m 0 c).after 10 t) y = _
    rw [after0_10, input_point]
    have h0 : ((((cfg0.win 10).rect t).emb y 0 : Fin _) : ℕ) = 512 * t.val + (y 0).val :=
      (Pipeline.Window.rect_emb_val (cfg0.win 10) t y 0).trans (by
        rw [show (cfg0.win 10).index t 0 = t.val from (index_rows t).2.2.2.2.2.2.2.1]; exact congrArg (· + (y 0).val) (Nat.mul_comm _ _))
    have h1 : ((((cfg0.win 10).rect t).emb y 1 : Fin _) : ℕ) = (y 1).val :=
      Pipeline.Window.rect_emb_val_of_index_zero (cfg0.win 10) t 1 (index_rows t).2.2.2.2.2.2.2.2 y
    refine (congrArg (inputBlk m c t) (eq_ix2 (n0 := 512) (n1 := 1024) y)).trans ((inputBlk_apply m c t (y 0) (y 1)).trans ?_)
    exact congrArg₂ (dInput (aP m c) (aW m c) (aX m c) (aN m c) (aD m c)) h0.symm h1.symm
  · refine ⟨pointOf (i 0).val (i 0).isLt, flush0_10 _, Finset.mem_map.2 ⟨ix2 ⟨(i 0).val % 512, Nat.mod_lt _ (by norm_num)⟩ (i 1), Finset.mem_univ _, ?_⟩⟩
    funext a
    apply Fin.ext
    match a with
    | ⟨0, _⟩ =>
      refine (Pipeline.Window.rect_emb_val (cfg0.win 10) (pointOf (i 0).val (i 0).isLt) _ 0).trans ?_
      rw [show (cfg0.win 10).index (pointOf (i 0).val (i 0).isLt) 0 = (i 0).val / 512 from (index_rows _).2.2.2.2.2.2.2.1]
      exact Nat.div_add_mod' _ _
    | ⟨1, _⟩ => exact Pipeline.Window.rect_emb_val_of_index_zero (cfg0.win 10) _ 1 (index_rows _).2.2.2.2.2.2.2.2 _

/-- The contributions of row `r` to the gain's gradient in column `j`. -/
def gainRow (j r : ℕ) : EReal := dGain (aP m c) (aW m c) (aX m c) r j

/-- After point `n` the eight running rows hold the sums over the rows of the blocks so far. -/
theorem gain_sums : ∀ (n : ℕ) (h : n < cfg0.N) (s : Fin 8) (j : Fin 1024),
    (outsAt0 m c n h).2.2 (ix2 s j) = ∑ t ∈ Finset.range (n + 1), ∑ q : Fin 64, gainRow m c j.val (512 * t + (q.val * 8 + s.val)) := by
  have blk : ∀ (t : Fin cfg0.N) (s : Fin 8) (j : Fin 1024), (∑ q : Fin 64, at2 (n0 := 512) (n1 := 1024) (gainBlk m c t) (q.val * 8 + s.val) j.val)
      = ∑ q : Fin 64, gainRow m c j.val (512 * t.val + (q.val * 8 + s.val)) := fun t s j => Finset.sum_congr rfl fun q _ => by
    rw [at2, dif_pos ⟨by omega, j.isLt⟩]
    exact gainBlk_apply m c t ⟨q.val * 8 + s.val, by omega⟩ j
  intro n
  induction n with
  | zero =>
    intro h s j
    refine (congrFun (gain_first m c ⟨0, h⟩ rfl) (ix2 s j)).trans ((block_rows8 _ _ s j).trans ?_)
    rw [blk ⟨0, h⟩ s j, Finset.sum_range_one, ← elem_eq_at2 (n0 := 8) (n1 := 1024) (k0_pay2 (F := Ideal)) s j]
    have hz : k0_pay2 (F := Ideal) (ix2 s j) = 0 := by pointwise [k0_pay2]
    rw [hz, zero_add]
  | succ n ih =>
    intro h s j
    have hne : ¬ (n + 1) % 16 = 0 := by have : n + 1 < 16 := h; omega
    refine (congrFun (gain_later m c ⟨n + 1, h⟩ hne) (ix2 s j)).trans ((block_rows8 _ _ s j).trans ?_)
    rw [blk ⟨n + 1, h⟩ s j, Finset.sum_range_succ _ (n + 1)]
    refine congrArg (· + _) ?_
    rw [← ih (Nat.lt_of_succ_lt h) s j]
    exact (elem_eq_at2 (n0 := 8) (n1 := 1024) (outsAt0 m c n (Nat.lt_of_succ_lt h)).2.2 s j).symm

/-- The eight rows that the kernel leaves. -/
def gainAll : S8x1024.Idx → EReal := fun i =>
  ∑ t ∈ Finset.range 16, ∑ q : Fin 64, gainRow m c (i 1).val (512 * t + (q.val * 8 + (i 0).val))

theorem gain_final : (dats m 0 c).arrAt 11 cfg0.N = gainAll m c := by
  funext i
  refine (dats m 0 c).arrAt_forall_of_cover 11 (fun i v => v = gainAll m c i) (fun t hf y => ?_) (fun i => ?_) i
  · have ht : t.val = 15 := by have := (flush0_11 t).1 hf; have := point_lt t; omega
    show (cfg0.win 11).cut (grid0.coords t) ((dats m 0 c).after 11 t) y = _
    rw [after0_11]
    have h0 : ((((cfg0.win 11).rect t).emb y 0 : Fin _) : ℕ) = (y 0).val :=
      Pipeline.Window.rect_emb_val_of_index_zero (cfg0.win 11) t 0 (index_whole t).2.2.1 y
    have h1 : ((((cfg0.win 11).rect t).emb y 1 : Fin _) : ℕ) = (y 1).val :=
      Pipeline.Window.rect_emb_val_of_index_zero (cfg0.win 11) t 1 (index_whole t).2.2.2 y
    refine (congrArg (outsAt0 m c t.val t.isLt).2.2 (eq_ix2 (n0 := 8) (n1 := 1024) y)).trans ((gain_sums m c t.val t.isLt (y 0) (y 1)).trans ?_)
    rw [ht]
    exact congrArg₂ (fun a b => ∑ t ∈ Finset.range 16, ∑ q : Fin 64, gainRow m c a (512 * t + (q.val * 8 + b))) h1.symm h0.symm
  · obtain ⟨t, ht⟩ : ∃ t : Fin cfg0.N, t.val = 15 := ⟨pointOf 8191 (by norm_num), by norm_num [pointOf]⟩
    refine ⟨t, (flush0_11 t).2 (by rw [ht]), Finset.mem_map.2 ⟨ix2 (i 0) (i 1), Finset.mem_univ _, ?_⟩⟩
    funext a
    apply Fin.ext
    match a with
    | ⟨0, _⟩ => exact Pipeline.Window.rect_emb_val_of_index_zero (cfg0.win 11) _ 0 (index_whole _).2.2.1 _
    | ⟨1, _⟩ => exact Pipeline.Window.rect_emb_val_of_index_zero (cfg0.win 11) _ 1 (index_whole _).2.2.2 _

end PoolGrad
end
-- ==== Proof.PoolGrad.Run.lean ====
/-
  The run of the gradient kernel's program with its three results named.
-/
module
public import proofs.«01_k».proof.Proof.PoolGrad.Final
public import Idealize.ShloMosaic.Lib.Claim
@[expose] public section
set_option maxRecDepth 16384
noncomputable section
namespace PoolGrad
open Cert.KernelIdeal Cert.KernelIdeal.Gen Idealize.ShloMosaic Idealize.ShloMosaic.TcCoe Idealize.SL.Sem
open Idealize.ShloMosaic.Pipeline (Dat)

/-- A sum over a product of extents, block by block. -/
theorem sum_range_blocks (a b : ℕ) (f : ℕ → EReal) :
    ∑ k ∈ Finset.range (a * b), f k = ∑ i ∈ Finset.range a, ∑ j ∈ Finset.range b, f (i * b + j) := by
  induction a with
  | zero => simp
  | succ n ih => rw [Nat.succ_mul, Finset.sum_range_add, ih, Finset.sum_range_succ]

/-- The eight rows that hold the gain's gradient add up to the sum over all rows. -/
theorem eight_rows (f : ℕ → EReal) :
    ∑ s : Fin 8, ∑ t ∈ Finset.range 16, ∑ q : Fin 64, f (512 * t + (q.val * 8 + s.val)) = ∑ r : Fin 8192, f r.val := by
  rw [Finset.sum_comm, ← Finset.sum_range (fun r => f r), show (8192 : ℕ) = 16 * 512 by norm_num, sum_range_blocks 16 512]
  refine Finset.sum_congr rfl fun t _ => ?_
  rw [show (512 : ℕ) = 64 * 8 by norm_num, sum_range_blocks 64 8 (fun j => f (t * (64 * 8) + j)), Finset.sum_comm,
    Finset.sum_range (fun i => ∑ j ∈ Finset.range 8, f (t * (64 * 8) + (i * 8 + j)))]
  refine Finset.sum_congr rfl fun q _ => ?_
  rw [Finset.sum_range (fun j => f (t * (64 * 8) + (q.val * 8 + j)))]
  refine Finset.sum_congr rfl fun s _ => ?_
  rw [Nat.mul_comm t]

variable (m : (ℓ : Loc nD τ sig) → Buf (Elt Ideal) ℓ) (ρ : Dev nD → PrngReg)

/-- The gain's gradient: the sum over all rows. -/
def gainSum (c : Dev nD) : S1x1024.Idx → EReal := fun i => ∑ r : Fin 8192, gainRow m c (i 1).val r.val

theorem gain_tail (c : Dev nD) : Pipeline.afterTail₀ cfgs (dats m) 0 (V0 m) [hostOps1] c main_v5 = gainSum m c := by
  have hw : Pipeline.withArrays (cfgs 0).spec c (V0 m c) (fun w => (dats m 0 c).arrAt w (cfgs 0).N) (Proc.devRef .tc main_v3_2) = gainAll m c :=
    (Pipeline.withArrays_arr_shared spec0 c (V0 m c) (fun w => (dats m 0 c).arrAt w cfg0.N)
      ((dats m 0 c).arrAt_sharedIn sharedIn0 (V0 m c) (A_eq m c) cfg0.N) 11).trans (gain_final m c)
  unfold Pipeline.afterTail₀
  simp only [hostOps1, List.flatten_cons, List.flatten_nil, List.append_nil]
  generalize Pipeline.withArrays (cfgs 0).spec c (V0 m c) (fun w => (dats m 0 c).arrAt w (cfgs 0).N) = W at hw ⊢
  after_results
  rw [hw]
  funext i
  rw [eq_ix2 (n0 := 1) (n1 := 1024) i]
  generalize i 1 = j
  change Fin 1024 at j
  pointwise
  exact eight_rows (fun r => gainRow m c j.val r)

/-- The results after the run, and the arguments unchanged. -/
theorem run_results : θ_run defs (onTc (τ := τ) (main (F := Ideal))) ⟨m, fun _ => 0, ρ⟩ fun r => ∀ c : Dev nD,
      r.2.mem ((c.tc : Thread nD τ).loc main_v3_0) = projAll m c
      ∧ r.2.mem ((c.tc : Thread nD τ).loc main_v3_1) = inputAll m c
      ∧ r.2.mem ((c.tc : Thread nD τ).loc main_v5) = gainSum m c :=
  (θ_run defs _ _).mono (fun r h c => ⟨((h c).1 9).trans (proj_final m c), ((h c).1 10).trans (input_final m c),
    ((h c).2 main_v5 (Pipeline.mem_restRefs_of main_v5 (by decide) (by decide))).trans (gain_tail m c)⟩) (run_main m ρ)

end PoolGrad
end
-- ==== Proof.PoolGrad.Tails.lean ====
/-
  Sums of the rows from one row on, and their differences.
-/
module
public import proofs.«01_k».proof.Proof.PoolGrad.Arrays
@[expose] public section
noncomputable section
namespace PoolGrad
open Idealize.ShloMosaic

/-- A fold of additions is the sum. -/
theorem fold_sum {n : ℕ} (f : Fin n → EReal) : (List.finRange n).foldl (fun r k => r + f k) 0 = ∑ k, f k := by
  rw [Fin.sum_univ_def, List.sum_eq_foldl, List.foldl_map]

/-- The reversed running sum over the rows: the sum of the rows from `i 0` on. -/
theorem tail_sum {n a b : ℕ} (hi : ℕ) (h : (⟨3, ![n, a, b]⟩ : Shape).ReduceWindows ![n, 1, 1] ![1, 1, 1] ![0, 0, 0] ![hi, 0, 0] ⟨3, ![n, a, b]⟩)
    (x : (⟨3, ![n, a, b]⟩ : Shape).Idx → EReal) (i : Fin n) (g : Fin a) (l : Fin b) :
    Ideal.hostReduceWindowAdd ![n, 1, 1] ![1, 1, 1] ![0, 0, 0] ![hi, 0, 0] h x 0 (ix3 i g l)
      = ∑ k : Fin n, if hk : i.val + k.val < n then x (ix3 ⟨i.val + k.val, hk⟩ g l) else 0 := by
  unfold Ideal.hostReduceWindowAdd Host.reduceWindow
  dsimp only
  rw [fold_sum]
  refine ((Finset.sum_congr rfl fun q _ => ?_).trans (Equiv.sum_comp (Shape.rowMajor ⟨3, ![n, 1, 1]⟩).symm (fun y : (⟨3, ![n, 1, 1]⟩ : Shape).Idx =>
    if hk : i.val + (y 0).val < n then x (ix3 ⟨i.val + (y 0).val, hk⟩ g l) else 0))).trans ?_
  · have y1 : ((Shape.rowMajor ⟨3, ![n, 1, 1]⟩).symm q 1).val = 0 := Nat.lt_one_iff.1 ((Shape.rowMajor ⟨3, ![n, 1, 1]⟩).symm q 1).isLt
    have y2 : ((Shape.rowMajor ⟨3, ![n, 1, 1]⟩).symm q 2).val = 0 := Nat.lt_one_iff.1 ((Shape.rowMajor ⟨3, ![n, 1, 1]⟩).symm q 2).isLt
    by_cases hk : i.val + ((Shape.rowMajor ⟨3, ![n, 1, 1]⟩).symm q 0).val < n
    · rw [dif_pos hk, dif_pos (fun ax => by
        match ax with
        | ⟨0, _⟩ => exact ⟨Nat.zero_le _, by show i.val * 1 + ((Shape.rowMajor ⟨3, ![n, 1, 1]⟩).symm q 0).val - 0 < n; omega⟩
        | ⟨1, _⟩ => exact ⟨Nat.zero_le _, by show g.val * 1 + ((Shape.rowMajor ⟨3, ![n, 1, 1]⟩).symm q 1).val - 0 < a; have := g.isLt; omega⟩
        | ⟨2, _⟩ => exact ⟨Nat.zero_le _, by show l.val * 1 + ((Shape.rowMajor ⟨3, ![n, 1, 1]⟩).symm q 2).val - 0 < b; have := l.isLt; omega⟩)]
      refine congrArg x (funext fun ax => Fin.ext ?_)
      match ax with
      | ⟨0, _⟩ => show i.val * 1 + ((Shape.rowMajor ⟨3, ![n, 1, 1]⟩).symm q 0).val - 0 = i.val + ((Shape.rowMajor ⟨3, ![n, 1, 1]⟩).symm q 0).val; omega
      | ⟨1, _⟩ => show g.val * 1 + ((Shape.rowMajor ⟨3, ![n, 1, 1]⟩).symm q 1).val - 0 = g.val; omega
      | ⟨2, _⟩ => show l.val * 1 + ((Shape.rowMajor ⟨3, ![n, 1, 1]⟩).symm q 2).val - 0 = l.val; omega
    · rw [dif_neg hk, dif_neg (fun hin => hk (by have := (hin 0).2; change i.val * 1 + ((Shape.rowMajor ⟨3, ![n, 1, 1]⟩).symm q 0).val - 0 < n at this; omega))]
  · rw [sum_idx3]
    refine Finset.sum_congr rfl fun k _ => ?_
    simp only [Finset.univ_unique, Finset.sum_singleton]
    rfl

/-- A sum of real numbers, read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The rows from `s` on, less those whose window begins after `s`, are the `w` rows from `s` on. -/
theorem telescope (N w s : ℕ) (hs : s < N) (f : ℕ → ℝ) (hf : ∀ t, N ≤ t → f t = 0) (hw : 0 < w) :
    ∑ p ∈ Finset.Ico s N, (f p + ∑ t ∈ (Finset.range N).filter (fun t => t + 1 - w = p + 1), - f t)
      = ∑ k ∈ Finset.range w, f (s + k) := by
  rw [Finset.sum_add_distrib]
  have h2 : ∑ p ∈ Finset.Ico s N, ∑ t ∈ (Finset.range N).filter (fun t => t + 1 - w = p + 1), - f t
      = ∑ t ∈ (Finset.range N).filter (fun t => s + w ≤ t), - f t := by
    rw [← Finset.sum_biUnion]
    · refine Finset.sum_congr ?_ fun _ _ => rfl
      ext t
      simp only [Finset.mem_biUnion, Finset.mem_Ico, Finset.mem_filter, Finset.mem_range]
      constructor
      · rintro ⟨p, hp, ht, e⟩; omega
      · rintro ⟨ht, e⟩; exact ⟨t - w, by omega, ht, by omega⟩
    · intro p _ q _ hpq
      refine Finset.disjoint_left.2 fun t ht hq => hpq ?_
      have := (Finset.mem_filter.1 ht).2
      have := (Finset.mem_filter.1 hq).2
      omega
  have h3 : (Finset.range N).filter (fun t => s + w ≤ t) = Finset.Ico (s + w) N := by
    ext t; simp only [Finset.mem_filter, Finset.mem_range, Finset.mem_Ico]; omega
  have h4 : ∑ k ∈ Finset.range w, f (s + k) = ∑ t ∈ Finset.Ico s (s + w), f t := by
    rw [Finset.sum_Ico_eq_sum_range, Nat.add_sub_cancel_left]
  rw [h2, h3, h4, Finset.sum_neg_distrib]
  by_cases h : s + w ≤ N
  · rw [← Finset.sum_Ico_consecutive f (Nat.le_add_right s w) h]; ring
  · rw [Finset.Ico_eq_empty (a := s + w) (b := N) (by omega), Finset.sum_empty, ← Finset.sum_Ico_consecutive f (by omega : s ≤ N) (by omega : N ≤ s + w)]
    rw [Finset.sum_eq_zero (s := Finset.Ico N (s + w)) (fun t ht => hf t (Finset.mem_Ico.1 ht).1)]; ring

end PoolGrad
end
-- ==== Proof.PoolGrad.Scatter.lean ====
/-
  The scatter that the gradient of the running sum's lookup is: where an update lands, and the sum at an element.
-/
module
public import proofs.«01_k».proof.Proof.Gen.ReferenceIdeal.Read
public import proofs.«01_k».proof.Proof.PoolGrad.Tails
@[expose] public section
set_option maxRecDepth 16384
noncomputable section
namespace PoolGrad
open Cert.ReferenceIdeal Cert.ReferenceIdeal.Gen Cert.ReferenceIdeal.Read Idealize.ShloMosaic

/-- The scatter's dimension numbers. -/
abbrev dS : ScatterDims S8193x4x128 S8192x4x2 S8192x4x128 := scatter_S8193x4x128_S8192x4x2_S8192x4x128_2_01_01_2

variable (idx : IVec S8192x4x2 32) (t : Fin 8192) (g : Fin 4) (l : Fin 128)

theorem start0 : ScatterDims.start dS (ix3 t g l) idx 0 = (idx (ix3 t g 0)).toInt := by
  unfold ScatterDims.start
  rw [dif_pos (show ((0 : Fin 3) ∈ ScatterDims.scatterDimsToOperandDims dS) by decide)]
  refine congrArg (fun i => (idx i).toInt) (funext fun b => ?_)
  match b with
  | ⟨0, _⟩ => rfl
  | ⟨1, _⟩ => rfl
  | ⟨2, _⟩ => rfl

theorem start1 : ScatterDims.start dS (ix3 t g l) idx 1 = (idx (ix3 t g 1)).toInt := by
  unfold ScatterDims.start
  rw [dif_pos (show ((1 : Fin 3) ∈ ScatterDims.scatterDimsToOperandDims dS) by decide)]
  refine congrArg (fun i => (idx i).toInt) (funext fun b => ?_)
  match b with
  | ⟨0, _⟩ => rfl
  | ⟨1, _⟩ => rfl
  | ⟨2, _⟩ => rfl

theorem start2 : ScatterDims.start dS (ix3 t g l) idx 2 = 0 := by
  unfold ScatterDims.start
  rw [dif_neg (show ¬ ((2 : Fin 3) ∈ ScatterDims.scatterDimsToOperandDims dS) by decide)]

theorem window0 : ScatterDims.window dS (ix3 t g l) 0 = 0 := by
  unfold ScatterDims.window
  exact dif_neg (by decide)

theorem window1 : ScatterDims.window dS (ix3 t g l) 1 = 0 := by
  unfold ScatterDims.window
  exact dif_neg (by decide)

theorem window2 : ScatterDims.window dS (ix3 t g l) 2 = l.val := by
  unfold ScatterDims.window
  exact dif_pos (by decide)

/-- Update `(t, g, l)` lands at row `lo`, group `g`, lane `l`. -/
theorem lands (lo : ℕ) (hlo : lo < 8193) (h0 : (idx (ix3 t g 0)).toInt = (lo : ℤ)) (h1 : (idx (ix3 t g 1)).toInt = (g.val : ℤ)) :
    ScatterDims.resultIdx? dS (ix3 t g l) idx = some (ix3 ⟨lo, hlo⟩ g l) := by
  have k0 : ScatterDims.start dS (ix3 t g l) idx 0 + (ScatterDims.window dS (ix3 t g l) 0 : ℤ) = lo := by rw [start0, window0, h0]; simp
  have k1 : ScatterDims.start dS (ix3 t g l) idx 1 + (ScatterDims.window dS (ix3 t g l) 1 : ℤ) = g.val := by rw [start1, window1, h1]; simp
  have k2 : ScatterDims.start dS (ix3 t g l) idx 2 + (ScatterDims.window dS (ix3 t g l) 2 : ℤ) = l.val := by rw [start2, window2]; simp
  have hg := g.isLt
  have hl := l.isLt
  unfold ScatterDims.resultIdx?
  rw [dif_pos (fun a => by
    match a with
    | ⟨0, _⟩ => refine (show _ ∧ _ < ((8193 : ℕ) : ℤ) from ?_); exact k0.symm ▸ ⟨by omega, by omega⟩
    | ⟨1, _⟩ => refine (show _ ∧ _ < ((4 : ℕ) : ℤ) from ?_); exact k1.symm ▸ ⟨by omega, by omega⟩
    | ⟨2, _⟩ => refine (show _ ∧ _ < ((128 : ℕ) : ℤ) from ?_); exact k2.symm ▸ ⟨by omega, by omega⟩)]
  refine congrArg some (funext fun a => Fin.ext ?_)
  match a with
  | ⟨0, _⟩ => exact (congrArg Int.toNat k0).trans (Int.toNat_natCast _)
  | ⟨1, _⟩ => exact (congrArg Int.toNat k1).trans (Int.toNat_natCast _)
  | ⟨2, _⟩ => exact (congrArg Int.toNat k2).trans (Int.toNat_natCast _)

/-- An element of the scatter's result: what was there and the updates of the rows whose table entry names this row. -/
theorem scatter_read (lo : ℕ → ℕ → ℕ) (hlo : ∀ t g, t < 8192 → lo t g < 8193)
    (h0 : ∀ (t : Fin 8192) (g : Fin 4), (idx (ix3 t g 0)).toInt = ((lo t.val g.val : ℕ) : ℤ)) (h1 : ∀ (t : Fin 8192) (g : Fin 4), (idx (ix3 t g 1)).toInt = (g.val : ℤ))
    (x : S8193x4x128.Idx → EReal) (u : S8192x4x128.Idx → EReal) (r : Fin 8193) :
    Ideal.hostScatterAdd dS x idx u (ix3 r g l)
      = x (ix3 r g l) + ∑ t : Fin 8192, if lo t.val g.val = r.val then u (ix3 t g l) else 0 := by
  unfold Ideal.hostScatterAdd
  refine congrArg (x (ix3 r g l) + ·) ?_
  rw [Finset.sum_filter, sum_idx3]
  refine Finset.sum_congr rfl fun t _ => ?_
  have key : ∀ (g' : Fin 4) (l' : Fin 128), (ScatterDims.resultIdx? dS (ix3 t g' l') idx = some (ix3 r g l)) ↔ (lo t.val g'.val = r.val ∧ g' = g ∧ l' = l) := by
    intro g' l'
    rw [lands idx t g' l' (lo t.val g'.val) (hlo _ _ t.isLt) (h0 t g') (h1 t g')]
    constructor
    · intro h
      have h := Option.some.inj h
      exact ⟨congrArg Fin.val (congrFun h 0), congrFun h 1, congrFun h 2⟩
    · rintro ⟨e, rfl, rfl⟩
      exact congrArg (fun q => some (ix3 q g' l')) (Fin.ext e)
  simp only [key]
  rw [Finset.sum_eq_single g (fun g' _ hg => Finset.sum_eq_zero fun l' _ => if_neg fun h => hg h.2.1) (fun h => absurd (Finset.mem_univ g) h),
    Finset.sum_eq_single l (fun l' _ hl => if_neg fun h => hl h.2.2) (fun h => absurd (Finset.mem_univ l) h)]
  simp only [and_true]

end PoolGrad
end
-- ==== Proof.PoolGrad.Lookup.lean ====
/-
  The reference's table of positions and its row counts, as numbers.
-/
module
public import proofs.«01_k».proof.Proof.PoolGrad.Scatter
public import Idealize.ShloMosaic.Lib.Pointwise
@[expose] public section
set_option maxRecDepth 16384
noncomputable section
namespace PoolGrad
open Cert.ReferenceIdeal Cert.ReferenceIdeal.Gen Cert.ReferenceIdeal.Read Idealize.ShloMosaic

/-- The word of a small number reads as the number. -/
theorem small_toInt (n : ℕ) (h : n < 20000) : (BitVec.ofNat 32 n).toInt = (n : ℤ) := by
  rw [BitVec.toInt_eq_toNat_of_lt (by rw [BitVec.toNat_ofNat]; omega), BitVec.toNat_ofNat, Nat.mod_eq_of_lt (by omega)]

/-- The word of the window's first position: the row's position less the window's length, and no less than zero. -/
theorem word_first (t g : ℕ) (ht : t < 8192) (hg : g < 4) :
    IntOp.maxsi (IntOp.subi (IntOp.addi (BitVec.ofNat 32 t) 1#32) (IntOp.shli .host 2#32 (BitVec.ofNat 32 g))) 0#32
      = BitVec.ofNat 32 (t + 1 - 2 ^ (g + 1)) := by
  have e : IntOp.shli .host 2#32 (BitVec.ofNat 32 g) = BitVec.ofNat 32 (2 ^ (g + 1)) := by
    interval_cases g <;> rfl
  have hw : 2 ^ (g + 1) ≤ 16 ∧ 0 < 2 ^ (g + 1) := by interval_cases g <;> decide
  generalize 2 ^ (g + 1) = w at e hw ⊢
  rw [e]
  have h2 : (IntOp.subi (IntOp.addi (BitVec.ofNat 32 t) 1#32) (BitVec.ofNat 32 w)).toInt = (t : ℤ) + 1 - w := by
    show (BitVec.ofNat 32 t + 1#32 - BitVec.ofNat 32 w).toInt = _
    rw [BitVec.toInt_sub, BitVec.toInt_add, small_toInt t (by omega), small_toInt w (by omega), show (1#32 : BitVec 32).toInt = 1 from rfl,
      Int.bmod_eq_of_le (n := (t : ℤ) + 1) (by omega) (by omega), Int.bmod_eq_of_le (by omega) (by omega)]
  unfold IntOp.maxsi
  rw [BitVec.slt_eq_decide, h2]
  have h0 : (0#32 : BitVec 32).toInt = 0 := rfl
  rw [h0]
  by_cases h : (0 : ℤ) < (t : ℤ) + 1 - w
  · rw [if_pos (by rw [decide_eq_true_eq]; exact h)]
    apply BitVec.eq_of_toInt_eq
    rw [h2, small_toInt _ (by omega)]
    omega
  · rw [if_neg (by rw [decide_eq_true_eq]; exact h)]
    rw [show t + 1 - w = 0 by omega]

theorem first_read (t : Fin 8192) (g : Fin 4) : val_main_v43 (F := Ideal) (ix2 t g) = BitVec.ofNat 32 (t.val + 1 - 2 ^ (g.val + 1)) := by
  rw [val_main_v43_apply, val_main_v41_apply, val_main_v39_apply, val_main_v38_apply, val_main_v32_apply, val_main_v31_apply,
    val_main_v37_apply, val_main_c_6_apply, val_main_v40_apply, val_main_v36_apply, val_main_v35_apply, val_main_v34_apply,
    val_main_c_apply, val_main_v33_apply, val_main_v42_apply, val_main_c_7_apply]
  exact word_first t.val g.val t.isLt g.isLt

/-- A word that is not negative is not wrapped round the table's length. -/
theorem word_wrap (n k : ℕ) (h : n < 20000) :
    Scalar.select (IntOp.cmpi .slt (BitVec.ofNat 32 n) 0#32) (IntOp.addi (BitVec.ofNat 32 n) (BitVec.ofNat 32 k)) (BitVec.ofNat 32 n) = BitVec.ofNat 32 n := by
  have : IntOp.cmpi .slt (BitVec.ofNat 32 n) 0#32 = 0#1 := by
    show BitVec.ofBool ((BitVec.ofNat 32 n).slt 0#32) = 0#1
    rw [BitVec.slt_eq_decide, small_toInt n h, show (0#32 : BitVec 32).toInt = 0 from rfl, decide_eq_false (by omega)]
    rfl
  rw [this]
  rfl

theorem table_row (t : Fin 8192) (g : Fin 4) : (val_main_v64 (F := Ideal) (ix3 t g 0)).toInt = ((t.val + 1 - 2 ^ (g.val + 1) : ℕ) : ℤ) := by
  have e : val_main_v64 (F := Ideal) (ix3 t g 0) = val_main_v62 (F := Ideal) (ix3 t g 0) := by
    unfold val_main_v64
    generalize val_main_v62 (F := Ideal) = a
    generalize val_main_v63 (F := Ideal) = b
    pointwise
  have e2 : idx_main_v62 (ix3 t g 0) = ix2 t g := by funext a; fin_cases a <;> rfl
  have ht := t.isLt
  have hk : t.val + 1 - 2 ^ (g.val + 1) < 20000 := lt_of_le_of_lt (Nat.sub_le _ _) (by omega)
  rw [e, val_main_v62_apply, e2, val_main_v55_apply, val_main_v52_apply, val_main_v54_apply, first_read, val_main_v51_apply, val_main_c_9_apply,
    val_main_v53_apply, val_main_c_10_apply, word_wrap _ 8193 hk, small_toInt _ hk]

theorem table_group (t : Fin 8192) (g : Fin 4) : (val_main_v64 (F := Ideal) (ix3 t g 1)).toInt = (g.val : ℤ) := by
  have e : val_main_v64 (F := Ideal) (ix3 t g 1) = val_main_v63 (F := Ideal) (ix3 t g 0) := by
    unfold val_main_v64
    generalize val_main_v62 (F := Ideal) = a
    generalize val_main_v63 (F := Ideal) = b
    pointwise
  have hg := g.isLt
  rw [e, val_main_v63_apply, val_main_v61_apply, val_main_v60_apply, val_main_v57_apply, val_main_v59_apply, val_main_v50_apply, val_main_v49_apply,
    val_main_v56_apply, val_main_c_11_apply, val_main_v58_apply, val_main_c_12_apply]
  exact (congrArg BitVec.toInt (word_wrap g.val 4 (by omega))).trans (small_toInt _ (by omega))

/-- The divisor: the number of rows in the window that ends in row `t`. -/
theorem count_read (t : Fin 8192) (g : Fin 4) : val_main_v48 (F := Ideal) (ix2 t g) = (((min (t.val + 1) (2 ^ (g.val + 1)) : ℕ) : ℝ) : EReal) := by
  rw [val_main_v48_apply, val_main_v47_apply, first_read, val_main_v46_apply, val_main_v45_apply, val_main_v32_apply, val_main_v31_apply,
    val_main_v44_apply, val_main_c_8_apply]
  show ((((IntOp.subi (IntOp.addi (BitVec.ofNat 32 t.val) 1#32) (BitVec.ofNat 32 (t.val + 1 - 2 ^ (g.val + 1)))).toInt : ℤ) : ℝ) : EReal) = _
  generalize 2 ^ (g.val + 1) = w
  have ht := t.isLt
  have e : IntOp.subi (IntOp.addi (BitVec.ofNat 32 t.val) 1#32) (BitVec.ofNat 32 (t.val + 1 - w)) = BitVec.ofNat 32 (min (t.val + 1) w) := by
    show BitVec.ofNat 32 t.val + 1#32 - BitVec.ofNat 32 (t.val + 1 - w) = _
    apply BitVec.eq_of_toNat_eq
    simp only [BitVec.toNat_sub, BitVec.toNat_add, BitVec.toNat_ofNat]
    omega
  rw [e, small_toInt _ (by omega)]
  simp

end PoolGrad
end
-- ==== Proof.PoolGrad.RefPool.lean ====
/-
  The reference's gradient of the pooling: a running sum from the last row backwards, of each row's share less the
  shares of the rows whose window begins after it, is the sum over the rows of the window.
-/
module
public import proofs.«01_k».proof.Proof.PoolGrad.Lookup
public import proofs.«01_k».proof.Proof.PoolGrad.Blocks
public import Idealize.ShloMosaic.Lib.KernelVsHost
@[expose] public section
set_option maxRecDepth 16384
noncomputable section
namespace PoolGrad
open Cert.ReferenceIdeal Cert.ReferenceIdeal.Gen Cert.ReferenceIdeal.Read Idealize.ShloMosaic

variable (u : S8192x512.Idx → EReal)

/-- A row's share as a real number. -/
def rshare (r c : ℕ) : ℝ := (at2 u r c).toReal * (1 / ((cnt r c : ℕ) : ℝ))

theorem share_real (hu : ∀ i, u i ≠ ⊤ ∧ u i ≠ ⊥) (r c : ℕ) : share (at2 u) r c = ((rshare u r c : ℝ) : EReal) := by
  have hn : ((cnt r c : ℕ) : ℝ) ≠ 0 := by exact_mod_cast (cnt_pos r c).ne'
  have hf : ((at2 u r c).toReal : EReal) = at2 u r c := by
    unfold at2
    split
    · exact EReal.coe_toReal (hu _).1 (hu _).2
    · simp
  unfold share rshare
  rw [Ideal.div_coe hn, EReal.coe_mul, hf]

theorem rshare_out (t c : ℕ) (h : 8192 ≤ t) : rshare u t c = 0 := by
  unfold rshare
  rw [at2_of_row_ge u h]
  simp

theorem merge_idx (t : Fin 8192) (g : Fin 4) (l : Fin 128) :
    idx_main_v76 (ix3 t g l) = ix2 t ⟨g.val * 128 + l.val, by have := g.isLt; have := l.isLt; omega⟩ := by
  have := g.isLt
  have := l.isLt
  funext a
  refine Fin.ext ?_
  match a with
  | ⟨0, _⟩ => show ((t.val * 4 + g.val) * 128 + l.val) / 512 = t.val; omega
  | ⟨1, _⟩ => show ((t.val * 4 + g.val) * 128 + l.val) % 512 = g.val * 128 + l.val; omega

theorem group_win (g l : ℕ) (h : l < 128) : win (g * 128 + l) = 2 ^ (g + 1) := by
  unfold win
  rw [show (g * 128 + l) / 128 = g by omega]

/-- The shares, as the reference computes them. -/
theorem share_read (t : Fin 8192) (g : Fin 4) (l : Fin 128) :
    val_main_v79 (F := Ideal) u (ix3 t g l) = share (at2 u) t.val (g.val * 128 + l.val) := by
  have e1 : idx_main_v78 (ix3 t g l) = ix3 t g 0 := by funext a; fin_cases a <;> rfl
  have e2 : idx_main_v68 (ix3 t g 0) = ix2 t g := by funext a; fin_cases a <;> rfl
  rw [val_main_v79_apply, val_main_v76_apply, merge_idx, val_main_v78_apply, e1, val_main_v68_apply, e2, count_read, elem_eq_at2 u]
  unfold share cnt
  rw [group_win _ _ l.isLt]
  rfl

/-- The gradient of the running sum's entries: the row's own share less the shares of the rows whose window begins after it. -/
theorem entry_grad (r : Fin 8192) (g : Fin 4) (l : Fin 128) :
    val_main_v86 (F := Ideal) u (ix3 r g l) = share (at2 u) r.val (g.val * 128 + l.val)
      + ∑ t : Fin 8192, if t.val + 1 - win (g.val * 128 + l.val) = r.val + 1 then - share (at2 u) t.val (g.val * 128 + l.val) else 0 := by
  have e1 : idx_main_v86 (ix3 r g l) = ix3 ⟨r.val + 1, by have := r.isLt; omega⟩ g l := by
    funext a
    refine Fin.ext ?_
    match a with
    | ⟨0, _⟩ => exact Nat.add_comm 1 r.val
    | ⟨1, _⟩ => rfl
    | ⟨2, _⟩ => rfl
  rw [val_main_v86_apply, e1, val_main_v84_apply]
  refine congrArg₂ (fun a b : EReal => a + b) ?_ ?_
  · rw [← share_read]
    unfold val_main_v81
    generalize val_main_v79 (F := Ideal) u = y
    generalize val_main_cst_13 (F := Ideal) = z
    refine (pad_apply_of_inside _ _ _ y z _ _ _ (ix3 r g l) ?_)
    intro a
    match a with
    | ⟨0, _⟩ => show r.val + 1 = 1 + r.val * 1; omega
    | ⟨1, _⟩ => show g.val = 0 + g.val * 1; omega
    | ⟨2, _⟩ => show l.val = 0 + l.val * 1; omega
  · have hz : val_main_v82 (F := Ideal) (ix3 ⟨r.val + 1, by have := r.isLt; omega⟩ g l) = 0 := by
      rw [val_main_v82_apply, val_main_cst_14_apply]
      exact Ideal.ofBits_zero_f32
    have hs := scatter_read (val_main_v64 (F := Ideal)) g l (fun t g => t + 1 - 2 ^ (g + 1)) (fun t g ht => lt_of_le_of_lt (Nat.sub_le _ _) (by omega))
      table_row table_group (val_main_v82 (F := Ideal)) (val_main_v80 (F := Ideal) u) ⟨r.val + 1, by have := r.isLt; omega⟩
    refine (show _ = _ from hs).trans ?_
    rw [hz, zero_add, group_win _ _ l.isLt]
    refine Finset.sum_congr rfl fun t _ => ?_
    refine congrArg (fun v : EReal => if t.val + 1 - 2 ^ (g.val + 1) = r.val + 1 then v else 0) ?_
    rw [val_main_v80_apply, share_read]
    rfl

/-- The running sum's gradient at a row: the shares of the rows whose window holds it. -/
theorem window_grad (hu : ∀ i, u i ≠ ⊤ ∧ u i ≠ ⊥) (r : Fin 8192) (g : Fin 4) (l : Fin 128) :
    val_main_v87 (F := Ideal) u (ix3 r g l) = ∑ k ∈ Finset.range (win (g.val * 128 + l.val)), share (at2 u) (r.val + k) (g.val * 128 + l.val) := by
  have hv : ∀ k : Fin 8192, (if hk : r.val + k.val < 8192 then val_main_v86 (F := Ideal) u (ix3 ⟨r.val + k.val, hk⟩ g l) else 0)
      = (((if r.val + k.val < 8192 then (rshare u (r.val + k.val) (g.val * 128 + l.val)
          + ∑ t ∈ (Finset.range 8192).filter (fun t => t + 1 - win (g.val * 128 + l.val) = r.val + k.val + 1), - rshare u t (g.val * 128 + l.val)) else 0 : ℝ)) : EReal) := by
    intro k
    by_cases hk : r.val + k.val < 8192
    · rw [dif_pos hk, if_pos hk, entry_grad, EReal.coe_add, share_real u hu, coe_sum, Finset.sum_filter]
      refine congrArg (fun v : EReal => _ + v) ?_
      rw [Finset.sum_range]
      refine Finset.sum_congr rfl fun t _ => ?_
      rw [share_real u hu, EReal.coe_neg]
    · rw [dif_neg hk, if_neg hk, EReal.coe_zero]
  have h0 : val_main_v87 (F := Ideal) u (ix3 r g l)
      = ∑ k : Fin 8192, if hk : r.val + k.val < 8192 then val_main_v86 (F := Ideal) u (ix3 ⟨r.val + k.val, hk⟩ g l) else 0 := by
    have hz : val_main_call1_call0_v0 (F := Ideal) (Shape.Idx.first h_S_) = 0 := by
      rw [val_main_call1_call0_v0_apply, val_main_call1_call0_cst_apply]
      exact Ideal.ofBits_zero_f32
    rw [← tail_sum 8191 reduceWindows_S8192x4x128_S8192x4x128_w8192s1p0_8191_w1s1p0_0_w1s1p0_0 (val_main_v86 (F := Ideal) u) r g l]
    unfold val_main_v87 Host.reduceWindowAdd
    rw [Ideal.hostReduceWindowAdd_def, hz]
  rw [h0, Finset.sum_congr rfl fun k _ => hv k, ← coe_sum]
  rw [Finset.sum_congr rfl fun k _ => share_real u hu (r.val + k) (g.val * 128 + l.val), ← coe_sum]
  refine congrArg (fun v : ℝ => (v : EReal)) ?_
  rw [← telescope 8192 (win (g.val * 128 + l.val)) r.val r.isLt (fun t => rshare u t (g.val * 128 + l.val)) (fun t ht => rshare_out u t _ ht) (win_pos _)]
  rw [Finset.sum_Ico_eq_sum_range, Fin.sum_univ_eq_sum_range (fun k => if r.val + k < 8192 then (rshare u (r.val + k) (g.val * 128 + l.val)
          + ∑ t ∈ (Finset.range 8192).filter (fun t => t + 1 - win (g.val * 128 + l.val) = r.val + k + 1), - rshare u t (g.val * 128 + l.val)) else 0) 8192]
  rw [← Finset.sum_subset (Finset.range_subset_range.2 (Nat.sub_le 8192 r.val)) fun k _ hk => if_neg fun h => hk (Finset.mem_range.2 (by omega))]
  exact Finset.sum_congr rfl fun k hk => if_pos (by have := Finset.mem_range.1 hk; omega)

/-- The reference's gradient of the pooling's input. -/
theorem pool_read (hu : ∀ i, u i ≠ ⊤ ∧ u i ≠ ⊥) (i : S8192x512.Idx) :
    val_main_v89 (F := Ideal) u i = poolRow (at2 u) (i 0).val (i 1).val := by
  rw [eq_ix2 (n0 := 8192) (n1 := 512) i]
  generalize i 0 = r
  generalize i 1 = c
  change Fin 8192 at r
  change Fin 512 at c
  have hr := r.isLt
  have hc := c.isLt
  have e : idx_main_v89 (ix2 r c) = ix3 r ⟨c.val / 128, by omega⟩ ⟨c.val % 128, by omega⟩ := by
    funext a
    refine Fin.ext ?_
    match a with
    | ⟨0, _⟩ => show (r.val * 512 + c.val) / 512 = r.val; omega
    | ⟨1, _⟩ => show (r.val * 512 + c.val) / 128 % 4 = c.val / 128; omega
    | ⟨2, _⟩ => show (r.val * 512 + c.val) % 128 = c.val % 128; omega
  have ec : c.val / 128 * 128 + c.val % 128 = c.val := by omega
  rw [val_main_v89_apply, e, val_main_v88_apply, window_grad u hu, val_main_v77_apply, val_main_v76_apply, merge_idx, elem_eq_at2 u]
  show - at2 u r.val (c.val / 128 * 128 + c.val % 128) + _ = poolRow (at2 u) r.val c.val
  rw [ec, add_comm]
  rfl

end PoolGrad
end
-- ==== Proof.PoolGrad.RefNorm.lean ====
/-
  The reference's gradients of the projection and of the norm, as the kernel's expressions of the argument arrays.
-/
module
public import proofs.«01_k».proof.Proof.PoolGrad.RefPool
@[expose] public section
set_option maxRecDepth 16384
noncomputable section
namespace PoolGrad
open Cert.ReferenceIdeal Cert.ReferenceIdeal.Gen Cert.ReferenceIdeal.Read Idealize.ShloMosaic

/-! ## The norm's arithmetic -/

theorem nCols_val : nCols = ((1024 : ℝ) : EReal) := by
  simp [nCols, Ideal.ofBits, Ideal.ieee, -EReal.coe_mul]; norm_num

theorem nEps_pos : ∃ e : ℝ, 0 < e ∧ nEps = (e : EReal) := by
  refine ⟨8796093 / 8796093022208, by norm_num, ?_⟩
  simp [nEps, Ideal.ofBits, Ideal.ieee, -EReal.coe_mul]; norm_num

theorem minus_half : Ideal.ofBits FTy.f32 0xBF000000#32 = ((-1 / 2 : ℝ) : EReal) := by
  simp [Ideal.ofBits, Ideal.ieee, -EReal.coe_mul]; norm_num

theorem mul_self_nonneg (x : EReal) : 0 ≤ x * x := by
  induction x using EReal.rec with
  | bot => simp
  | top => simp
  | coe r => rw [← EReal.coe_mul]; exact_mod_cast _root_.mul_self_nonneg r

/-- The cube of the reciprocal root is the reciprocal root divided by what the root is taken of. -/
theorem rsqrt_cube (s : EReal) (e : ℝ) (he : 0 < e) (hs : (e : EReal) ≤ s) :
    Ideal.rsqrt s * Ideal.rsqrt s * Ideal.rsqrt s = Ideal.div (Ideal.rsqrt s) s := by
  induction s using EReal.rec with
  | bot => exact absurd hs (by simp)
  | top => simp [Ideal.div]
  | coe r =>
    have hr : 0 < r := lt_of_lt_of_le he (by exact_mod_cast hs)
    rw [Ideal.div_coe hr.ne', Ideal.rsqrt_coe, if_neg (not_lt.2 hr.le), if_neg hr.ne', ← EReal.coe_mul, ← EReal.coe_mul, ← EReal.coe_mul]
    congr 1
    have h := Real.sqrt_pos.2 hr
    have h2 := Real.mul_self_sqrt hr.le
    have h3 : 1 / r = (Real.sqrt r)⁻¹ * (Real.sqrt r)⁻¹ := by rw [← mul_inv, h2, one_div]
    rw [h3]
    ring

theorem meanSq_ge (X : ℕ → ℕ → EReal) (r : ℕ) : nEps ≤ meanSq X r := by
  unfold meanSq
  rw [nCols_val, Ideal.div_coe (by norm_num)]
  refine le_add_of_nonneg_left (mul_nonneg (Finset.sum_nonneg fun k _ => mul_self_nonneg _) ?_)
  exact_mod_cast (by norm_num : (0 : ℝ) ≤ 1 / 1024)

theorem twice (y : EReal) : y + y = (2 : ℝ) * y := by
  induction y using EReal.rec with
  | bot => rw [EReal.coe_mul_bot_of_pos (by norm_num)]; rfl
  | top => rw [EReal.coe_mul_top_of_pos (by norm_num)]; rfl
  | coe r => rw [← EReal.coe_add, ← EReal.coe_mul]; congr 1; ring

/-- The two equal halves of the norm's second term make up the whole of it. -/
theorem halves (x dot q : EReal) :
    x * Ideal.div (dot * ((-1 / 2 : ℝ) * q)) nCols + Ideal.div (dot * ((-1 / 2 : ℝ) * q)) nCols * x = - (x * q * Ideal.div dot nCols) := by
  rw [mul_comm _ x, twice, nCols_val, Ideal.div_coe (by norm_num), Ideal.div_coe (by norm_num)]
  have e : ((2 : ℝ) : EReal) * (x * (dot * (((-1 / 2 : ℝ) : EReal) * q) * ((1 / 1024 : ℝ) : EReal)))
      = (((2 : ℝ) : EReal) * ((-1 / 2 : ℝ) : EReal)) * (x * q * (dot * ((1 / 1024 : ℝ) : EReal))) := by
    simp only [mul_comm, mul_left_comm, mul_assoc]
  rw [e, ← EReal.coe_mul, show (2 : ℝ) * (-1 / 2) = -1 by norm_num, EReal.coe_neg, EReal.coe_one, neg_mul, one_mul]

theorem norm_grad (X : ℕ → ℕ → EReal) (r : ℕ) (x a d dot : EReal) :
    d + a * rms X r + x * Ideal.div (dot * ((-1 / 2 : ℝ) * Ideal.div (rms X r) (meanSq X r))) nCols
        + Ideal.div (dot * ((-1 / 2 : ℝ) * Ideal.div (rms X r) (meanSq X r))) nCols * x
      = d + (rms X r * a - x * (rms X r * rms X r * rms X r) * Ideal.div dot nCols) := by
  obtain ⟨e, he, hn⟩ := nEps_pos
  have hc : rms X r * rms X r * rms X r = Ideal.div (rms X r) (meanSq X r) := rsqrt_cube _ e he (hn ▸ meanSq_ge X r)
  rw [add_assoc, halves, add_assoc, hc, mul_comm a, sub_eq_add_neg]

/-! ## The reference's stages -/

variable (x0 : S8192x1024.Idx → EReal) (x1 : S1x1024.Idx → EReal) (x2 : S1x1024x2304.Idx → EReal) (x3 x4 : S8192x512.Idx → EReal)
  (x5 : S8192x256.Idx → EReal) (x6 x7 : S8192x1024.Idx → EReal)

theorem proj_read (hu : ∀ i, x3 i ≠ ⊤ ∧ x3 i ≠ ⊥) (i : S8192x2304.Idx) :
    val_main_v92 (F := Ideal) x3 x4 x5 x6 i = projRow (at2 x3) (at2 x4) (at2 x5) (at2 x6) (i 0).val (i 1).val := by
  have h3 := pool_read x3 hu
  have h4 : ∀ i, val_main_v73 (F := Ideal) x4 i = at2 x4 (i 0).val (i 1).val := fun i => idx_eq_at2 x4 i
  have h5 : ∀ i, val_main_v74 (F := Ideal) x5 i = at2 x5 (i 0).val (i 1).val := fun i => idx_eq_at2 x5 i
  have h6 : ∀ i, val_main_v90 (F := Ideal) x6 i = at2 x6 (i 0).val (i 1).val := fun i => (val_main_v90_apply (F := Ideal) x6 i).trans (show x6 (idx_main_v90 i) = _ from idx_eq_at2 x6 (idx_main_v90 i))
  have h7 : ∀ i, val_main_v91 (F := Ideal) x6 i = at2 x6 (i 0).val (512 + (i 1).val) := fun i => (val_main_v91_apply (F := Ideal) x6 i).trans (show x6 (idx_main_v91 i) = _ from idx_eq_at2 x6 (idx_main_v91 i))
  unfold val_main_v92
  generalize val_main_v89 (F := Ideal) x3 = y3 at h3 ⊢
  generalize val_main_v73 (F := Ideal) x4 = y4 at h4 ⊢
  generalize val_main_v74 (F := Ideal) x5 = y5 at h5 ⊢
  generalize val_main_v90 (F := Ideal) x6 = y6 at h6 ⊢
  generalize val_main_v91 (F := Ideal) x6 = y7 at h7 ⊢
  rw [eq_ix2 (n0 := 8192) (n1 := 2304) i]
  generalize i 0 = r
  generalize i 1 = k
  change Fin 8192 at r
  change Fin 2304 at k
  pointwise
  simp only [h3, h4, h5, h6, h7]
  show (if k.val < 512 then at2 x4 r.val k.val else if k.val - 512 < 256 then at2 x5 r.val (k.val - 512)
      else if k.val - 512 - 256 < 512 then at2 x6 r.val (k.val - 512 - 256)
      else if k.val - 512 - 256 - 512 < 512 then poolRow (at2 x3) r.val (k.val - 512 - 256 - 512)
      else at2 x6 r.val (512 + (k.val - 512 - 256 - 512 - 512))) = projRow (at2 x3) (at2 x4) (at2 x5) (at2 x6) r.val k.val
  unfold projRow
  generalize k.val = c
  by_cases c1 : c < 512
  · rw [if_pos c1, if_pos c1]
  by_cases c2 : c < 768
  · rw [if_neg c1, if_neg c1, if_pos c2, if_pos (by omega)]
  by_cases c3 : c < 1280
  · rw [if_neg c1, if_neg c1, if_neg c2, if_neg (by omega), if_pos c3, if_pos (by omega), show c - 512 - 256 = c - 768 by omega]
  by_cases c4 : c < 1792
  · rw [if_neg c1, if_neg c1, if_neg c2, if_neg (by omega), if_neg c3, if_neg (by omega), if_pos c4, if_pos (by omega),
      show c - 512 - 256 - 512 = c - 1280 by omega]
  · rw [if_neg c1, if_neg c1, if_neg c2, if_neg (by omega), if_neg c3, if_neg (by omega), if_neg c4, if_neg (by omega),
      show 512 + (c - 512 - 256 - 512 - 512) = c - 1280 by omega]

theorem weights_read (i : S8192x1024.Idx) (k : Fin 2304) : val_main_v16 (F := Ideal) x2 (ridx_main_v93 i k) = at2 (flip3 x2) k.val (i 1).val := by
  rw [val_main_v16_apply, ← elem_eq_at2 (n0 := 2304) (n1 := 1024) (flip3 x2) k (i 1)]
  show _ = x2 (ix3 0 (i 1) k)
  refine congrArg x2 (funext fun a => Fin.ext ?_)
  have hk := k.isLt
  have hi : (i 1).val < 1024 := (i 1).isLt
  match a with
  | ⟨0, _⟩ => rfl
  | ⟨1, _⟩ => show ((i 1).val * 2304 + k.val) / 2304 % 1024 = (i 1).val; omega
  | ⟨2, _⟩ => show ((i 1).val * 2304 + k.val) % 2304 = k.val; omega

/-- The gradient of the normalised rows. -/
theorem hid_read (hu : ∀ i, x3 i ≠ ⊤ ∧ x3 i ≠ ⊥) (i : S8192x1024.Idx) :
    val_main_v93 (F := Ideal) x2 x3 x4 x5 x6 i = dHid (projRow (at2 x3) (at2 x4) (at2 x5) (at2 x6)) (at2 (flip3 x2)) (i 0).val (i 1).val := by
  rw [val_main_v93_apply]
  unfold dHid
  refine Finset.sum_congr rfl fun k _ => ?_
  rw [proj_read x3 x4 x5 x6 hu, weights_read]

theorem meanSq_read (i : S8192x1.Idx) : val_main_v7 (F := Ideal) x0 i = meanSq (at2 x0) (i 0).val := by
  rw [val_main_v7_apply, val_main_v5_apply, val_main_v3_apply, val_main_v2_apply, val_main_v4_apply, val_main_cst_1_apply, val_main_v6_apply, val_main_cst_2_apply,
    val_main_cst_0_apply]
  show Ideal.div (Ideal.ofBits FTy.f32 0x00000000#32 + _) nCols + nEps = _
  rw [Ideal.ofBits_zero_f32, zero_add]
  unfold meanSq
  refine congrArg (fun v : EReal => Ideal.div v nCols + nEps) (Finset.sum_congr rfl fun k _ => ?_)
  rw [val_main_v1_apply, idx_eq_at2 x0]
  rfl

theorem rms_read (i : S8192x1.Idx) : val_main_v8 (F := Ideal) x0 i = rms (at2 x0) (i 0).val := by
  rw [val_main_v8_apply, meanSq_read]
  rfl

theorem dot_read (hu : ∀ i, x3 i ≠ ⊤ ∧ x3 i ≠ ⊥) (i : S8192.Idx) : val_main_v100 (F := Ideal) x0 x1 x2 x3 x4 x5 x6 i
    = ∑ k : Fin 1024, at2 x0 (i 0).val k.val * (dHid (projRow (at2 x3) (at2 x4) (at2 x5) (at2 x6)) (at2 (flip3 x2)) (i 0).val k.val * at2 x1 0 k.val) := by
  rw [val_main_v100_apply, val_main_cst_16_apply]
  refine (congrArg (· + _) Ideal.ofBits_zero_f32).trans ((zero_add _).trans (Finset.sum_congr rfl fun k _ => ?_))
  rw [val_main_v99_apply, val_main_v98_apply, hid_read x2 x3 x4 x5 x6 hu, val_main_v97_apply, idx_eq_at2 x0, idx_eq_at2 x1]
  rfl

theorem coef_read (hu : ∀ i, x3 i ≠ ⊤ ∧ x3 i ≠ ⊥) (i : S8192x1024.Idx) : val_main_v109 (F := Ideal) x0 x1 x2 x3 x4 x5 x6 i
    = Ideal.div ((∑ k : Fin 1024, at2 x0 (i 0).val k.val * (dHid (projRow (at2 x3) (at2 x4) (at2 x5) (at2 x6)) (at2 (flip3 x2)) (i 0).val k.val * at2 x1 0 k.val))
        * ((-1 / 2 : ℝ) * Ideal.div (rms (at2 x0) (i 0).val) (meanSq (at2 x0) (i 0).val))) nCols := by
  rw [val_main_v109_apply, val_main_v108_apply, val_main_cst_18_apply]
  refine (congrArg (· + _) Ideal.ofBits_zero_f32).trans ((zero_add _).trans ?_)
  rw [Fin.sum_univ_one, val_main_v107_apply, val_main_v105_apply, val_main_v106_apply, val_main_cst_17_apply, val_main_v101_apply, val_main_v11_apply,
    val_main_v10_apply, val_main_cst_3_apply, val_main_v9_apply, meanSq_read, rms_read, dot_read x0 x1 x2 x3 x4 x5 x6 hu]
  have e : (idx_main_v101 (idx_main_v108 (idx_main_v109 i) 0) 0).val = (i 0).val := by
    show (i 0).val * 1 + 0 = (i 0).val
    omega
  rw [e, ← minus_half]
  rfl

/-- The reference's gradient of the step's input. -/
theorem input_read (hu : ∀ i, x3 i ≠ ⊤ ∧ x3 i ≠ ⊥) (i : S8192x1024.Idx) : val_main_v113 (F := Ideal) x0 x1 x2 x3 x4 x5 x6 x7 i
    = dInput (projRow (at2 x3) (at2 x4) (at2 x5) (at2 x6)) (at2 (flip3 x2)) (at2 x0) (at2 x1) (at2 x7) (i 0).val (i 1).val := by
  rw [val_main_v113_apply, val_main_v111_apply, val_main_v104_apply, val_main_v103_apply, val_main_v98_apply, val_main_v97_apply, val_main_v102_apply,
    val_main_v110_apply, val_main_v112_apply, coef_read x0 x1 x2 x3 x4 x5 x6 hu, hid_read x2 x3 x4 x5 x6 hu, rms_read, idx_eq_at2 x0, idx_eq_at2 x1, idx_eq_at2 x7]
  exact norm_grad (at2 x0) (i 0).val _ _ _ _

/-- The reference's gradient of the norm's gain. -/
theorem gain_read (hu : ∀ i, x3 i ≠ ⊤ ∧ x3 i ≠ ⊥) (i : S1x1024.Idx) : val_main_v96 (F := Ideal) x0 x2 x3 x4 x5 x6 i
    = ∑ r : Fin 8192, dGain (projRow (at2 x3) (at2 x4) (at2 x5) (at2 x6)) (at2 (flip3 x2)) (at2 x0) r.val (i 1).val := by
  have h0 : (i 0).val = 0 := Nat.lt_one_iff.1 (i 0).isLt
  rw [val_main_v96_apply, val_main_v95_apply, val_main_cst_15_apply]
  refine (congrArg (· + _) Ideal.ofBits_zero_f32).trans ((zero_add _).trans (Finset.sum_congr rfl fun r _ => ?_))
  have e1 : (idx_main_v95 (idx_main_v96 i) r 1).val = (i 1).val := by
    show (i 0).val * 1024 + (i 1).val = (i 1).val
    omega
  have e0 : (idx_main_v95 (idx_main_v96 i) r 0).val = r.val := rfl
  rw [val_main_v94_apply, val_main_v13_apply, val_main_v12_apply, hid_read x2 x3 x4 x5 x6 hu, rms_read, idx_eq_at2 x0, e1, e0]
  exact mul_comm _ _

end PoolGrad
end
-- ==== Proof.PoolGrad.Claims.lean ====
/-
  The claims about the gradient of the first layer's input side: its frames, and the equality of its three results
  with the reference's.
-/
module
public import proofs.«01_k».proof.Defs
public import proofs.«01_k».proof.Proof.Gen.Kernel.Frame
public import proofs.«01_k».proof.Proof.PoolGrad.Run
public import proofs.«01_k».proof.Proof.PoolGrad.RefNorm
public import Idealize.ShloMosaic.Adequacy
public import Idealize.ShloMosaic.Init
@[expose] public section
set_option maxRecDepth 16384
noncomputable section
namespace PoolGrad
open Idealize.ShloMosaic Idealize.ShloMosaic.TcCoe Idealize.SL.Sem

/-- The predicate's one side condition. -/
theorem finite_facts : Cert.Pre_dpooled_finite.Facts := ⟨by decide⟩

/-- A value whose difference with itself is zero is a real number. -/
theorem finite_of_sub_self (x : EReal) (h : x - x = 0) : x ≠ ⊤ ∧ x ≠ ⊥ := by
  induction x using EReal.rec with
  | bot => exact absurd h (by decide)
  | top => exact absurd h (by decide)
  | coe r => exact ⟨EReal.coe_ne_top r, EReal.coe_ne_bot r⟩

instance : Cert.Pre_dpooled_finite.Facts := finite_facts

/-- The precondition says that every element of the pooled branch's gradient is a real number. -/
theorem real_of_pre (m : (ℓ : Loc Cert.KernelIdeal.nD Cert.KernelIdeal.τ Cert.KernelIdeal.sig) → Buf (Elt Ideal) ℓ)
    (h : Cert.Pre_KernelIdeal_dpooled_finite m) (c : Dev Cert.KernelIdeal.nD)
    (u : Cert.KernelIdeal.S8192x512.Idx → EReal) (hu : u = m ((c.tc : Thread Cert.KernelIdeal.nD Cert.KernelIdeal.τ).loc Cert.KernelIdeal.main_arg3))
    (i : Cert.KernelIdeal.S8192x512.Idx) : u i ≠ ⊤ ∧ u i ≠ ⊥ := by
  have e := congrFun (h c) i
  rw [← hu] at e
  change Ideal.cmp .oeq (u i - u i) (Ideal.ofBits .f32 0x00000000#32) = 1#1 at e
  refine finite_of_sub_self _ ?_
  rw [Ideal.ofBits_zero_f32] at e
  by_contra hne
  revert e
  simp [Ideal.cmp, hne]

section Reference
open Cert.ReferenceIdeal Cert.ReferenceIdeal.Read
variable {x0 y0 : S8192x1024.Idx → EReal} {x1 y1 : S1x1024.Idx → EReal} {x2 y2 : S1x1024x2304.Idx → EReal} {x3 y3 : S8192x512.Idx → EReal}
  {x4 y4 : S8192x512.Idx → EReal} {x5 y5 : S8192x256.Idx → EReal} {x6 y6 : S8192x1024.Idx → EReal} {x7 y7 : S8192x1024.Idx → EReal}

theorem proj_match (h3 : x3 = y3) (h4 : x4 = y4) (h5 : x5 = y5) (h6 : x6 = y6) (hu : ∀ i, y3 i ≠ ⊤ ∧ y3 i ≠ ⊥) :
    val_main_v114 (F := Ideal) x3 x4 x5 x6 = fun i => projRow (at2 y3) (at2 y4) (at2 y5) (at2 y6) (i 0).val (i 1).val := by
  subst h3 h4 h5 h6
  exact funext fun i => (val_main_v114_apply (F := Ideal) x3 x4 x5 x6 i).trans (proj_read x3 x4 x5 x6 hu i)

theorem input_match (h0 : x0 = y0) (h1 : x1 = y1) (h2 : x2 = y2) (h3 : x3 = y3) (h4 : x4 = y4) (h5 : x5 = y5) (h6 : x6 = y6) (h7 : x7 = y7)
    (hu : ∀ i, y3 i ≠ ⊤ ∧ y3 i ≠ ⊥) :
    val_main_v113 (F := Ideal) x0 x1 x2 x3 x4 x5 x6 x7
      = fun i => dInput (projRow (at2 y3) (at2 y4) (at2 y5) (at2 y6)) (at2 (flip3 y2)) (at2 y0) (at2 y1) (at2 y7) (i 0).val (i 1).val := by
  subst h0 h1 h2 h3 h4 h5 h6 h7
  exact funext fun i => input_read x0 x1 x2 x3 x4 x5 x6 x7 hu i

theorem gain_match (h0 : x0 = y0) (h2 : x2 = y2) (h3 : x3 = y3) (h4 : x4 = y4) (h5 : x5 = y5) (h6 : x6 = y6)
    (hu : ∀ i, y3 i ≠ ⊤ ∧ y3 i ≠ ⊥) :
    val_main_v96 (F := Ideal) x0 x2 x3 x4 x5 x6
      = fun i => ∑ r : Fin 8192, dGain (projRow (at2 y3) (at2 y4) (at2 y5) (at2 y6)) (at2 (flip3 y2)) (at2 y0) r.val (i 1).val := by
  subst h0 h2 h3 h4 h5 h6
  exact funext fun i => gain_read x0 x2 x3 x4 x5 x6 hu i

end Reference

theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem equal_results : Cert.algebraic_KernelIdeal_ReferenceIdeal_pre_dpooled_finite := by
  intro m g m' g' hpre hagree
  refine ⟨projAll m, inputAll m, gainSum m,
    (θ_run Cert.KernelIdeal.defs _ _).mono (fun r h c => ⟨(h.1 c).1, (h.1 c).2.1, (h.1 c).2.2, h.2 c⟩)
      (θ_run_and (run_results m g) (Cert.KernelIdeal.Gen.unchanged m g)),
    (θ_run Cert.ReferenceIdeal.defs _ _).mono (fun r h c => ?_) (Cert.ReferenceIdeal.Value.run (F := Ideal) m' g')⟩
  obtain ⟨a0, a1, a2, a3, a4, a5, a6, a7⟩ := hagree c
  have hu := real_of_pre m hpre c _ rfl
  obtain ⟨r0, r1, r2, rest⟩ := h c
  exact ⟨r0.trans ((Cert.ReferenceIdeal.Read.val_main_v114_eq m' c).trans (proj_match a3 a4 a5 a6 hu)),
    r1.trans ((Cert.ReferenceIdeal.Read.val_main_v113_eq m' c).trans (input_match a0 a1 a2 a3 a4 a5 a6 a7 hu)),
    r2.trans ((Cert.ReferenceIdeal.Read.val_main_v96_eq m' c).trans (gain_match a0 a2 a3 a4 a5 a6 hu)), rest⟩

end PoolGrad
end
-- ==== Proof.WeightGrad.Sums.lean ====
/-
  A product's sum over the rows, added up block by block.
-/
module
public import proofs.«01_k».proof.Proof.PoolGrad.Arrays
@[expose] public section
noncomputable section
namespace WeightGrad
open Idealize.ShloMosaic PoolGrad

/-- The product of column `i` of `A` and column `j` of `B`. -/
def colDot (A B : ℕ → ℕ → EReal) (i j : ℕ) : EReal := ∑ r : Fin 8192, A r.val i * B r.val j

/-- The part of it that the rows of block `k` give. -/
def partDot (A B : ℕ → ℕ → EReal) (k i j : ℕ) : EReal := ∑ q : Fin 1024, A (1024 * k + q.val) i * B (1024 * k + q.val) j

/-- The eight blocks together give the whole. -/
theorem parts_sum (A B : ℕ → ℕ → EReal) (i j : ℕ) : ∑ k ∈ Finset.range 8, partDot A B k i j = colDot A B i j := by
  have split : ∀ (n : ℕ) (f : ℕ → EReal), ∑ r ∈ Finset.range (1024 * n), f r = ∑ k ∈ Finset.range n, ∑ q : Fin 1024, f (1024 * k + q.val) := by
    intro n f
    induction n with
    | zero => simp
    | succ n ih => rw [Nat.mul_succ, Finset.sum_range_add, ih, Finset.sum_range_succ _ n, Finset.sum_range (fun q => f (1024 * n + q))]
  rw [colDot, ← Finset.sum_range (fun r => A r i * B r j)]
  exact (split 8 fun r => A r i * B r j).symm

/-- A running sum that starts anew with every eighth block holds, at block `n`, the blocks since the last start. -/
theorem running (N : ℕ) (acc part : ℕ → EReal) (h0 : ∀ n < N, n % 8 = 0 → acc n = part n)
    (h1 : ∀ n < N, ¬ n % 8 = 0 → acc n = acc (n - 1) + part n) :
    ∀ n < N, acc n = ∑ k ∈ Finset.range (n % 8 + 1), part (8 * (n / 8) + k) := by
  intro n
  induction n with
  | zero => intro h; rw [h0 0 h rfl]; simp
  | succ n ih =>
    intro h
    by_cases hm : (n + 1) % 8 = 0
    · rw [h0 _ h hm, hm, Finset.sum_range_one]
      exact congrArg part (by omega)
    · rw [h1 _ h hm, Nat.add_sub_cancel, ih (by omega), show (n + 1) % 8 = n % 8 + 1 by omega, show (n + 1) / 8 = n / 8 by omega,
        Finset.sum_range_succ _ (n % 8 + 1)]
      exact congrArg (_ + part ·) (by omega)

/-- The running sum of the parts of one column block at its last block is the whole product. -/
theorem running_last (N : ℕ) (A B : ℕ → ℕ → EReal) (i j : ℕ → ℕ) (acc : ℕ → EReal)
    (hi : ∀ n, i n = i (8 * (n / 8))) (hj : ∀ n, j n = j (8 * (n / 8)))
    (h0 : ∀ n < N, n % 8 = 0 → acc n = partDot A B (n % 8) (i n) (j n))
    (h1 : ∀ n < N, ¬ n % 8 = 0 → acc n = acc (n - 1) + partDot A B (n % 8) (i n) (j n)) (n : ℕ) (h : n < N) (hn : n % 8 = 7) :
    acc n = colDot A B (i n) (j n) := by
  rw [running N acc (fun n => partDot A B (n % 8) (i n) (j n)) h0 h1 n h, hn, ← parts_sum]
  refine Finset.sum_congr rfl fun k hk => ?_
  have hk' := Finset.mem_range.1 hk
  show partDot A B ((8 * (n / 8) + k) % 8) _ _ = _
  rw [show (8 * (n / 8) + k) % 8 = k by omega, hi (8 * (n / 8) + k), hj (8 * (n / 8) + k), hi n, hj n, show (8 * (n / 8) + k) / 8 = n / 8 by omega]

end WeightGrad
end
-- ==== Proof.WeightGrad.In1.lean ====
/-
  The gradient of the second layer's input weights: what the kernel leaves, and what the reference computes.
-/
module
public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.PoolGrad.Blocks
public import proofs.«01_k».proof.Proof.WeightGrad.Sums
public import Idealize.ShloMosaic.Adequacy
public import Idealize.ShloMosaic.Init
@[expose] public section
set_option maxRecDepth 16384
noncomputable section
namespace WeightGrad.In1
open Cert.Kernel2Ideal Cert.Kernel2Ideal.Gen Idealize.ShloMosaic Idealize.ShloMosaic.TcCoe Idealize.SL.Sem PoolGrad
open Idealize.ShloMosaic.Pipeline (Dat)
variable (m : (ℓ : Loc nD τ sig) → Buf (Elt Ideal) ℓ) (c : Dev nD)

/-- The gradient of the projection's output and the layer's input rows, at numbers. -/
def aP : ℕ → ℕ → EReal := at2 (n0 := 8192) (n1 := 3072) (m ((c : Thread nD τ).loc main_arg0))
def aH : ℕ → ℕ → EReal := at2 (n0 := 8192) (n1 := 1024) (m ((c : Thread nD τ).loc main_arg1))

theorem step_read (v : Vec Ideal S1024x1024 .f32) (a b : Vec Ideal S1024x1024 .bf16) (r j : Fin 1024) :
    k0_pay2 v a b (ix2 r j) = v (ix2 r j) + ∑ q : Fin 1024, at2 a q.val r.val * at2 b q.val j.val := by
  pointwise [k0_pay2]
  exact congrArg (v (ix2 r j) + ·) (Finset.sum_congr rfl fun q _ => congrArg₂ (· * ·) (elem_eq_at2 a q r) (elem_eq_at2 b q j))

theorem sum_first (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread]
  rw [canon_whole (e := .f32) (n0 := 1024) (n1 := 1024), ld_whole (e := .bf16) (n0 := 1024) (n1 := 1024), ld_whole (e := .bf16) (n0 := 1024) (n1 := 1024),
    View.readCov_cons_toLoadRect]

theorem sum_later (t : Fin cfg0.N) (h0 : ¬ t.val % 8 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (Memref.isWhole_whole cc0_scratch0).read_unread]
    rw [canon_whole (e := .f32) (n0 := 1024) (n1 := 1024), ld_whole (e := .f32) (n0 := 1024) (n1 := 1024), ld_whole (e := .bf16) (n0 := 1024) (n1 := 1024), ld_whole (e := .bf16) (n0 := 1024) (n1 := 1024)]
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (Memref.isWhole_whole cc0_scratch0).read_unread]
    rw [canon_whole (e := .f32) (n0 := 1024) (n1 := 1024), ld_whole (e := .f32) (n0 := 1024) (n1 := 1024), ld_whole (e := .bf16) (n0 := 1024) (n1 := 1024), ld_whole (e := .bf16) (n0 := 1024) (n1 := 1024)]

/-- At a column block's last point the result block is the running sum. -/
theorem result_last (t : Fin cfg0.N) (h1 : t.val % 8 = 7) : (outsAt0 m c t.val t.isLt).1 = (outsAt0 m c t.val t.isLt).2 := by
  rw [sum_later m c t (by omega), outsAt0_C m c t (by omega) h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole cc0_scratch0).read_unread]
  rw [canon_whole (e := .bf16) (n0 := 1024) (n1 := 1024), View.readCov_cons_toLoadRect, ld_whole (e := .f32) (n0 := 1024) (n1 := 1024), ld_whole (e := .bf16) (n0 := 1024) (n1 := 1024), ld_whole (e := .bf16) (n0 := 1024) (n1 := 1024)]
  rfl

theorem index_rows : ∀ t : Fin grid0.N, (win0_0.index t 0 = t.val % 8 ∧ win0_0.index t 1 = t.val / 8)
    ∧ (win0_1.index t 0 = t.val % 8 ∧ win0_1.index t 1 = 0) ∧ (win0_2.index t 0 = t.val / 8 ∧ win0_2.index t 1 = 0) := by decide +kernel

theorem point_lt (t : Fin cfg0.N) : t.val < 24 := t.isLt

theorem left_block (t : Fin cfg0.N) (q r : Fin 1024) : at2 (n0 := 1024) (n1 := 1024) (iblk m c 0 t) q.val r.val
    = aP m c (1024 * (t.val % 8) + q.val) (1024 * (t.val / 8) + r.val) := by
  rw [← elem_eq_at2 (n0 := 1024) (n1 := 1024) (iblk m c 0 t) q r]
  refine (congrFun (V_main_arg0 m c) (((cfg0.win 0).rect t).emb (ix2 q r))).trans ((idx_eq_at2 (n0 := 8192) (n1 := 3072) _ _).trans (congrArg₂ (aP m c) ?_ ?_))
  · refine (Pipeline.Window.rect_emb_val (cfg0.win 0) t (ix2 q r) 0).trans ?_
    rw [show (cfg0.win 0).index t 0 = t.val % 8 from (index_rows t).1.1]; exact congrArg (· + q.val) (Nat.mul_comm _ _)
  · refine (Pipeline.Window.rect_emb_val (cfg0.win 0) t (ix2 q r) 1).trans ?_
    rw [show (cfg0.win 0).index t 1 = t.val / 8 from (index_rows t).1.2]; exact congrArg (· + r.val) (Nat.mul_comm _ _)

theorem right_block (t : Fin cfg0.N) (q j : Fin 1024) : at2 (n0 := 1024) (n1 := 1024) (iblk m c 1 t) q.val j.val
    = aH m c (1024 * (t.val % 8) + q.val) j.val := by
  rw [← elem_eq_at2 (n0 := 1024) (n1 := 1024) (iblk m c 1 t) q j]
  refine (congrFun (V_main_arg1 m c) (((cfg0.win 1).rect t).emb (ix2 q j))).trans ((idx_eq_at2 (n0 := 8192) (n1 := 1024) _ _).trans (congrArg₂ (aH m c) ?_ ?_))
  · refine (Pipeline.Window.rect_emb_val (cfg0.win 1) t (ix2 q j) 0).trans ?_
    rw [show (cfg0.win 1).index t 0 = t.val % 8 from (index_rows t).2.1.1]; exact congrArg (· + q.val) (Nat.mul_comm _ _)
  · exact Pipeline.Window.rect_emb_val_of_index_zero (cfg0.win 1) t 1 (index_rows t).2.1.2 (ix2 q j)

/-- At a column block's last point the result block holds the products of the whole columns. -/
theorem result_block (t : Fin cfg0.N) (h7 : t.val % 8 = 7) (r j : Fin 1024) :
    (outsAt0 m c t.val t.isLt).1 (ix2 r j) = colDot (aP m c) (aH m c) (1024 * (t.val / 8) + r.val) j.val := by
  have part : ∀ s : Fin cfg0.N, ∑ q : Fin 1024, at2 (n0 := 1024) (n1 := 1024) (iblk m c 0 s) q.val r.val * at2 (n0 := 1024) (n1 := 1024) (iblk m c 1 s) q.val j.val
      = partDot (aP m c) (aH m c) (s.val % 8) (1024 * (s.val / 8) + r.val) j.val := fun s =>
    Finset.sum_congr rfl fun q _ => congrArg₂ (· * ·) (left_block m c s q r) (right_block m c s q j)
  rw [result_last m c t h7]
  refine (dif_pos t.isLt).symm.trans ((running_last cfg0.N (aP m c) (aH m c) (fun n => 1024 * (n / 8) + r.val) (fun _ => j.val)
    (fun n => if h : n < cfg0.N then (outsAt0 m c n h).2 (ix2 r j) else 0) (fun n => ?_) (fun n => rfl) (fun n h h0 => ?_) (fun n h h0 => ?_) t.val t.isLt h7).trans rfl)
  · show _ = 1024 * (8 * (n / 8) / 8) + r.val
    omega
  · rw [dif_pos h, sum_first m c ⟨n, h⟩ h0, step_read, part ⟨n, h⟩]
    refine (congrArg (· + _) ?_).trans (zero_add _)
    pointwise [k0_pay1]
  · rw [dif_pos h, dif_pos (show n - 1 < cfg0.N by omega), sum_later m c ⟨n, h⟩ h0, step_read, part ⟨n, h⟩]

/-- The kernel's result, whole. -/
def grad : S3072x1024.Idx → EReal := fun i => colDot (aP m c) (aH m c) (i 0).val (i 1).val

theorem kernel_final : (dats m 0 c).arrAt 2 cfg0.N = grad m c := by
  refine (dats m 0 c).arrAt_eq_of_cover 2 _ (fun t hf => ?_) fun i => (Value.covered_iff2 i).2 ⟨Nat.zero_le _, (i 0).isLt, Nat.zero_le _, (i 1).isLt⟩
  rw [Value.flushed2]
  funext y
  refine (congrArg (outsAt0 m c t.val t.isLt).1 (eq_ix2 (n0 := 1024) (n1 := 1024) y)).trans ((result_block m c t ((flush0_2 t).mp hf) (y 0) (y 1)).trans ?_)
  refine congrArg₂ (colDot (aP m c) (aH m c)) ?_ ?_
  · refine Eq.trans ?_ (Pipeline.Window.rect_emb_val (cfg0.win 2) t y 0).symm
    rw [show (cfg0.win 2).index t 0 = t.val / 8 from (index_rows t).2.2.1]; exact congrArg (· + (y 0).val) (Nat.mul_comm _ _)
  · exact (Pipeline.Window.rect_emb_val_of_index_zero (cfg0.win 2) t 1 (index_rows t).2.2.2 y).symm

/-- The reference's result is the same product: its two exchanges of the axes cancel. -/
theorem reference_result (x0 y0 : S8192x3072.Idx → EReal) (x1 y1 : S8192x1024.Idx → EReal) (h0 : x0 = y0) (h1 : x1 = y1) :
    Cert.Reference2Ideal.Read.val_main_v7 (F := Ideal) x0 x1 = fun i => colDot (at2 y0) (at2 y1) (i 0).val (i 1).val := by
  subst h0 h1
  funext i
  refine (Cert.Reference2Ideal.Read.val_main_v7_apply (F := Ideal) x0 x1 i).trans ((Cert.Reference2Ideal.Read.val_main_v5_apply (F := Ideal) x0 x1 _).trans
    ((Cert.Reference2Ideal.Read.val_main_v4_apply x0 x1 _).trans (Finset.sum_congr rfl fun k _ => congrArg₂ (· * ·) ?_ ?_)))
  · exact idx_eq_at2 (n0 := 8192) (n1 := 3072) x0 _
  · exact idx_eq_at2 (n0 := 8192) (n1 := 1024) x1 _

theorem reference_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem equal_results : Cert.algebraic_Kernel2Ideal_Reference2Ideal := by
  intro m g m' g' _ hagree
  refine ⟨grad m, (θ_run Cert.Kernel2Ideal.defs _ _).mono (fun r h c => ⟨(h c).1.trans (kernel_final m c), (h c).2⟩) (Value.run_blocks m g),
    (θ_run Cert.Reference2Ideal.defs _ _).mono (fun r h c => ⟨(h c).1.trans ?_, (h c).2⟩) (Cert.Reference2Ideal.Value.run (F := Ideal) m' g')⟩
  exact reference_result _ _ _ _ (hagree c).1 (hagree c).2

end WeightGrad.In1
end
-- ==== Proof.WeightGrad.Out1.lean ====
/-
  The gradient of the second layer's output weights: what the kernel leaves, and what the reference computes.
-/
module
public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.PoolGrad.Blocks
public import proofs.«01_k».proof.Proof.WeightGrad.Sums
public import Idealize.ShloMosaic.Adequacy
public import Idealize.ShloMosaic.Init
@[expose] public section
set_option maxRecDepth 16384
noncomputable section
namespace WeightGrad.Out1
open Cert.Kernel3Ideal Cert.Kernel3Ideal.Gen Idealize.ShloMosaic Idealize.ShloMosaic.TcCoe Idealize.SL.Sem PoolGrad
open Idealize.ShloMosaic.Pipeline (Dat)
variable (m : (ℓ : Loc nD τ sig) → Buf (Elt Ideal) ℓ) (c : Dev nD)

/-- The rows that the output weights multiply and the gradient of the layer's output, at numbers. -/
def aY : ℕ → ℕ → EReal := at2 (n0 := 8192) (n1 := 1024) (m ((c : Thread nD τ).loc main_arg0))
def aD : ℕ → ℕ → EReal := at2 (n0 := 8192) (n1 := 1024) (m ((c : Thread nD τ).loc main_arg1))

theorem step_read (v : Vec Ideal S1024x1024 .f32) (a b : Vec Ideal S1024x1024 .bf16) (r j : Fin 1024) :
    k0_pay2 v a b (ix2 r j) = v (ix2 r j) + ∑ q : Fin 1024, at2 a q.val r.val * at2 b q.val j.val := by
  pointwise [k0_pay2]
  exact congrArg (v (ix2 r j) + ·) (Finset.sum_congr rfl fun q _ => congrArg₂ (· * ·) (elem_eq_at2 a q r) (elem_eq_at2 b q j))

theorem sum_first (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread]
  rw [canon_whole (e := .f32) (n0 := 1024) (n1 := 1024), ld_whole (e := .bf16) (n0 := 1024) (n1 := 1024), ld_whole (e := .bf16) (n0 := 1024) (n1 := 1024),
    View.readCov_cons_toLoadRect]

theorem sum_later (t : Fin cfg0.N) (h0 : ¬ t.val % 8 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (Memref.isWhole_whole cc0_scratch0).read_unread]
    rw [canon_whole (e := .f32) (n0 := 1024) (n1 := 1024), ld_whole (e := .f32) (n0 := 1024) (n1 := 1024), ld_whole (e := .bf16) (n0 := 1024) (n1 := 1024), ld_whole (e := .bf16) (n0 := 1024) (n1 := 1024)]
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (Memref.isWhole_whole cc0_scratch0).read_unread]
    rw [canon_whole (e := .f32) (n0 := 1024) (n1 := 1024), ld_whole (e := .f32) (n0 := 1024) (n1 := 1024), ld_whole (e := .bf16) (n0 := 1024) (n1 := 1024), ld_whole (e := .bf16) (n0 := 1024) (n1 := 1024)]

/-- At a column block's last point the result block is the running sum. -/
theorem result_last (t : Fin cfg0.N) (h1 : t.val % 8 = 7) : (outsAt0 m c t.val t.isLt).1 = (outsAt0 m c t.val t.isLt).2 := by
  rw [sum_later m c t (by omega), outsAt0_C m c t (by omega) h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole cc0_scratch0).read_unread]
  rw [canon_whole (e := .bf16) (n0 := 1024) (n1 := 1024), View.readCov_cons_toLoadRect, ld_whole (e := .f32) (n0 := 1024) (n1 := 1024), ld_whole (e := .bf16) (n0 := 1024) (n1 := 1024), ld_whole (e := .bf16) (n0 := 1024) (n1 := 1024)]
  rfl

theorem index_rows : ∀ t : Fin grid0.N, (win0_0.index t 0 = t.val % 8 ∧ win0_0.index t 1 = t.val / 8)
    ∧ (win0_1.index t 0 = t.val % 8 ∧ win0_1.index t 1 = 0) ∧ (win0_2.index t 0 = t.val / 8 ∧ win0_2.index t 1 = 0) := by decide +kernel

theorem point_lt (t : Fin cfg0.N) : t.val < 8 := t.isLt

theorem left_block (t : Fin cfg0.N) (q r : Fin 1024) : at2 (n0 := 1024) (n1 := 1024) (iblk m c 0 t) q.val r.val
    = aY m c (1024 * (t.val % 8) + q.val) (1024 * (t.val / 8) + r.val) := by
  rw [← elem_eq_at2 (n0 := 1024) (n1 := 1024) (iblk m c 0 t) q r]
  refine (congrFun (V_main_arg0 m c) (((cfg0.win 0).rect t).emb (ix2 q r))).trans ((idx_eq_at2 (n0 := 8192) (n1 := 1024) _ _).trans (congrArg₂ (aY m c) ?_ ?_))
  · refine (Pipeline.Window.rect_emb_val (cfg0.win 0) t (ix2 q r) 0).trans ?_
    rw [show (cfg0.win 0).index t 0 = t.val % 8 from (index_rows t).1.1]; exact congrArg (· + q.val) (Nat.mul_comm _ _)
  · refine (Pipeline.Window.rect_emb_val (cfg0.win 0) t (ix2 q r) 1).trans ?_
    rw [show (cfg0.win 0).index t 1 = t.val / 8 from (index_rows t).1.2]; exact congrArg (· + r.val) (Nat.mul_comm _ _)

theorem right_block (t : Fin cfg0.N) (q j : Fin 1024) : at2 (n0 := 1024) (n1 := 1024) (iblk m c 1 t) q.val j.val
    = aD m c (1024 * (t.val % 8) + q.val) j.val := by
  rw [← elem_eq_at2 (n0 := 1024) (n1 := 1024) (iblk m c 1 t) q j]
  refine (congrFun (V_main_arg1 m c) (((cfg0.win 1).rect t).emb (ix2 q j))).trans ((idx_eq_at2 (n0 := 8192) (n1 := 1024) _ _).trans (congrArg₂ (aD m c) ?_ ?_))
  · refine (Pipeline.Window.rect_emb_val (cfg0.win 1) t (ix2 q j) 0).trans ?_
    rw [show (cfg0.win 1).index t 0 = t.val % 8 from (index_rows t).2.1.1]; exact congrArg (· + q.val) (Nat.mul_comm _ _)
  · exact Pipeline.Window.rect_emb_val_of_index_zero (cfg0.win 1) t 1 (index_rows t).2.1.2 (ix2 q j)

/-- At a column block's last point the result block holds the products of the whole columns. -/
theorem result_block (t : Fin cfg0.N) (h7 : t.val % 8 = 7) (r j : Fin 1024) :
    (outsAt0 m c t.val t.isLt).1 (ix2 r j) = colDot (aY m c) (aD m c) (1024 * (t.val / 8) + r.val) j.val := by
  have part : ∀ s : Fin cfg0.N, ∑ q : Fin 1024, at2 (n0 := 1024) (n1 := 1024) (iblk m c 0 s) q.val r.val * at2 (n0 := 1024) (n1 := 1024) (iblk m c 1 s) q.val j.val
      = partDot (aY m c) (aD m c) (s.val % 8) (1024 * (s.val / 8) + r.val) j.val := fun s =>
    Finset.sum_congr rfl fun q _ => congrArg₂ (· * ·) (left_block m c s q r) (right_block m c s q j)
  rw [result_last m c t h7]
  refine (dif_pos t.isLt).symm.trans ((running_last cfg0.N (aY m c) (aD m c) (fun n => 1024 * (n / 8) + r.val) (fun _ => j.val)
    (fun n => if h : n < cfg0.N then (outsAt0 m c n h).2 (ix2 r j) else 0) (fun n => ?_) (fun n => rfl) (fun n h h0 => ?_) (fun n h h0 => ?_) t.val t.isLt h7).trans rfl)
  · show _ = 1024 * (8 * (n / 8) / 8) + r.val
    omega
  · rw [dif_pos h, sum_first m c ⟨n, h⟩ h0, step_read, part ⟨n, h⟩]
    refine (congrArg (· + _) ?_).trans (zero_add _)
    pointwise [k0_pay1]
  · rw [dif_pos h, dif_pos (show n - 1 < cfg0.N by omega), sum_later m c ⟨n, h⟩ h0, step_read, part ⟨n, h⟩]

/-- The kernel's result, whole. -/
def grad : S1024x1024.Idx → EReal := fun i => colDot (aY m c) (aD m c) (i 0).val (i 1).val

theorem kernel_final : (dats m 0 c).arrAt 2 cfg0.N = grad m c := by
  refine (dats m 0 c).arrAt_eq_of_cover 2 _ (fun t hf => ?_) fun i => (Value.covered_iff2 i).2 ⟨Nat.zero_le _, (i 0).isLt, Nat.zero_le _, (i 1).isLt⟩
  rw [Value.flushed2]
  funext y
  refine (congrArg (outsAt0 m c t.val t.isLt).1 (eq_ix2 (n0 := 1024) (n1 := 1024) y)).trans ((result_block m c t ((flush0_2 t).mp hf) (y 0) (y 1)).trans ?_)
  refine congrArg₂ (colDot (aY m c) (aD m c)) ?_ ?_
  · refine Eq.trans ?_ (Pipeline.Window.rect_emb_val (cfg0.win 2) t y 0).symm
    rw [show (cfg0.win 2).index t 0 = t.val / 8 from (index_rows t).2.2.1]; exact congrArg (· + (y 0).val) (Nat.mul_comm _ _)
  · exact (Pipeline.Window.rect_emb_val_of_index_zero (cfg0.win 2) t 1 (index_rows t).2.2.2 y).symm

/-- The reference's result is the same product: it has the factors the other way round. -/
theorem reference_result (x0 y0 : S8192x1024.Idx → EReal) (x1 y1 : S8192x1024.Idx → EReal) (h0 : x0 = y0) (h1 : x1 = y1) :
    Cert.Reference3Ideal.Read.val_main_v6 (F := Ideal) x0 x1 = fun i => colDot (at2 y0) (at2 y1) (i 0).val (i 1).val := by
  subst h0 h1
  funext i
  refine (Cert.Reference3Ideal.Read.val_main_v5_apply (F := Ideal) x0 x1 i).trans
    ((Cert.Reference3Ideal.Read.val_main_v4_apply x0 x1 _).trans (Finset.sum_congr rfl fun k _ => (mul_comm _ _).trans (congrArg₂ (· * ·) ?_ ?_)))
  · exact idx_eq_at2 (n0 := 8192) (n1 := 1024) x0 _
  · exact idx_eq_at2 (n0 := 8192) (n1 := 1024) x1 _

theorem reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem equal_results : Cert.algebraic_Kernel3Ideal_Reference3Ideal := by
  intro m g m' g' _ hagree
  refine ⟨grad m, (θ_run Cert.Kernel3Ideal.defs _ _).mono (fun r h c => ⟨(h c).1.trans (kernel_final m c), (h c).2⟩) (Value.run_blocks m g),
    (θ_run Cert.Reference3Ideal.defs _ _).mono (fun r h c => ⟨(h c).1.trans ?_, (h c).2⟩) (Cert.Reference3Ideal.Value.run (F := Ideal) m' g')⟩
  exact reference_result _ _ _ _ (hagree c).1 (hagree c).2

end WeightGrad.Out1
end
-- ==== Proof.WeightGrad.In0.lean ====
/-
  The gradient of the first layer's input weights: what the kernel leaves, and what the reference computes.
-/
module
public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.PoolGrad.Blocks
public import proofs.«01_k».proof.Proof.WeightGrad.Sums
public import Idealize.ShloMosaic.Adequacy
public import Idealize.ShloMosaic.Init
@[expose] public section
set_option maxRecDepth 16384
noncomputable section
namespace WeightGrad.In0
open Cert.Kernel4Ideal Cert.Kernel4Ideal.Gen Idealize.ShloMosaic Idealize.ShloMosaic.TcCoe Idealize.SL.Sem PoolGrad
open Idealize.ShloMosaic.Pipeline (Dat)
variable (m : (ℓ : Loc nD τ sig) → Buf (Elt Ideal) ℓ) (c : Dev nD)

/-- The gradient of the projection's output and the layer's input rows, at numbers. -/
def aP : ℕ → ℕ → EReal := at2 (n0 := 8192) (n1 := 2304) (m ((c : Thread nD τ).loc main_arg0))
def aH : ℕ → ℕ → EReal := at2 (n0 := 8192) (n1 := 1024) (m ((c : Thread nD τ).loc main_arg1))

theorem step_read (v : Vec Ideal S768x1024 .f32) (a : Vec Ideal S1024x768 .bf16) (b : Vec Ideal S1024x1024 .bf16) (r : Fin 768) (j : Fin 1024) :
    k0_pay2 v a b (ix2 r j) = v (ix2 r j) + ∑ q : Fin 1024, at2 a q.val r.val * at2 b q.val j.val := by
  pointwise [k0_pay2]
  exact congrArg (v (ix2 r j) + ·) (Finset.sum_congr rfl fun q _ => congrArg₂ (· * ·) (elem_eq_at2 a q r) (elem_eq_at2 b q j))

theorem sum_first (t : Fin cfg0.N) (h0 : t.val % 8 = 0) : (outsAt0 m c t.val t.isLt).2 = k0_pay2 k0_pay1 (iblk m c 0 t) (iblk m c 1 t) := by
  rw [outsAt0_A m c t h0 (by omega)]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread]
  rw [canon_whole (e := .f32) (n0 := 768) (n1 := 1024), ld_whole (e := .bf16) (n0 := 1024) (n1 := 768), ld_whole (e := .bf16) (n0 := 1024) (n1 := 1024),
    View.readCov_cons_toLoadRect]

theorem sum_later (t : Fin cfg0.N) (h0 : ¬ t.val % 8 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (Memref.isWhole_whole cc0_scratch0).read_unread]
    rw [canon_whole (e := .f32) (n0 := 768) (n1 := 1024), ld_whole (e := .f32) (n0 := 768) (n1 := 1024), ld_whole (e := .bf16) (n0 := 1024) (n1 := 768), ld_whole (e := .bf16) (n0 := 1024) (n1 := 1024)]
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (Memref.isWhole_whole cc0_scratch0).read_unread]
    rw [canon_whole (e := .f32) (n0 := 768) (n1 := 1024), ld_whole (e := .f32) (n0 := 768) (n1 := 1024), ld_whole (e := .bf16) (n0 := 1024) (n1 := 768), ld_whole (e := .bf16) (n0 := 1024) (n1 := 1024)]

/-- At a column block's last point the result block is the running sum. -/
theorem result_last (t : Fin cfg0.N) (h1 : t.val % 8 = 7) : (outsAt0 m c t.val t.isLt).1 = (outsAt0 m c t.val t.isLt).2 := by
  rw [sum_later m c t (by omega), outsAt0_C m c t (by omega) h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole cc0_scratch0).read_unread]
  rw [canon_whole (e := .bf16) (n0 := 768) (n1 := 1024), View.readCov_cons_toLoadRect, ld_whole (e := .f32) (n0 := 768) (n1 := 1024), ld_whole (e := .bf16) (n0 := 1024) (n1 := 768), ld_whole (e := .bf16) (n0 := 1024) (n1 := 1024)]
  rfl

theorem index_rows : ∀ t : Fin grid0.N, (win0_0.index t 0 = t.val % 8 ∧ win0_0.index t 1 = t.val / 8)
    ∧ (win0_1.index t 0 = t.val % 8 ∧ win0_1.index t 1 = 0) ∧ (win0_2.index t 0 = t.val / 8 ∧ win0_2.index t 1 = 0) := by decide +kernel

theorem point_lt (t : Fin cfg0.N) : t.val < 24 := t.isLt

theorem left_block (t : Fin cfg0.N) (q : Fin 1024) (r : Fin 768) : at2 (n0 := 1024) (n1 := 768) (iblk m c 0 t) q.val r.val
    = aP m c (1024 * (t.val % 8) + q.val) (768 * (t.val / 8) + r.val) := by
  rw [← elem_eq_at2 (n0 := 1024) (n1 := 768) (iblk m c 0 t) q r]
  refine (congrFun (V_main_arg0 m c) (((cfg0.win 0).rect t).emb (ix2 q r))).trans ((idx_eq_at2 (n0 := 8192) (n1 := 2304) _ _).trans (congrArg₂ (aP m c) ?_ ?_))
  · refine (Pipeline.Window.rect_emb_val (cfg0.win 0) t (ix2 q r) 0).trans ?_
    rw [show (cfg0.win 0).index t 0 = t.val % 8 from (index_rows t).1.1]; exact congrArg (· + q.val) (Nat.mul_comm _ _)
  · refine (Pipeline.Window.rect_emb_val (cfg0.win 0) t (ix2 q r) 1).trans ?_
    rw [show (cfg0.win 0).index t 1 = t.val / 8 from (index_rows t).1.2]; exact congrArg (· + r.val) (Nat.mul_comm _ _)

theorem right_block (t : Fin cfg0.N) (q j : Fin 1024) : at2 (n0 := 1024) (n1 := 1024) (iblk m c 1 t) q.val j.val
    = aH m c (1024 * (t.val % 8) + q.val) j.val := by
  rw [← elem_eq_at2 (n0 := 1024) (n1 := 1024) (iblk m c 1 t) q j]
  refine (congrFun (V_main_arg1 m c) (((cfg0.win 1).rect t).emb (ix2 q j))).trans ((idx_eq_at2 (n0 := 8192) (n1 := 1024) _ _).trans (congrArg₂ (aH m c) ?_ ?_))
  · refine (Pipeline.Window.rect_emb_val (cfg0.win 1) t (ix2 q j) 0).trans ?_
    rw [show (cfg0.win 1).index t 0 = t.val % 8 from (index_rows t).2.1.1]; exact congrArg (· + q.val) (Nat.mul_comm _ _)
  · exact Pipeline.Window.rect_emb_val_of_index_zero (cfg0.win 1) t 1 (index_rows t).2.1.2 (ix2 q j)

/-- At a column block's last point the result block holds the products of the whole columns. -/
theorem result_block (t : Fin cfg0.N) (h7 : t.val % 8 = 7) (r : Fin 768) (j : Fin 1024) :
    (outsAt0 m c t.val t.isLt).1 (ix2 r j) = colDot (aP m c) (aH m c) (768 * (t.val / 8) + r.val) j.val := by
  have part : ∀ s : Fin cfg0.N, ∑ q : Fin 1024, at2 (n0 := 1024) (n1 := 768) (iblk m c 0 s) q.val r.val * at2 (n0 := 1024) (n1 := 1024) (iblk m c 1 s) q.val j.val
      = partDot (aP m c) (aH m c) (s.val % 8) (768 * (s.val / 8) + r.val) j.val := fun s =>
    Finset.sum_congr rfl fun q _ => congrArg₂ (· * ·) (left_block m c s q r) (right_block m c s q j)
  rw [result_last m c t h7]
  refine (dif_pos t.isLt).symm.trans ((running_last cfg0.N (aP m c) (aH m c) (fun n => 768 * (n / 8) + r.val) (fun _ => j.val)
    (fun n => if h : n < cfg0.N then (outsAt0 m c n h).2 (ix2 r j) else 0) (fun n => ?_) (fun n => rfl) (fun n h h0 => ?_) (fun n h h0 => ?_) t.val t.isLt h7).trans rfl)
  · show _ = 768 * (8 * (n / 8) / 8) + r.val
    omega
  · rw [dif_pos h, sum_first m c ⟨n, h⟩ h0, step_read, part ⟨n, h⟩]
    refine (congrArg (· + _) ?_).trans (zero_add _)
    pointwise [k0_pay1]
  · rw [dif_pos h, dif_pos (show n - 1 < cfg0.N by omega), sum_later m c ⟨n, h⟩ h0, step_read, part ⟨n, h⟩]

/-- The kernel's result, whole. -/
def grad : S2304x1024.Idx → EReal := fun i => colDot (aP m c) (aH m c) (i 0).val (i 1).val

theorem kernel_final : (dats m 0 c).arrAt 2 cfg0.N = grad m c := by
  refine (dats m 0 c).arrAt_eq_of_cover 2 _ (fun t hf => ?_) fun i => (Value.covered_iff2 i).2 ⟨Nat.zero_le _, (i 0).isLt, Nat.zero_le _, (i 1).isLt⟩
  rw [Value.flushed2]
  funext y
  refine (congrArg (outsAt0 m c t.val t.isLt).1 (eq_ix2 (n0 := 768) (n1 := 1024) y)).trans ((result_block m c t ((flush0_2 t).mp hf) (y 0) (y 1)).trans ?_)
  refine congrArg₂ (colDot (aP m c) (aH m c)) ?_ ?_
  · refine Eq.trans ?_ (Pipeline.Window.rect_emb_val (cfg0.win 2) t y 0).symm
    rw [show (cfg0.win 2).index t 0 = t.val / 8 from (index_rows t).2.2.1]; exact congrArg (· + (y 0).val) (Nat.mul_comm _ _)
  · exact (Pipeline.Window.rect_emb_val_of_index_zero (cfg0.win 2) t 1 (index_rows t).2.2.2 y).symm

/-- The reference's result is the same product: its two exchanges of the axes cancel. -/
theorem reference_result (x0 y0 : S8192x2304.Idx → EReal) (x1 y1 : S8192x1024.Idx → EReal) (h0 : x0 = y0) (h1 : x1 = y1) :
    Cert.Reference4Ideal.Read.val_main_v7 (F := Ideal) x0 x1 = fun i => colDot (at2 y0) (at2 y1) (i 0).val (i 1).val := by
  subst h0 h1
  funext i
  refine (Cert.Reference4Ideal.Read.val_main_v7_apply (F := Ideal) x0 x1 i).trans ((Cert.Reference4Ideal.Read.val_main_v5_apply (F := Ideal) x0 x1 _).trans
    ((Cert.Reference4Ideal.Read.val_main_v4_apply x0 x1 _).trans (Finset.sum_congr rfl fun k _ => congrArg₂ (· * ·) ?_ ?_)))
  · exact idx_eq_at2 (n0 := 8192) (n1 := 2304) x0 _
  · exact idx_eq_at2 (n0 := 8192) (n1 := 1024) x1 _

theorem reference_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem equal_results : Cert.algebraic_Kernel4Ideal_Reference4Ideal := by
  intro m g m' g' _ hagree
  refine ⟨grad m, (θ_run Cert.Kernel4Ideal.defs _ _).mono (fun r h c => ⟨(h c).1.trans (kernel_final m c), (h c).2⟩) (Value.run_blocks m g),
    (θ_run Cert.Reference4Ideal.defs _ _).mono (fun r h c => ⟨(h c).1.trans ?_, (h c).2⟩) (Cert.Reference4Ideal.Value.run (F := Ideal) m' g')⟩
  exact reference_result _ _ _ _ (hagree c).1 (hagree c).2

end WeightGrad.In0
end
-- ==== Proof.NormGate.In1.lean ====
/-
  The second layer's input side in the forward pass: the root-mean-square norm, the projection and the gated linear unit.
  What the kernel leaves, and what the reference computes.
-/
module
public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.PoolGrad.Blocks
public import Idealize.ShloMosaic.Adequacy
public import Idealize.ShloMosaic.Init
@[expose] public section
set_option maxRecDepth 16384
noncomputable section
namespace NormGate.In1
open Cert.Kernel5Ideal Cert.Kernel5Ideal.Gen Idealize.ShloMosaic Idealize.ShloMosaic.TcCoe Idealize.SL.Sem PoolGrad
open Idealize.ShloMosaic.Pipeline (Dat)

/-- The logistic function as both programs write it. -/
def logi (v : EReal) : EReal := Ideal.div 1 (1 + Ideal.exp (-v))

/-- The normalised rows. -/
def normRow (X G : ℕ → ℕ → EReal) (r j : ℕ) : EReal := X r j * rms X r * G 0 j

/-- Their projection; `W` holds a column of the weights in each row. -/
def projRow (X G W : ℕ → ℕ → EReal) (r j : ℕ) : EReal := ∑ k : Fin 1024, normRow X G r k.val * W j k.val

/-- The gated linear unit of the first two thirds of the projection. -/
def gluRow (X G W : ℕ → ℕ → EReal) (r j : ℕ) : EReal := projRow X G W r j * logi (projRow X G W r (1024 + j))

/-- The weights with their two axes exchanged. -/
def turned (w : S1x1024x3072.Idx → EReal) : S3072x1024.Idx → EReal := fun y => w (ix3 0 (y 1) (y 0))

section Blocks
variable (x : Vec Ideal S1024x1024 .f32) (g : Vec Ideal S1x1024 .f32) (w : Vec Ideal S3072x1024 .bf16)

theorem norm_read (r j : Fin 1024) : k0_pay1 x g (ix2 r j) = normRow (at2 x) (at2 g) r.val j.val := by
  pointwise [k0_pay1]
  simp only [elem_eq_at2 x, elem_eq_at2 g]
  rfl

theorem proj_read (r : Fin 1024) (j : Fin 3072) : k0_pay2 x g w (ix2 r j) = projRow (at2 x) (at2 g) (at2 w) r.val j.val := by
  pointwise [k0_pay2]
  simp only [norm_read, elem_eq_at2 w]
  rfl

theorem glu_read (r j : Fin 1024) : k0_pay4 x g w (ix2 r j) = gluRow (at2 x) (at2 g) (at2 w) r.val j.val := by
  pointwise [k0_pay4]
  simp only [proj_read, zero_sub]
  rfl

end Blocks

/-- Rows that agree give the same results. -/
theorem norm_shift {X X' G G' : ℕ → ℕ → EReal} {r r' : ℕ} (hX : X r = X' r') (hG : G 0 = G' 0) (j : ℕ) : normRow X G r j = normRow X' G' r' j := by
  simp only [normRow, rms, meanSq, hX, hG]

theorem proj_shift {X X' G G' W W' : ℕ → ℕ → EReal} {r r' : ℕ} (hX : X r = X' r') (hG : G 0 = G' 0) {j : ℕ} (hW : W j = W' j) :
    projRow X G W r j = projRow X' G' W' r' j := by
  simp only [projRow, norm_shift hX hG, hW]

theorem glu_shift {X X' G G' W W' : ℕ → ℕ → EReal} {r r' : ℕ} (hX : X r = X' r') (hG : G 0 = G' 0) {j : ℕ} (hW : W j = W' j) (hW' : W (1024 + j) = W' (1024 + j)) :
    gluRow X G W r j = gluRow X' G' W' r' j := by
  simp only [gluRow, proj_shift hX hG hW, proj_shift hX hG hW']

variable (m : (ℓ : Loc nD τ sig) → Buf (Elt Ideal) ℓ) (c : Dev nD)

/-- The input, the gain and the turned weights at numbers. -/
def aX : ℕ → ℕ → EReal := at2 (n0 := 8192) (n1 := 1024) (m ((c : Thread nD τ).loc main_arg0))
def aG : ℕ → ℕ → EReal := at2 (n0 := 1) (n1 := 1024) (m ((c : Thread nD τ).loc main_arg1))
def aW : ℕ → ℕ → EReal := at2 (turned (m ((c : Thread nD τ).loc main_arg2)))

theorem index_rows : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) := by decide +kernel

theorem rows_x (t : Fin cfg0.N) (p : ℕ) (hp : p < 1024) : at2 (n0 := 1024) (n1 := 1024) (iblk m c 0 t) p = aX m c (1024 * t.val + p) := by
  funext j
  refine at2_block _ _ _ (fun p j => ⟨((cfg0.win 0).rect t).emb (ix2 p j), congrFun (V_main_arg0 m c) _, ?_, ?_⟩) p j hp
  · refine (Pipeline.Window.rect_emb_val (cfg0.win 0) t (ix2 p j) 0).trans ?_
    rw [show (cfg0.win 0).index t 0 = t.val from (index_rows t).1.1]; exact congrArg (· + p.val) (Nat.mul_comm _ _)
  · exact Pipeline.Window.rect_emb_val_of_index_zero (cfg0.win 0) t 1 (index_rows t).1.2 (ix2 p j)

theorem whole_g (t : Fin cfg0.N) : at2 (n0 := 1) (n1 := 1024) (iblk m c 1 t) 0 = aG m c 0 := by
  funext j
  refine (at2_block _ _ 0 (fun p j => ⟨((cfg0.win 1).rect t).emb (ix2 p j), congrFun (V_main_arg1 m c) _, ?_, ?_⟩) 0 j Nat.one_pos).trans rfl
  · exact (Pipeline.Window.rect_emb_val_of_index_zero (cfg0.win 1) t 0 (index_rows t).2.1.1 (ix2 p j)).trans (Nat.zero_add _).symm
  · exact Pipeline.Window.rect_emb_val_of_index_zero (cfg0.win 1) t 1 (index_rows t).2.1.2 (ix2 p j)

/-- What the host hands the kernel for the weights. -/
theorem entry_weights : V m c main_v2 = turned (m ((c : Thread nD τ).loc main_arg2)) := by
  funext y
  rw [eq_ix2 (n0 := 3072) (n1 := 1024) y]
  unfold V
  after_reads_at
  rfl

theorem whole_w (t : Fin cfg0.N) (p : ℕ) (hp : p < 3072) : at2 (n0 := 3072) (n1 := 1024) (iblk m c 2 t) p = aW m c p := by
  funext j
  refine (at2_block _ _ 0 (fun p j => ⟨((cfg0.win 2).rect t).emb (ix2 p j), congrFun (entry_weights m c) _, ?_, ?_⟩) p j hp).trans (by rw [Nat.zero_add]; rfl)
  · exact (Pipeline.Window.rect_emb_val_of_index_zero (cfg0.win 2) t 0 (index_rows t).2.2.1.1 (ix2 p j)).trans (Nat.zero_add _).symm
  · exact Pipeline.Window.rect_emb_val_of_index_zero (cfg0.win 2) t 1 (index_rows t).2.2.1.2 (ix2 p j)

/-- The three results, whole. -/
def normAll : S8192x1024.Idx → EReal := fun i => normRow (aX m c) (aG m c) (i 0).val (i 1).val
def projAll : S8192x3072.Idx → EReal := fun i => projRow (aX m c) (aG m c) (aW m c) (i 0).val (i 1).val
def gluAll : S8192x1024.Idx → EReal := fun i => gluRow (aX m c) (aG m c) (aW m c) (i 0).val (i 1).val

/-- The point whose block holds row `i`. -/
def pointOf (i : ℕ) (h : i < 8192) : Fin cfg0.N := ⟨i / 1024, Nat.div_lt_of_lt_mul h⟩

/-- What the stores of a point leave. -/
theorem stored_norm (t : Fin cfg0.N) : out0_3 (iblk m c 0 t) (iblk m c 1 t) (iblk m c 2 t) = k0_pay1 (iblk m c 0 t) (iblk m c 1 t) := by
  unfold out0_3
  rw [canon_whole (e := .bf16) (n0 := 1024) (n1 := 1024), ld_whole (e := .f32) (n0 := 1024) (n1 := 1024), ld_whole (e := .f32) (n0 := 1) (n1 := 1024)]

theorem stored_proj (t : Fin cfg0.N) : out0_4 (iblk m c 0 t) (iblk m c 1 t) (iblk m c 2 t) = k0_pay2 (iblk m c 0 t) (iblk m c 1 t) (iblk m c 2 t) := by
  unfold out0_4
  rw [canon_whole (e := .bf16) (n0 := 1024) (n1 := 3072), ld_whole (e := .f32) (n0 := 1024) (n1 := 1024), ld_whole (e := .f32) (n0 := 1) (n1 := 1024),
    ld_whole (e := .bf16) (n0 := 3072) (n1 := 1024)]
  rfl

theorem stored_glu (t : Fin cfg0.N) : out0_5 (iblk m c 0 t) (iblk m c 1 t) (iblk m c 2 t) = k0_pay4 (iblk m c 0 t) (iblk m c 1 t) (iblk m c 2 t) := by
  unfold out0_5
  rw [canon_whole (e := .f32) (n0 := 1024) (n1 := 1024), ld_whole (e := .f32) (n0 := 1024) (n1 := 1024), ld_whole (e := .f32) (n0 := 1) (n1 := 1024),
    ld_whole (e := .bf16) (n0 := 3072) (n1 := 1024)]

theorem norm_final : (dats m 0 c).arrAt 3 cfg0.N = normAll m c := by
  funext i
  refine (dats m 0 c).arrAt_forall_of_cover 3 (fun i v => v = normAll m c i) (fun t _ y => ?_) (fun i => ?_) i
  · show (cfg0.win 3).cut (grid0.coords t) ((dats m 0 c).after 3 t) y = _
    rw [after0_3]
    have h0 : ((((cfg0.win 3).rect t).emb y 0 : Fin _) : ℕ) = 1024 * t.val + (y 0).val :=
      (Pipeline.Window.rect_emb_val (cfg0.win 3) t y 0).trans (by
        rw [show (cfg0.win 3).index t 0 = t.val from (index_rows t).2.2.2.1.1]; exact congrArg (· + (y 0).val) (Nat.mul_comm _ _))
    have h1 : ((((cfg0.win 3).rect t).emb y 1 : Fin _) : ℕ) = (y 1).val :=
      Pipeline.Window.rect_emb_val_of_index_zero (cfg0.win 3) t 1 (index_rows t).2.2.2.1.2 y
    refine (congrFun (stored_norm m c t) y).trans ((congrArg (k0_pay1 (iblk m c 0 t) (iblk m c 1 t)) (eq_ix2 (n0 := 1024) (n1 := 1024) y)).trans ((norm_read _ _ (y 0) (y 1)).trans ?_))
    exact (norm_shift (rows_x m c t _ (y 0).isLt) (whole_g m c t) _).trans (congrArg₂ (normRow (aX m c) (aG m c)) h0.symm h1.symm)
  · refine ⟨pointOf (i 0).val (i 0).isLt, flush0_3 _, Finset.mem_map.2 ⟨ix2 ⟨(i 0).val % 1024, Nat.mod_lt _ (by norm_num)⟩ (i 1), Finset.mem_univ _, ?_⟩⟩
    funext a
    apply Fin.ext
    match a with
    | ⟨0, _⟩ =>
      refine (Pipeline.Window.rect_emb_val (cfg0.win 3) (pointOf (i 0).val (i 0).isLt) _ 0).trans ?_
      rw [show (cfg0.win 3).index (pointOf (i 0).val (i 0).isLt) 0 = (i 0).val / 1024 from (index_rows _).2.2.2.1.1]
      exact Nat.div_add_mod' _ _
    | ⟨1, _⟩ => exact Pipeline.Window.rect_emb_val_of_index_zero (cfg0.win 3) _ 1 (index_rows _).2.2.2.1.2 _

theorem proj_final : (dats m 0 c).arrAt 4 cfg0.N = projAll m c := by
  funext i
  refine (dats m 0 c).arrAt_forall_of_cover 4 (fun i v => v = projAll m c i) (fun t _ y => ?_) (fun i => ?_) i
  · show (cfg0.win 4).cut (grid0.coords t) ((dats m 0 c).after 4 t) y = _
    rw [after0_4]
    have h0 : ((((cfg0.win 4).rect t).emb y 0 : Fin _) : ℕ) = 1024 * t.val + (y 0).val :=
      (Pipeline.Window.rect_emb_val (cfg0.win 4) t y 0).trans (by
        rw [show (cfg0.win 4).index t 0 = t.val from (index_rows t).2.2.2.2.1.1]; exact congrArg (· + (y 0).val) (Nat.mul_comm _ _))
    have h1 : ((((cfg0.win 4).rect t).emb y 1 : Fin _) : ℕ) = (y 1).val :=
      Pipeline.Window.rect_emb_val_of_index_zero (cfg0.win 4) t 1 (index_rows t).2.2.2.2.1.2 y
    refine (congrFun (stored_proj m c t) y).trans ((congrArg (k0_pay2 (iblk m c 0 t) (iblk m c 1 t) (iblk m c 2 t)) (eq_ix2 (n0 := 1024) (n1 := 3072) y)).trans ((proj_read _ _ _ (y 0) (y 1)).trans ?_))
    exact (proj_shift (rows_x m c t _ (y 0).isLt) (whole_g m c t) (whole_w m c t _ (y 1).isLt)).trans (congrArg₂ (projRow (aX m c) (aG m c) (aW m c)) h0.symm h1.symm)
  · refine ⟨pointOf (i 0).val (i 0).isLt, flush0_4 _, Finset.mem_map.2 ⟨ix2 ⟨(i 0).val % 1024, Nat.mod_lt _ (by norm_num)⟩ (i 1), Finset.mem_univ _, ?_⟩⟩
    funext a
    apply Fin.ext
    match a with
    | ⟨0, _⟩ =>
      refine (Pipeline.Window.rect_emb_val (cfg0.win 4) (pointOf (i 0).val (i 0).isLt) _ 0).trans ?_
      rw [show (cfg0.win 4).index (pointOf (i 0).val (i 0).isLt) 0 = (i 0).val / 1024 from (index_rows _).2.2.2.2.1.1]
      exact Nat.div_add_mod' _ _
    | ⟨1, _⟩ => exact Pipeline.Window.rect_emb_val_of_index_zero (cfg0.win 4) _ 1 (index_rows _).2.2.2.2.1.2 _

theorem glu_final : (dats m 0 c).arrAt 5 cfg0.N = gluAll m c := by
  funext i
  refine (dats m 0 c).arrAt_forall_of_cover 5 (fun i v => v = gluAll m c i) (fun t _ y => ?_) (fun i => ?_) i
  · show (cfg0.win 5).cut (grid0.coords t) ((dats m 0 c).after 5 t) y = _
    rw [after0_5]
    have h0 : ((((cfg0.win 5).rect t).emb y 0 : Fin _) : ℕ) = 1024 * t.val + (y 0).val :=
      (Pipeline.Window.rect_emb_val (cfg0.win 5) t y 0).trans (by
        rw [show (cfg0.win 5).index t 0 = t.val from (index_rows t).2.2.2.2.2.1]; exact congrArg (· + (y 0).val) (Nat.mul_comm _ _))
    have h1 : ((((cfg0.win 5).rect t).emb y 1 : Fin _) : ℕ) = (y 1).val :=
      Pipeline.Window.rect_emb_val_of_index_zero (cfg0.win 5) t 1 (index_rows t).2.2.2.2.2.2 y
    refine (congrFun (stored_glu m c t) y).trans ((congrArg (k0_pay4 (iblk m c 0 t) (iblk m c 1 t) (iblk m c 2 t)) (eq_ix2 (n0 := 1024) (n1 := 1024) y)).trans ((glu_read _ _ _ (y 0) (y 1)).trans ?_))
    exact (glu_shift (rows_x m c t _ (y 0).isLt) (whole_g m c t) (whole_w m c t _ (by have : (y 1).val < 1024 := (y 1).isLt; omega)) (whole_w m c t _ (by have : (y 1).val < 1024 := (y 1).isLt; omega))).trans
      (congrArg₂ (gluRow (aX m c) (aG m c) (aW m c)) h0.symm h1.symm)
  · refine ⟨pointOf (i 0).val (i 0).isLt, flush0_5 _, Finset.mem_map.2 ⟨ix2 ⟨(i 0).val % 1024, Nat.mod_lt _ (by norm_num)⟩ (i 1), Finset.mem_univ _, ?_⟩⟩
    funext a
    apply Fin.ext
    match a with
    | ⟨0, _⟩ =>
      refine (Pipeline.Window.rect_emb_val (cfg0.win 5) (pointOf (i 0).val (i 0).isLt) _ 0).trans ?_
      rw [show (cfg0.win 5).index (pointOf (i 0).val (i 0).isLt) 0 = (i 0).val / 1024 from (index_rows _).2.2.2.2.2.1]
      exact Nat.div_add_mod' _ _
    | ⟨1, _⟩ => exact Pipeline.Window.rect_emb_val_of_index_zero (cfg0.win 5) _ 1 (index_rows _).2.2.2.2.2.2 _

section Reference
open Cert.Reference5Ideal Cert.Reference5Ideal.Read
variable (x0 : Cert.Reference5Ideal.S8192x1024.Idx → EReal) (x1 : Cert.Reference5Ideal.S1x1024.Idx → EReal) (x2 : Cert.Reference5Ideal.S1x1024x3072.Idx → EReal)

theorem ref_meanSq (i : S8192x1.Idx) : val_main_v6 (F := Ideal) x0 i = meanSq (at2 x0) (i 0).val := by
  rw [val_main_v6_apply, val_main_v4_apply, val_main_v2_apply, val_main_v1_apply, val_main_v3_apply, val_main_cst_0_apply, val_main_v5_apply, val_main_cst_1_apply,
    val_main_cst_apply]
  show Ideal.div (Ideal.ofBits FTy.f32 0x00000000#32 + _) nCols + nEps = _
  rw [Ideal.ofBits_zero_f32, zero_add]
  unfold meanSq
  refine congrArg (fun v : EReal => Ideal.div v nCols + nEps) (Finset.sum_congr rfl fun k _ => ?_)
  rw [val_main_v0_apply, idx_eq_at2 x0]
  rfl

theorem ref_norm (i : Cert.Reference5Ideal.S8192x1024.Idx) : val_main_v11 (F := Ideal) x0 x1 i = normRow (at2 x0) (at2 x1) (i 0).val (i 1).val := by
  rw [val_main_v11_apply, val_main_v9_apply, val_main_v8_apply, val_main_v7_apply, ref_meanSq, val_main_v10_apply, idx_eq_at2 x0, idx_eq_at2 x1]
  rfl

theorem ref_weights (i : Cert.Reference5Ideal.S8192x3072.Idx) (k : Fin 1024) : val_main_v12 (F := Ideal) x2 (ridx_main_v13 i k) = at2 (turned x2) (i 1).val k.val := by
  rw [val_main_v12_apply, ← elem_eq_at2 (turned x2) (i 1) k]
  refine congrArg x2 (funext fun a => Fin.ext ?_)
  have h0 : k.val < 1024 := k.isLt
  have h1 : (i 1).val < 3072 := (i 1).isLt
  match a with
  | ⟨0, _⟩ => rfl
  | ⟨1, _⟩ => show (k.val * 3072 + (i 1).val) / 3072 % 1024 = k.val; omega
  | ⟨2, _⟩ => show (k.val * 3072 + (i 1).val) % 3072 = (i 1).val; omega

theorem ref_proj (i : Cert.Reference5Ideal.S8192x3072.Idx) : val_main_v13 (F := Ideal) x0 x1 x2 i = projRow (at2 x0) (at2 x1) (at2 (turned x2)) (i 0).val (i 1).val := by
  rw [val_main_v13_apply]
  refine Finset.sum_congr rfl fun k _ => ?_
  rw [ref_norm, ref_weights]

theorem ref_glu (i : Cert.Reference5Ideal.S8192x1024.Idx) : val_main_v25 (F := Ideal) x0 x1 x2 i = gluRow (at2 x0) (at2 x1) (at2 (turned x2)) (i 0).val (i 1).val := by
  rw [val_main_v25_apply, val_main_v14_apply, ref_proj, val_main_v24_apply, val_main_v23_apply, val_main_cst_3_apply, val_main_v22_apply, val_main_v21_apply,
    val_main_cst_2_apply, val_main_v20_apply, val_main_v19_apply, val_main_v15_apply, ref_proj]
  show _ * Ideal.div (Ideal.ofBits FTy.f32 0x3F800000#32) (Ideal.ofBits FTy.f32 0x3F800000#32 + Ideal.exp (-(projRow _ _ _ _ (1024 + (i 1).val)))) = _
  rw [Ideal.ofBits_one_f32]
  rfl

end Reference

theorem reference_frame : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

section Match
open Cert.Reference5Ideal.Read
variable {x0 y0 : S8192x1024.Idx → EReal} {x1 y1 : S1x1024.Idx → EReal} {x2 y2 : S1x1024x3072.Idx → EReal}

theorem norm_match (h0 : x0 = y0) (h1 : x1 = y1) : val_main_v17 (F := Ideal) x0 x1 = fun i => normRow (at2 y0) (at2 y1) (i 0).val (i 1).val := by
  subst h0 h1
  exact funext fun i => (val_main_v17_apply (F := Ideal) x0 x1 i).trans (ref_norm x0 x1 i)

theorem proj_match (h0 : x0 = y0) (h1 : x1 = y1) (h2 : x2 = y2) :
    val_main_v18 (F := Ideal) x0 x1 x2 = fun i => projRow (at2 y0) (at2 y1) (at2 (turned y2)) (i 0).val (i 1).val := by
  subst h0 h1 h2
  exact funext fun i => (val_main_v18_apply (F := Ideal) x0 x1 x2 i).trans (ref_proj x0 x1 x2 i)

theorem glu_match (h0 : x0 = y0) (h1 : x1 = y1) (h2 : x2 = y2) :
    val_main_v25 (F := Ideal) x0 x1 x2 = fun i => gluRow (at2 y0) (at2 y1) (at2 (turned y2)) (i 0).val (i 1).val := by
  subst h0 h1 h2
  exact funext fun i => ref_glu x0 x1 x2 i

end Match

theorem equal_results : Cert.algebraic_Kernel5Ideal_Reference5Ideal := by
  intro m g m' g' _ hagree
  refine ⟨normAll m, projAll m, gluAll m, (θ_run Cert.Kernel5Ideal.defs _ _).mono (fun r h c => ⟨(h c).1.trans (norm_final m c),
      (h c).2.1.trans (proj_final m c), (h c).2.2.1.trans (glu_final m c), (h c).2.2.2⟩) (Value.run_blocks m g),
    (θ_run Cert.Reference5Ideal.defs _ _).mono (fun r h c => ?_) (Cert.Reference5Ideal.Value.run (F := Ideal) m' g')⟩
  obtain ⟨a0, a1, a2⟩ := hagree c
  obtain ⟨r0, r1, r2, rest⟩ := h c
  exact ⟨r0.trans (norm_match a0 a1), r1.trans (proj_match a0 a1 a2), r2.trans (glu_match a0 a1 a2), rest⟩

end NormGate.In1
end
-- ==== Proof.OutGrad.Rows.lean ====
/-
  The gradient of the first layer's output side, one row at a time, as the kernel writes it.
-/
module
public import proofs.«01_k».proof.Proof.PoolGrad.Norm
public import proofs.«01_k».proof.Proof.NormGate.In1
@[expose] public section
set_option maxRecDepth 16384
noncomputable section
namespace OutGrad
open Idealize.ShloMosaic PoolGrad
open NormGate.In1 (logi)

/-- An array of three axes read at three natural numbers: its element there, and zero outside of it. -/
def at3 {n0 n1 n2 : ℕ} (A : (⟨3, ![n0, n1, n2]⟩ : Shape).Idx → EReal) (g r c : ℕ) : EReal :=
  if h : g < n0 ∧ r < n1 ∧ c < n2 then A (ix3 ⟨g, h.1⟩ ⟨r, h.2.1⟩ ⟨c, h.2.2⟩) else 0

theorem elem_eq_at3 {n0 n1 n2 : ℕ} (A : (⟨3, ![n0, n1, n2]⟩ : Shape).Idx → EReal) (g : Fin n0) (r : Fin n1) (c : Fin n2) :
    A (ix3 g r c) = at3 A g.val r.val c.val := by
  rw [at3, dif_pos ⟨g.isLt, r.isLt, c.isLt⟩]

theorem idx_eq_at3 {n0 n1 n2 : ℕ} (A : (⟨3, ![n0, n1, n2]⟩ : Shape).Idx → EReal) (y : (⟨3, ![n0, n1, n2]⟩ : Shape).Idx) :
    A y = at3 A (y 0).val (y 1).val (y 2).val := by
  rw [← elem_eq_at3 A (y 0) (y 1) (y 2), ix3_eta]

/-- The reciprocal root mean square of a row. -/
def rowRms (y : ℕ → EReal) : EReal := rms (fun _ => y) 0

/-- The gradient of the norm's input. -/
def dNorm (d y g : ℕ → EReal) (j : ℕ) : EReal :=
  rowRms y * (d j * g j) - y j * (rowRms y * rowRms y * rowRms y) * Ideal.div (∑ k : Fin 1024, y k.val * (d k.val * g k.val)) nCols

/-- A row's contribution to the gradient of the norm's gain. -/
def dGain (d y : ℕ → EReal) (j : ℕ) : EReal := d j * (y j * rowRms y)

/-- The gradient of the mixed rows: the norm's gradient times the transposed weights. -/
def dMix (v : ℕ → EReal) (W : ℕ → ℕ → EReal) (l : ℕ) : EReal := ∑ k : Fin 1024, v k.val * W l k.val

/-- The derivative of `x` times its logistic function. -/
def slope (x : EReal) : EReal := logi x * (1 + x * (1 - logi x))

/-- The pooled row times the four groups' matrices. -/
def mapped (p : ℕ → EReal) (M : ℕ → ℕ → ℕ → EReal) (l : ℕ) : EReal := ∑ k : Fin 128, p (128 * (l / 128) + k.val) * M (l / 128) k.val (l % 128)

section
variable (e u o p : ℕ → EReal) (M : ℕ → ℕ → ℕ → EReal) (s : ℕ → EReal)

/-- The gradients of the attention's output, of its gate, of the scaled pooling and of its gate. -/
def dOut (l : ℕ) : EReal := e l * (u l * logi (u l))
def dGateA (l : ℕ) : EReal := e l * o l * slope (u l)
def dScaled (l : ℕ) : EReal := e (512 + l) * (u (1024 + l) * logi (u (1024 + l)))
def dGateB (l : ℕ) : EReal := e (512 + l) * (mapped p M l * s l) * slope (u (1024 + l))
/-- The gradients of both gates, with the second half of the lanes after the first. -/
def dGates (l : ℕ) : EReal := if l < 512 then dGateA e u o l else dGateB e u p M s (l - 512)
/-- A row's contribution to the gradient of the scale. -/
def dScale (l : ℕ) : EReal := dScaled e u l * mapped p M l
/-- The gradient of the mapped pooled row. -/
def dMapped (l : ℕ) : EReal := dScaled e u l * s l
/-- The gradient of the pooled row. -/
def dPooled (l : ℕ) : EReal := ∑ k : Fin 128, dMapped e u s (128 * (l / 128) + k.val) * M (l / 128) (l % 128) k.val
end

end OutGrad
end
-- ==== Proof.OutGrad.Tile.lean ====
/-
  The kernel's arithmetic at one grid point, read at an element.
-/
module
public import proofs.«01_k».proof.Proof.Gen.Kernel6Ideal.Frame
public import proofs.«01_k».proof.Proof.OutGrad.Rows
@[expose] public section
set_option maxRecDepth 16384
noncomputable section
namespace OutGrad
open Cert.Kernel6Ideal Cert.Kernel6Ideal.Gen Idealize.ShloMosaic Idealize.ShloMosaic.TcCoe Idealize.SL.Sem PoolGrad
open NormGate.In1 (logi)

/-- An element of a box of an array. -/
theorem ld_f32 {n0 n1 b0 b1 : ℕ} (A : Vec Ideal (⟨2, ![n0, n1]⟩ : Shape) .f32) (a0 a1 : ℕ) (inb) (r : Fin b0) (k : Fin b1) :
    View.ld A (Rect.unit (s := ⟨2, ![n0, n1]⟩) ![a0, a1] ![b0, b1] inb) (ix2 r k) = at2 A (a0 + r.val) (a1 + k.val) :=
  emb_eq_at2 A ![a0, a1] ![b0, b1] inb (ix2 r k)

theorem ld_bf16 {n0 n1 b0 b1 : ℕ} (A : Vec Ideal (⟨2, ![n0, n1]⟩ : Shape) .bf16) (a0 a1 : ℕ) (inb) (r : Fin b0) (k : Fin b1) :
    View.ld A (Rect.unit (s := ⟨2, ![n0, n1]⟩) ![a0, a1] ![b0, b1] inb) (ix2 r k) = at2 A (a0 + r.val) (a1 + k.val) :=
  emb_eq_at2 A ![a0, a1] ![b0, b1] inb (ix2 r k)

theorem ld_group {n0 n1 n2 : ℕ} (A : Vec Ideal (⟨3, ![n0, n1, n2]⟩ : Shape) .f32) (a0 : ℕ) (inb) (i : Fin 1) (r : Fin n1) (k : Fin n2) :
    View.ld A (Rect.unit (s := ⟨3, ![n0, n1, n2]⟩) ![a0, 0, 0] ![1, n1, n2] inb) (ix3 i r k) = at3 A a0 r.val k.val := by
  refine (idx_eq_at3 A _).trans ?_
  have h0 := unit_coord (s := ⟨3, ![n0, n1, n2]⟩) ![a0, 0, 0] ![1, n1, n2] inb (ix3 i r k) 0
  have h1 := unit_coord (s := ⟨3, ![n0, n1, n2]⟩) ![a0, 0, 0] ![1, n1, n2] inb (ix3 i r k) 1
  have h2 := unit_coord (s := ⟨3, ![n0, n1, n2]⟩) ![a0, 0, 0] ![1, n1, n2] inb (ix3 i r k) 2
  have hi : i.val = 0 := by omega
  have e0 : ((Rect.unit (s := ⟨3, ![n0, n1, n2]⟩) ![a0, 0, 0] ![1, n1, n2] inb).emb (ix3 i r k) 0 : ℕ) = a0 := h0.trans (by show a0 + i.val = a0; omega)
  have e1 : ((Rect.unit (s := ⟨3, ![n0, n1, n2]⟩) ![a0, 0, 0] ![1, n1, n2] inb).emb (ix3 i r k) 1 : ℕ) = r.val := h1.trans (Nat.zero_add _)
  have e2 : ((Rect.unit (s := ⟨3, ![n0, n1, n2]⟩) ![a0, 0, 0] ![1, n1, n2] inb).emb (ix3 i r k) 2 : ℕ) = k.val := h2.trans (Nat.zero_add _)
  exact (congr (congr (congrArg (at3 A) e0) e1) e2)

section Norm
variable (y : Vec Ideal S512x1024 .f32) (g : Vec Ideal S1x1024 .f32) (d : Vec Ideal S512x1024 .f32) (w : Vec Ideal S1024x1024 .bf16)

theorem norm_read (r : Fin 512) (j : Fin 1024) : k0_pay7 y g d (ix2 r j) = dNorm (at2 d r.val) (at2 y r.val) (at2 g 0) j.val := by
  pointwise [k0_pay7, k0_pay6, k0_pay5]
  simp only [elem_eq_at2 y, elem_eq_at2 g, elem_eq_at2 d]
  rfl

theorem gain_read (a : Vec Ideal S8x1024 .f32) (s : Fin 8) (j : Fin 1024) :
    k0_pay8 y d a (ix2 s j) = at2 a s.val j.val + ∑ q : Fin 64, dGain (at2 d (q.val * 8 + s.val)) (at2 y (q.val * 8 + s.val)) j.val := by
  pointwise [k0_pay8, k0_pay6, k0_pay5]
  simp only [elem_eq_at2 y, elem_eq_at2 a, elem_eq_at2 d]
  rfl

/-- The gradient of the mixed rows, of the norm's gradient `v`. -/
theorem mix_read (v : FVec Ideal S512x1024 .f32) (r : Fin 512) (l : Fin 1024) : k0_pay12 v w (ix2 r l) = dMix (at2 v r.val) (at2 w) l.val := by
  pointwise [k0_pay12, k0_pay9]
  simp only [elem_eq_at2 v, elem_eq_at2 w]
  rfl

theorem halves_read (v : FVec Ideal S512x1024 .f32) (r l : Fin 512) :
    k0_pay13 v w (ix2 r l) = dMix (at2 v r.val) (at2 w) l.val ∧ k0_pay14 v w (ix2 r l) = dMix (at2 v r.val) (at2 w) (512 + l.val) := by
  constructor
  · pointwise [k0_pay13]
    exact mix_read w v _ _
  · pointwise [k0_pay14]
    exact mix_read w v _ _

theorem weights_read (v : FVec Ideal S512x1024 .f32) (x : Vec Ideal S512x1024 .bf16) (a : Vec Ideal S1024x1024 .f32) (i j : Fin 1024) :
    k0_pay11 v x a (ix2 i j) = at2 a i.val j.val + ∑ q : Fin 512, at2 x q.val i.val * at2 v q.val j.val := by
  pointwise [k0_pay11, k0_pay9]
  simp only [elem_eq_at2 v, elem_eq_at2 x, elem_eq_at2 a]
end Norm

section Gates
variable (u v : Vec Ideal S512x512 .bf16) (e f z : FVec Ideal S512x512 .f32) (o : Vec Ideal S512x512 .f32)

theorem out_read (r l : Fin 512) : k0_pay19 e (k0_pay15 u) (k0_pay17 u) (ix2 r l) = at2 e r.val l.val * (at2 u r.val l.val * logi (at2 u r.val l.val)) := by
  pointwise [k0_pay19, k0_pay15, k0_pay17]
  simp only [elem_eq_at2 u, elem_eq_at2 e, zero_sub]
  rfl

theorem gateA_read (r l : Fin 512) : k0_pay20 e (k0_pay15 u) (k0_pay17 u) o (ix2 r l) = at2 e r.val l.val * at2 o r.val l.val * slope (at2 u r.val l.val) := by
  pointwise [k0_pay20, k0_pay15, k0_pay17]
  simp only [elem_eq_at2 u, elem_eq_at2 e, elem_eq_at2 o, zero_sub]
  rfl

theorem scaled_read (r l : Fin 512) : k0_pay21 e (k0_pay16 u) (k0_pay18 u) (ix2 r l) = at2 e r.val l.val * (at2 u r.val l.val * logi (at2 u r.val l.val)) := by
  pointwise [k0_pay21, k0_pay16, k0_pay18]
  simp only [elem_eq_at2 u, elem_eq_at2 e, zero_sub]
  rfl

theorem slope_read (r l : Fin 512) : k0_pay22 (k0_pay16 u) (k0_pay18 u) (ix2 r l) = slope (at2 u r.val l.val) := by
  pointwise [k0_pay22, k0_pay16, k0_pay18]
  simp only [elem_eq_at2 u, zero_sub]
  rfl
end Gates

section Groups
variable (e b z : FVec Ideal S512x512 .f32) (u : Vec Ideal S512x512 .bf16) (p : Vec Ideal S512x512 .bf16) (M : Vec Ideal S4x128x128 .f32) (s : Vec Ideal S1x512 .f32)

/-- The loads of one group of lanes. -/
def pG (i : ℕ) (h : ∀ a, (![0, i] : Fin 2 → ℕ) a + S512x128.size a ≤ S512x512.size a) : Vec Ideal S512x128 .bf16 := View.ld p (Rect.unit (s := S512x512) ![0, i] ![512, 128] h)
def mG (i : ℕ) (h : ∀ a, (![i, 0, 0] : Fin 3 → ℕ) a + S1x128x128.size a ≤ S4x128x128.size a) : Vec Ideal S1x128x128 .f32 := View.ld M (Rect.unit (s := S4x128x128) ![i, 0, 0] ![1, 128, 128] h)
def sG (i : ℕ) (h : ∀ a, (![0, i] : Fin 2 → ℕ) a + S1x128.size a ≤ S1x512.size a) : Vec Ideal S1x128 .f32 := View.ld s (Rect.unit (s := S1x512) ![0, i] ![1, 128] h)

theorem pG_read (i : ℕ) (h) (r : Fin 512) (k : Fin 128) : pG p i h (ix2 r k) = at2 p r.val (i + k.val) :=
  (ld_bf16 (n0 := 512) (n1 := 512) p 0 i h r k).trans (congrArg (at2 p · _) (Nat.zero_add _))
theorem mG_read (i : ℕ) (h) (j : Fin 1) (r k : Fin 128) : mG M i h (ix3 j r k) = at3 M i r.val k.val := ld_group M i h j r k
theorem sG_read (i : ℕ) (h) (r : Fin 1) (k : Fin 128) : sG s i h (ix2 r k) = at2 s 0 (i + k.val) :=
  (ld_f32 (n0 := 1) (n1 := 512) s 0 i h r k).trans (congrArg (at2 s · _) (by omega))

/-- The four groups of the mapped pooled rows. -/
theorem mapped_groups (r : Fin 512) (l : Fin 128) :
    k0_pay24 (pG p 0 inb_S512x512_S512x128_0_0) (mG M 0 inb_S4x128x128_S1x128x128_0_0_0) (ix2 r l) = mapped (at2 p r.val) (at3 M) l.val
    ∧ k0_pay31 (pG p 128 inb_S512x512_S512x128_0_128) (mG M 1 inb_S4x128x128_S1x128x128_1_0_0) (ix2 r l) = mapped (at2 p r.val) (at3 M) (128 + l.val)
    ∧ k0_pay38 (pG p 256 inb_S512x512_S512x128_0_256) (mG M 2 inb_S4x128x128_S1x128x128_2_0_0) (ix2 r l) = mapped (at2 p r.val) (at3 M) (256 + l.val)
    ∧ k0_pay47 (pG p 384 inb_S512x512_S512x128_0_384) (mG M 3 inb_S4x128x128_S1x128x128_3_0_0) (ix2 r l) = mapped (at2 p r.val) (at3 M) (384 + l.val) := by
  refine ⟨?_, ?_, ?_, ?_⟩
  · pointwise [k0_pay24, k0_pay23]
    simp only [pG_read, mG_read, mapped, show l.val / 128 = 0 by omega, show l.val % 128 = l.val by omega]
  · pointwise [k0_pay31, k0_pay30]
    simp only [pG_read, mG_read, mapped, show (128 + l.val) / 128 = 1 by omega, show (128 + l.val) % 128 = l.val by omega]
  · pointwise [k0_pay38, k0_pay37]
    simp only [pG_read, mG_read, mapped, show (256 + l.val) / 128 = 2 by omega, show (256 + l.val) % 128 = l.val by omega]
  · pointwise [k0_pay47, k0_pay46]
    simp only [pG_read, mG_read, mapped, show (384 + l.val) / 128 = 3 by omega, show (384 + l.val) % 128 = l.val by omega]

/-- The gradient of the pooling's gate in lane `c`, of the gradient `e`, the derivative `b` of the gate and the mapped rows. -/
def gateRow (r c : ℕ) : EReal := at2 e r c * (mapped (at2 p r) (at3 M) c * at2 s 0 c) * at2 b r c

theorem gate_groups (r : Fin 512) (l : Fin 128) (hb : b = k0_pay22 (k0_pay16 u) (k0_pay18 u)) :
    k0_pay25 e (k0_pay16 u) (k0_pay18 u) (pG p 0 inb_S512x512_S512x128_0_0) (mG M 0 inb_S4x128x128_S1x128x128_0_0_0) (sG s 0 inb_S1x512_S1x128_0_0) (ix2 r l) = gateRow e b p M s r.val l.val
    ∧ k0_pay32 e b (pG p 128 inb_S512x512_S512x128_0_128) (mG M 1 inb_S4x128x128_S1x128x128_1_0_0) (sG s 128 inb_S1x512_S1x128_0_128) (ix2 r l) = gateRow e b p M s r.val (128 + l.val)
    ∧ k0_pay41 b (k0_pay39 e) (k0_pay40 (pG p 256 inb_S512x512_S512x128_0_256) (mG M 2 inb_S4x128x128_S1x128x128_2_0_0) (sG s 256 inb_S1x512_S1x128_0_256)) (ix2 r l) = gateRow e b p M s r.val (256 + l.val)
    ∧ k0_pay48 e b (k0_pay47 (pG p 384 inb_S512x512_S512x128_0_384) (mG M 3 inb_S4x128x128_S1x128x128_3_0_0)) (sG s 384 inb_S1x512_S1x128_0_384) (ix2 r l) = gateRow e b p M s r.val (384 + l.val) := by
  obtain ⟨m0, m1, m2, m3⟩ := mapped_groups p M r l
  refine ⟨?_, ?_, ?_, ?_⟩
  · pointwise [k0_pay25]
    simp only [← hb, m0, sG_read, elem_eq_at2 e, elem_eq_at2 b, Nat.zero_add]
    rfl
  · pointwise [k0_pay32]
    rw [m1, sG_read, elem_eq_at2 e, elem_eq_at2 b]
    rfl
  · pointwise [k0_pay41, k0_pay39, k0_pay40]
    rw [m2, sG_read, elem_eq_at2 e, elem_eq_at2 b]
    rfl
  · pointwise [k0_pay48]
    rw [m3, sG_read, elem_eq_at2 e, elem_eq_at2 b]
    rfl

/-- Eight running rows of the gradient of the scale. -/
def scaleRows (o : ℕ → ℕ → EReal) (q0 c : ℕ) : EReal := o q0 c + ∑ q : Fin 64, at2 z (q.val * 8 + q0) c * mapped (at2 p (q.val * 8 + q0)) (at3 M) c

def oG (o : Vec Ideal S8x512 .f32) (i : ℕ) (h : ∀ a, (![0, i] : Fin 2 → ℕ) a + S8x128.size a ≤ S8x512.size a) : Vec Ideal S8x128 .f32 := View.ld o (Rect.unit (s := S8x512) ![0, i] ![8, 128] h)
theorem oG_read (o : Vec Ideal S8x512 .f32) (i : ℕ) (h) (r : Fin 8) (k : Fin 128) : oG o i h (ix2 r k) = at2 o r.val (i + k.val) :=
  (ld_f32 (n0 := 8) (n1 := 512) o 0 i h r k).trans (congrArg (at2 o · _) (Nat.zero_add _))

theorem scale_groups (o : Vec Ideal S8x512 .f32) (r : Fin 8) (l : Fin 128) :
    k0_pay26 z (k0_pay24 (pG p 0 inb_S512x512_S512x128_0_0) (mG M 0 inb_S4x128x128_S1x128x128_0_0_0)) (oG o 0 inb_S8x512_S8x128_0_0) (ix2 r l) = scaleRows z p M (at2 o) r.val l.val
    ∧ k0_pay33 z (k0_pay31 (pG p 128 inb_S512x512_S512x128_0_128) (mG M 1 inb_S4x128x128_S1x128x128_1_0_0)) (oG o 128 inb_S8x512_S8x128_0_128) (ix2 r l) = scaleRows z p M (at2 o) r.val (128 + l.val)
    ∧ k0_pay42 z (k0_pay38 (pG p 256 inb_S512x512_S512x128_0_256) (mG M 2 inb_S4x128x128_S1x128x128_2_0_0)) (oG o 256 inb_S8x512_S8x128_0_256) (ix2 r l) = scaleRows z p M (at2 o) r.val (256 + l.val)
    ∧ k0_pay49 z (k0_pay47 (pG p 384 inb_S512x512_S512x128_0_384) (mG M 3 inb_S4x128x128_S1x128x128_3_0_0)) (oG o 384 inb_S8x512_S8x128_0_384) (ix2 r l) = scaleRows z p M (at2 o) r.val (384 + l.val) := by
  refine ⟨?_, ?_, ?_, ?_⟩
  · pointwise [k0_pay26]
    simp only [(mapped_groups p M _ l).1, oG_read, elem_eq_at2 z, Nat.zero_add]
    rfl
  · pointwise [k0_pay33]
    simp only [(mapped_groups p M _ l).2.1, oG_read, elem_eq_at2 z]
    rfl
  · pointwise [k0_pay42]
    simp only [(mapped_groups p M _ l).2.2.1, oG_read, elem_eq_at2 z]
    rfl
  · pointwise [k0_pay49]
    simp only [(mapped_groups p M _ l).2.2.2, oG_read, elem_eq_at2 z]
    rfl

/-- The gradient of the mapped rows, in each group. -/
theorem dmapped_groups (r : Fin 512) (l : Fin 128) :
    k0_pay27 z (sG s 0 inb_S1x512_S1x128_0_0) (ix2 r l) = at2 z r.val l.val * at2 s 0 l.val
    ∧ k0_pay34 z (sG s 128 inb_S1x512_S1x128_0_128) (ix2 r l) = at2 z r.val (128 + l.val) * at2 s 0 (128 + l.val)
    ∧ k0_pay43 z (sG s 256 inb_S1x512_S1x128_0_256) (ix2 r l) = at2 z r.val (256 + l.val) * at2 s 0 (256 + l.val)
    ∧ k0_pay50 z (sG s 384 inb_S1x512_S1x128_0_384) (ix2 r l) = at2 z r.val (384 + l.val) * at2 s 0 (384 + l.val) := by
  refine ⟨?_, ?_, ?_, ?_⟩
  · pointwise [k0_pay27]
    simp only [sG_read, elem_eq_at2 z, Nat.zero_add]
  · pointwise [k0_pay34]
    rw [sG_read, elem_eq_at2 z]
  · pointwise [k0_pay43]
    rw [sG_read, elem_eq_at2 z]
  · pointwise [k0_pay50]
    rw [sG_read, elem_eq_at2 z]

/-- The gradient of the pooled rows, of the gradient `z` of the scaled rows. -/
def pooledRow (r c : ℕ) : EReal := ∑ k : Fin 128, at2 z r (128 * (c / 128) + k.val) * at2 s 0 (128 * (c / 128) + k.val) * at3 M (c / 128) (c % 128) k.val

theorem pooled_groups (r : Fin 512) (l : Fin 128) :
    k0_pay28 z (k0_pay23 (mG M 0 inb_S4x128x128_S1x128x128_0_0_0)) (sG s 0 inb_S1x512_S1x128_0_0) (ix2 r l) = pooledRow z M s r.val l.val
    ∧ k0_pay35 z (k0_pay30 (mG M 1 inb_S4x128x128_S1x128x128_1_0_0)) (sG s 128 inb_S1x512_S1x128_0_128) (ix2 r l) = pooledRow z M s r.val (128 + l.val)
    ∧ k0_pay44 z (k0_pay37 (mG M 2 inb_S4x128x128_S1x128x128_2_0_0)) (sG s 256 inb_S1x512_S1x128_0_256) (ix2 r l) = pooledRow z M s r.val (256 + l.val)
    ∧ k0_pay51 z (k0_pay46 (mG M 3 inb_S4x128x128_S1x128x128_3_0_0)) (sG s 384 inb_S1x512_S1x128_0_384) (ix2 r l) = pooledRow z M s r.val (384 + l.val) := by
  refine ⟨?_, ?_, ?_, ?_⟩
  · pointwise [k0_pay28, k0_pay23]
    simp only [(dmapped_groups z s r _).1, mG_read, pooledRow, show l.val / 128 = 0 by omega, show l.val % 128 = l.val by omega, Nat.mul_zero, Nat.zero_add]
  · pointwise [k0_pay35, k0_pay30]
    simp only [(dmapped_groups z s r _).2.1, mG_read, pooledRow, show (128 + l.val) / 128 = 1 by omega, show (128 + l.val) % 128 = l.val by omega]
  · pointwise [k0_pay44, k0_pay37]
    simp only [(dmapped_groups z s r _).2.2.1, mG_read, pooledRow, show (256 + l.val) / 128 = 2 by omega, show (256 + l.val) % 128 = l.val by omega]
  · pointwise [k0_pay51, k0_pay46]
    simp only [(dmapped_groups z s r _).2.2.2, mG_read, pooledRow, show (384 + l.val) / 128 = 3 by omega, show (384 + l.val) % 128 = l.val by omega]

/-- The gradient of the groups' matrices: what was there and the block's products. -/
def mapSum (o : ℕ → ℕ → ℕ → EReal) (g a c : ℕ) : EReal := o g a c + ∑ q : Fin 512, at2 p q.val (128 * g + a) * (at2 z q.val (128 * g + c) * at2 s 0 (128 * g + c))

theorem map_groups (o : Vec Ideal S4x128x128 .f32) (j : Fin 1) (a c : Fin 128) :
    k0_pay29 z (pG p 0 inb_S512x512_S512x128_0_0) (sG s 0 inb_S1x512_S1x128_0_0) (mG o 0 inb_S4x128x128_S1x128x128_0_0_0) (ix3 j a c) = mapSum z p s (at3 o) 0 a.val c.val
    ∧ k0_pay36 z (pG p 128 inb_S512x512_S512x128_0_128) (sG s 128 inb_S1x512_S1x128_0_128) (mG o 1 inb_S4x128x128_S1x128x128_1_0_0) (ix3 j a c) = mapSum z p s (at3 o) 1 a.val c.val
    ∧ k0_pay45 z (pG p 256 inb_S512x512_S512x128_0_256) (sG s 256 inb_S1x512_S1x128_0_256) (mG o 2 inb_S4x128x128_S1x128x128_2_0_0) (ix3 j a c) = mapSum z p s (at3 o) 2 a.val c.val
    ∧ k0_pay52 z (pG p 384 inb_S512x512_S512x128_0_384) (sG s 384 inb_S1x512_S1x128_0_384) (mG o 3 inb_S4x128x128_S1x128x128_3_0_0) (ix3 j a c) = mapSum z p s (at3 o) 3 a.val c.val := by
  refine ⟨?_, ?_, ?_, ?_⟩
  · pointwise [k0_pay29]
    simp only [(dmapped_groups z s _ c).1, mG_read, pG_read, mapSum, Nat.mul_zero, Nat.zero_add]
  · pointwise [k0_pay36]
    simp only [(dmapped_groups z s _ c).2.1, mG_read, pG_read, mapSum]
  · pointwise [k0_pay45]
    simp only [(dmapped_groups z s _ c).2.2.1, mG_read, pG_read, mapSum]
  · pointwise [k0_pay52]
    simp only [(dmapped_groups z s _ c).2.2.2, mG_read, pG_read, mapSum]

end Groups
end OutGrad
end
-- ==== Proof.OutGrad.Stores.lean ====
/-
  What the stores of one grid point leave in the result blocks that are stored in groups of lanes.
-/
module
public import proofs.«01_k».proof.Proof.OutGrad.Tile
public import Idealize.ShloMosaic.Lib.Pipeline.ReadBack
@[expose] public section
set_option maxRecDepth 16384
noncomputable section
namespace OutGrad
open Cert.Kernel6Ideal Cert.Kernel6Ideal.Gen Idealize.ShloMosaic Idealize.ShloMosaic.TcCoe Idealize.SL.Sem PoolGrad

variable (e b z f : FVec Ideal S512x512 .f32) (u v : Vec Ideal S512x512 .bf16) (p : Vec Ideal S512x512 .bf16) (M : Vec Ideal S4x128x128 .f32)
  (s : Vec Ideal S1x512 .f32) (o : Vec Ideal S512x512 .f32)

/-- One group of lanes of a block of a result that is `G` at its coordinates. -/
theorem group2 {n0 n1 b0 b1 : ℕ} (G : ℕ → ℕ → EReal) (i : ℕ) (inb) (P : (⟨2, ![b0, b1]⟩ : Shape).Idx → EReal)
    (h : ∀ (r : Fin b0) (l : Fin b1), P (ix2 r l) = G r.val (i + l.val)) (x : (⟨2, ![b0, b1]⟩ : Shape).Idx) :
    P x = G ((Rect.unit (s := ⟨2, ![n0, n1]⟩) ![0, i] ![b0, b1] inb).emb x 0).val ((Rect.unit (s := ⟨2, ![n0, n1]⟩) ![0, i] ![b0, b1] inb).emb x 1).val :=
  (congrArg P (eq_ix2 (n0 := b0) (n1 := b1) x)).trans ((h (x 0) (x 1)).trans (congrArg₂ G
    ((unit_coord (s := ⟨2, ![n0, n1]⟩) ![0, i] ![b0, b1] inb x 0).trans (Nat.zero_add _)).symm
    (unit_coord (s := ⟨2, ![n0, n1]⟩) ![0, i] ![b0, b1] inb x 1).symm))

theorem group3 {n0 n1 n2 : ℕ} (G : ℕ → ℕ → ℕ → EReal) (i : ℕ) (inb) (P : (⟨3, ![1, n1, n2]⟩ : Shape).Idx → EReal)
    (h : ∀ (j : Fin 1) (r : Fin n1) (l : Fin n2), P (ix3 j r l) = G i r.val l.val) (x : (⟨3, ![1, n1, n2]⟩ : Shape).Idx) :
    P x = G ((Rect.unit (s := ⟨3, ![n0, n1, n2]⟩) ![i, 0, 0] ![1, n1, n2] inb).emb x 0).val
      ((Rect.unit (s := ⟨3, ![n0, n1, n2]⟩) ![i, 0, 0] ![1, n1, n2] inb).emb x 1).val ((Rect.unit (s := ⟨3, ![n0, n1, n2]⟩) ![i, 0, 0] ![1, n1, n2] inb).emb x 2).val := by
  have e0 := (unit_coord (s := ⟨3, ![n0, n1, n2]⟩) ![i, 0, 0] ![1, n1, n2] inb x 0).trans (show i + (x 0).val = i by have : (x 0).val < 1 := (x 0).isLt; omega)
  have e1 := (unit_coord (s := ⟨3, ![n0, n1, n2]⟩) ![i, 0, 0] ![1, n1, n2] inb x 1).trans (Nat.zero_add _)
  have e2 := (unit_coord (s := ⟨3, ![n0, n1, n2]⟩) ![i, 0, 0] ![1, n1, n2] inb x 2).trans (Nat.zero_add _)
  refine (congrArg P (ix3_eta (n0 := 1) (n1 := n1) (n2 := n2) x).symm).trans ((h (x 0) (x 1) (x 2)).trans ?_)
  exact (congr (congr (congrArg G e0) e1) e2).symm

/-- Both gates' gradients. -/
def gatesBlk (r c : ℕ) : EReal := if c < 512 then at2 (k0_pay20 e (k0_pay15 u) (k0_pay17 u) o) r c else gateRow f b p M s r (c - 512)

theorem gates_canon (hb : b = k0_pay22 (k0_pay16 v) (k0_pay18 v)) (L : List (View.Piece (Elt Ideal) S512x1024 .bf16)) (y : S512x1024.Idx) :
    View.canon (Val := Elt Ideal) (s := S512x1024) (e := .bf16)
     ([⟨Rect.unit ![0, 896] ![512, 128] inb_S512x1024_S512x128_0_896, k0_pay48 f b (k0_pay47 (pG p 384 inb_S512x512_S512x128_0_384) (mG M 3 inb_S4x128x128_S1x128x128_3_0_0)) (sG s 384 inb_S1x512_S1x128_0_384)⟩,
      ⟨Rect.unit ![0, 768] ![512, 128] inb_S512x1024_S512x128_0_768, k0_pay41 b (k0_pay39 f) (k0_pay40 (pG p 256 inb_S512x512_S512x128_0_256) (mG M 2 inb_S4x128x128_S1x128x128_2_0_0) (sG s 256 inb_S1x512_S1x128_0_256))⟩,
      ⟨Rect.unit ![0, 640] ![512, 128] inb_S512x1024_S512x128_0_640, k0_pay32 f b (pG p 128 inb_S512x512_S512x128_0_128) (mG M 1 inb_S4x128x128_S1x128x128_1_0_0) (sG s 128 inb_S1x512_S1x128_0_128)⟩,
      ⟨Rect.unit ![0, 512] ![512, 128] inb_S512x1024_S512x128_0_512, k0_pay25 f (k0_pay16 v) (k0_pay18 v) (pG p 0 inb_S512x512_S512x128_0_0) (mG M 0 inb_S4x128x128_S1x128x128_0_0_0) (sG s 0 inb_S1x512_S1x128_0_0)⟩,
      ⟨Rect.unit ![0, 0] ![512, 512] inb_S512x1024_S512x512_0_0, k0_pay20 e (k0_pay15 u) (k0_pay17 u) o⟩] ++ L) y
      = gatesBlk e b f u p M s o (y 0).val (y 1).val := by
  refine View.canon_append_of_piecesOf (Val := Elt Ideal) (e := .bf16) (fun y : S512x1024.Idx => gatesBlk e b f u p M s o (y 0).val (y 1).val) L _ ?_ y ?_
  · have hg := fun r l => gate_groups f b v p M s r l hb
    refine ⟨group2 _ 896 inb_S512x1024_S512x128_0_896 _ fun r l => ((hg r l).2.2.2).trans ?_, group2 _ 768 inb_S512x1024_S512x128_0_768 _ fun r l => ((hg r l).2.2.1).trans ?_, group2 _ 640 inb_S512x1024_S512x128_0_640 _ fun r l => ((hg r l).2.1).trans ?_,
      group2 _ 512 inb_S512x1024_S512x128_0_512 _ fun r l => ((hg r l).1).trans ?_, group2 _ 0 inb_S512x1024_S512x512_0_0 _ fun r l => (elem_eq_at2 _ r l).trans ?_, trivial⟩
    · rw [gatesBlk, if_neg (by omega)]; congr 1; omega
    · rw [gatesBlk, if_neg (by omega)]; congr 1; omega
    · rw [gatesBlk, if_neg (by omega)]; congr 1; omega
    · rw [gatesBlk, if_neg (by omega)]; congr 1; omega
    · rw [gatesBlk, if_pos (by omega), Nat.zero_add]
  · have h0 : (y 0).val < 512 := (y 0).isLt
    have h1 : (y 1).val < 1024 := (y 1).isLt
    simp only [List.exists_mem_cons_iff, Rect.mem_set_unit, Fin.forall_fin_two, Matrix.cons_val_zero, Matrix.cons_val_one]
    simp only [List.not_mem_nil, false_and, exists_false, or_false]
    omega

theorem pooled_canon (L : List (View.Piece (Elt Ideal) S512x512 .f32)) (y : S512x512.Idx) :
    View.canon (Val := Elt Ideal) (s := S512x512) (e := .f32)
     ([⟨Rect.unit ![0, 384] ![512, 128] inb_S512x512_S512x128_0_384, k0_pay51 z (k0_pay46 (mG M 3 inb_S4x128x128_S1x128x128_3_0_0)) (sG s 384 inb_S1x512_S1x128_0_384)⟩,
      ⟨Rect.unit ![0, 256] ![512, 128] inb_S512x512_S512x128_0_256, k0_pay44 z (k0_pay37 (mG M 2 inb_S4x128x128_S1x128x128_2_0_0)) (sG s 256 inb_S1x512_S1x128_0_256)⟩,
      ⟨Rect.unit ![0, 128] ![512, 128] inb_S512x512_S512x128_0_128, k0_pay35 z (k0_pay30 (mG M 1 inb_S4x128x128_S1x128x128_1_0_0)) (sG s 128 inb_S1x512_S1x128_0_128)⟩,
      ⟨Rect.unit ![0, 0] ![512, 128] inb_S512x512_S512x128_0_0, k0_pay28 z (k0_pay23 (mG M 0 inb_S4x128x128_S1x128x128_0_0_0)) (sG s 0 inb_S1x512_S1x128_0_0)⟩] ++ L) y
      = pooledRow z M s (y 0).val (y 1).val := by
  refine View.canon_append_of_piecesOf (Val := Elt Ideal) (e := .f32) (fun y : S512x512.Idx => pooledRow z M s (y 0).val (y 1).val) L _ ?_ y ?_
  · have hg := pooled_groups z M s
    exact ⟨group2 _ 384 inb_S512x512_S512x128_0_384 _ fun r l => (hg r l).2.2.2, group2 _ 256 inb_S512x512_S512x128_0_256 _ fun r l => (hg r l).2.2.1, group2 _ 128 inb_S512x512_S512x128_0_128 _ fun r l => (hg r l).2.1,
      group2 _ 0 inb_S512x512_S512x128_0_0 _ fun r l => (hg r l).1.trans (congrArg _ (Nat.zero_add _).symm), trivial⟩
  · have h0 : (y 0).val < 512 := (y 0).isLt
    have h1 : (y 1).val < 512 := (y 1).isLt
    simp only [List.exists_mem_cons_iff, Rect.mem_set_unit, Fin.forall_fin_two, Matrix.cons_val_zero, Matrix.cons_val_one]
    simp only [List.not_mem_nil, false_and, exists_false, or_false]
    omega

/-- The running rows of the scale's gradient, over whatever was stored before. -/
theorem scale_canon (w : Vec Ideal S8x512 .f32) (L : List (View.Piece (Elt Ideal) S8x512 .f32)) (y : S8x512.Idx) :
    View.canon (Val := Elt Ideal) (s := S8x512) (e := .f32)
     ([⟨Rect.unit ![0, 384] ![8, 128] inb_S8x512_S8x128_0_384, k0_pay49 z (k0_pay47 (pG p 384 inb_S512x512_S512x128_0_384) (mG M 3 inb_S4x128x128_S1x128x128_3_0_0)) (oG w 384 inb_S8x512_S8x128_0_384)⟩,
      ⟨Rect.unit ![0, 256] ![8, 128] inb_S8x512_S8x128_0_256, k0_pay42 z (k0_pay38 (pG p 256 inb_S512x512_S512x128_0_256) (mG M 2 inb_S4x128x128_S1x128x128_2_0_0)) (oG w 256 inb_S8x512_S8x128_0_256)⟩,
      ⟨Rect.unit ![0, 128] ![8, 128] inb_S8x512_S8x128_0_128, k0_pay33 z (k0_pay31 (pG p 128 inb_S512x512_S512x128_0_128) (mG M 1 inb_S4x128x128_S1x128x128_1_0_0)) (oG w 128 inb_S8x512_S8x128_0_128)⟩,
      ⟨Rect.unit ![0, 0] ![8, 128] inb_S8x512_S8x128_0_0, k0_pay26 z (k0_pay24 (pG p 0 inb_S512x512_S512x128_0_0) (mG M 0 inb_S4x128x128_S1x128x128_0_0_0)) (oG w 0 inb_S8x512_S8x128_0_0)⟩] ++ L) y
      = scaleRows z p M (at2 w) (y 0).val (y 1).val := by
  refine View.canon_append_of_piecesOf (fun y : S8x512.Idx => scaleRows z p M (at2 w) (y 0).val (y 1).val) L _ ?_ y ?_
  · have hg := scale_groups z p M w
    exact ⟨group2 _ 384 inb_S8x512_S8x128_0_384 _ fun r l => (hg r l).2.2.2, group2 _ 256 inb_S8x512_S8x128_0_256 _ fun r l => (hg r l).2.2.1, group2 _ 128 inb_S8x512_S8x128_0_128 _ fun r l => (hg r l).2.1,
      group2 _ 0 inb_S8x512_S8x128_0_0 _ fun r l => (hg r l).1.trans (congrArg _ (Nat.zero_add _).symm), trivial⟩
  · have h0 : (y 0).val < 8 := (y 0).isLt
    have h1 : (y 1).val < 512 := (y 1).isLt
    simp only [List.exists_mem_cons_iff, Rect.mem_set_unit, Fin.forall_fin_two, Matrix.cons_val_zero, Matrix.cons_val_one]
    simp only [List.not_mem_nil, false_and, exists_false, or_false]
    omega

/-- The running products of the groups' matrices, over whatever was stored before. -/
theorem map_canon (w : Vec Ideal S4x128x128 .f32) (L : List (View.Piece (Elt Ideal) S4x128x128 .f32)) (y : S4x128x128.Idx) :
    View.canon (Val := Elt Ideal) (s := S4x128x128) (e := .f32)
     ([⟨Rect.unit ![3, 0, 0] ![1, 128, 128] inb_S4x128x128_S1x128x128_3_0_0, k0_pay52 z (pG p 384 inb_S512x512_S512x128_0_384) (sG s 384 inb_S1x512_S1x128_0_384) (mG w 3 inb_S4x128x128_S1x128x128_3_0_0)⟩,
      ⟨Rect.unit ![2, 0, 0] ![1, 128, 128] inb_S4x128x128_S1x128x128_2_0_0, k0_pay45 z (pG p 256 inb_S512x512_S512x128_0_256) (sG s 256 inb_S1x512_S1x128_0_256) (mG w 2 inb_S4x128x128_S1x128x128_2_0_0)⟩,
      ⟨Rect.unit ![1, 0, 0] ![1, 128, 128] inb_S4x128x128_S1x128x128_1_0_0, k0_pay36 z (pG p 128 inb_S512x512_S512x128_0_128) (sG s 128 inb_S1x512_S1x128_0_128) (mG w 1 inb_S4x128x128_S1x128x128_1_0_0)⟩,
      ⟨Rect.unit ![0, 0, 0] ![1, 128, 128] inb_S4x128x128_S1x128x128_0_0_0, k0_pay29 z (pG p 0 inb_S512x512_S512x128_0_0) (sG s 0 inb_S1x512_S1x128_0_0) (mG w 0 inb_S4x128x128_S1x128x128_0_0_0)⟩] ++ L) y
      = mapSum z p s (at3 w) (y 0).val (y 1).val (y 2).val := by
  refine View.canon_append_of_piecesOf (fun y : S4x128x128.Idx => mapSum z p s (at3 w) (y 0).val (y 1).val (y 2).val) L _ ?_ y ?_
  · have hg := map_groups z p s w
    exact ⟨group3 _ 3 inb_S4x128x128_S1x128x128_3_0_0 _ fun j r l => (hg j r l).2.2.2, group3 _ 2 inb_S4x128x128_S1x128x128_2_0_0 _ fun j r l => (hg j r l).2.2.1, group3 _ 1 inb_S4x128x128_S1x128x128_1_0_0 _ fun j r l => (hg j r l).2.1,
      group3 _ 0 inb_S4x128x128_S1x128x128_0_0_0 _ fun j r l => (hg j r l).1, trivial⟩
  · have h0 : (y 0).val < 4 := (y 0).isLt
    have h1 : (y 1).val < 128 := (y 1).isLt
    have h2 : (y 2).val < 128 := (y 2).isLt
    simp only [List.exists_mem_cons_iff, Rect.mem_set_unit, Fin.forall_fin_succ, Fin.forall_fin_two, Matrix.cons_val_zero, Matrix.cons_val_succ]
    simp only [List.not_mem_nil, false_and, exists_false, or_false]
    simp
    omega

end OutGrad
end
-- ==== Proof.OutGrad.Points.lean ====
/-
  What one grid point leaves in the seven result blocks and in the running products.
-/
module
public import proofs.«01_k».proof.Proof.OutGrad.Stores
@[expose] public section
set_option maxRecDepth 16384
noncomputable section
namespace OutGrad
open Cert.Kernel6Ideal Cert.Kernel6Ideal.Gen Idealize.ShloMosaic Idealize.ShloMosaic.TcCoe Idealize.SL.Sem PoolGrad
open Idealize.ShloMosaic.Pipeline (Dat)

theorem ld_rows (A : Vec Ideal S512x1024 .f32) : View.ld A (Rect.unit (s := S512x1024) ![0, 0] ![512, 1024] inb_S512x1024_S512x1024_0_0) = A :=
  ld_whole (e := .f32) (n0 := 512) (n1 := 1024) A _
theorem ld_mixed (A : Vec Ideal S512x1024 .bf16) : View.ld A (Rect.unit (s := S512x1024) ![0, 0] ![512, 1024] inb_S512x1024_S512x1024_0_0) = A :=
  ld_whole (e := .bf16) (n0 := 512) (n1 := 1024) A _
theorem ld_gain (A : Vec Ideal S1x1024 .f32) : View.ld A (Rect.unit (s := S1x1024) ![0, 0] ![1, 1024] inb_S1x1024_S1x1024_0_0) = A :=
  ld_whole (e := .f32) (n0 := 1) (n1 := 1024) A _
theorem ld_weights (A : Vec Ideal S1024x1024 .bf16) : View.ld A (Rect.unit (s := S1024x1024) ![0, 0] ![1024, 1024] inb_S1024x1024_S1024x1024_0_0) = A :=
  ld_whole (e := .bf16) (n0 := 1024) (n1 := 1024) A _
theorem ld_sums (A : Vec Ideal S1024x1024 .f32) : View.ld A (Rect.unit (s := S1024x1024) ![0, 0] ![1024, 1024] inb_S1024x1024_S1024x1024_0_0) = A :=
  ld_whole (e := .f32) (n0 := 1024) (n1 := 1024) A _
theorem ld_attn (A : Vec Ideal S512x512 .f32) : View.ld A (Rect.unit (s := S512x512) ![0, 0] ![512, 512] inb_S512x512_S512x512_0_0) = A :=
  ld_whole (e := .f32) (n0 := 512) (n1 := 512) A _
theorem ld_eight (A : Vec Ideal S8x1024 .f32) : View.ld A (Rect.unit (s := S8x1024) ![0, 0] ![8, 1024] inb_S8x1024_S8x1024_0_0) = A :=
  ld_whole (e := .f32) (n0 := 8) (n1 := 1024) A _

variable (m : (ℓ : Loc nD τ sig) → Buf (Elt Ideal) ℓ) (c : Dev nD)

/-- The two gates' blocks of point `t`. -/
def uA (t : Fin cfg0.N) : Vec Ideal S512x512 .bf16 := View.ld (iblk m c 4 t) (Rect.unit (s := S512x1536) ![0, 0] ![512, 512] inb_S512x1536_S512x512_0_0)
def uB (t : Fin cfg0.N) : Vec Ideal S512x512 .bf16 := View.ld (iblk m c 4 t) (Rect.unit (s := S512x1536) ![0, 1024] ![512, 512] inb_S512x1536_S512x512_0_1024)
/-- The gradients of the norm's input, of the two halves of the mixed rows and of the scaled pooling, and the gate's derivative. -/
def dyB (t : Fin cfg0.N) : FVec Ideal S512x1024 .f32 := k0_pay7 (iblk m c 1 t) (iblk m c 2 t) (iblk m c 0 t)
def eA (t : Fin cfg0.N) : FVec Ideal S512x512 .f32 := k0_pay13 (dyB m c t) (iblk m c 3 t)
def eB (t : Fin cfg0.N) : FVec Ideal S512x512 .f32 := k0_pay14 (dyB m c t) (iblk m c 3 t)
def zB (t : Fin cfg0.N) : FVec Ideal S512x512 .f32 := k0_pay21 (eB m c t) (k0_pay16 (uB m c t)) (k0_pay18 (uB m c t))
def bB (t : Fin cfg0.N) : FVec Ideal S512x512 .f32 := k0_pay22 (k0_pay16 (uB m c t)) (k0_pay18 (uB m c t))

theorem out_first (t : Fin cfg0.N) (h0 : t.val % 16 = 0) : (outsAt0 m c t.val t.isLt).1 = k0_pay19 (eA m c t) (k0_pay15 (uA m c t)) (k0_pay17 (uA m c t)) := by
  rw [outsAt0_A m c t h0 h0 (by omega)]
  dsimp only
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    ld_rows, ld_mixed, ld_gain, ld_weights, ld_sums, ld_attn, ld_eight]
  exact canon_whole (e := .bf16) (n0 := 512) (n1 := 512) inb_S512x512_S512x512_0_0 (k0_pay19 (eA m c t) (k0_pay15 (uA m c t)) (k0_pay17 (uA m c t))) []

theorem out_later (t : Fin cfg0.N) (h0 : ¬ t.val % 16 = 0) : (outsAt0 m c t.val t.isLt).1 = k0_pay19 (eA m c t) (k0_pay15 (uA m c t)) (k0_pay17 (uA m c t)) := by
  by_cases h1 : t.val % 16 = 15
  · rw [outsAt0_C m c t h0 h0 h1]
    dsimp only
    unfold out0_C_10
    rw [View.read_writes_eq_canon _ _ _ (cover0_C_10 c _ _ _ _ _ _ _ _ _ _ _ _ _ _ _ _ _ _ _ _ _ _ _ _ _ _ _ _ _ _ _ _ _ _ _ _ _ _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      ld_rows, ld_mixed, ld_gain, ld_weights, ld_sums, ld_attn, ld_eight]
    exact canon_whole (e := .bf16) (n0 := 512) (n1 := 512) inb_S512x512_S512x512_0_0 (k0_pay19 (eA m c t) (k0_pay15 (uA m c t)) (k0_pay17 (uA m c t))) []
  · rw [outsAt0_B m c t h0 h0 h1]
    dsimp only
    unfold out0_B_10
    rw [View.read_writes_eq_canon _ _ _ (cover0_B_10 c _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      ld_rows, ld_mixed, ld_gain, ld_weights, ld_sums, ld_attn, ld_eight]
    exact canon_whole (e := .bf16) (n0 := 512) (n1 := 512) inb_S512x512_S512x512_0_0 (k0_pay19 (eA m c t) (k0_pay15 (uA m c t)) (k0_pay17 (uA m c t))) []

theorem gates_first (t : Fin cfg0.N) (h0 : t.val % 16 = 0) : (outsAt0 m c t.val t.isLt).2.1 = fun y => gatesBlk (eA m c t) (bB m c t) (eB m c t) (uA m c t) (iblk m c 6 t) (iblk m c 7 t) (iblk m c 8 t) (iblk m c 5 t) (y 0).val (y 1).val := by
  rw [outsAt0_A m c t h0 h0 (by omega)]
  dsimp only
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    ld_rows, ld_mixed, ld_gain, ld_weights, ld_sums, ld_attn, ld_eight]
  exact funext fun y => gates_canon (eA m c t) (bB m c t) (eB m c t) (uA m c t) (uB m c t) (iblk m c 6 t) (iblk m c 7 t) (iblk m c 8 t) (iblk m c 5 t) rfl [] y

theorem gates_later (t : Fin cfg0.N) (h0 : ¬ t.val % 16 = 0) : (outsAt0 m c t.val t.isLt).2.1 = fun y => gatesBlk (eA m c t) (bB m c t) (eB m c t) (uA m c t) (iblk m c 6 t) (iblk m c 7 t) (iblk m c 8 t) (iblk m c 5 t) (y 0).val (y 1).val := by
  by_cases h1 : t.val % 16 = 15
  · rw [outsAt0_C m c t h0 h0 h1]
    dsimp only
    unfold out0_C_11
    rw [View.read_writes_eq_canon _ _ _ (cover0_C_11 c _ _ _ _ _ _ _ _ _ _ _ _ _ _ _ _ _ _ _ _ _ _ _ _ _ _ _ _ _ _ _ _ _ _ _ _ _ _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      ld_rows, ld_mixed, ld_gain, ld_weights, ld_sums, ld_attn, ld_eight]
    exact funext fun y => gates_canon (eA m c t) (bB m c t) (eB m c t) (uA m c t) (uB m c t) (iblk m c 6 t) (iblk m c 7 t) (iblk m c 8 t) (iblk m c 5 t) rfl [] y
  · rw [outsAt0_B m c t h0 h0 h1]
    dsimp only
    unfold out0_B_11
    rw [View.read_writes_eq_canon _ _ _ (cover0_B_11 c _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      ld_rows, ld_mixed, ld_gain, ld_weights, ld_sums, ld_attn, ld_eight]
    exact funext fun y => gates_canon (eA m c t) (bB m c t) (eB m c t) (uA m c t) (uB m c t) (iblk m c 6 t) (iblk m c 7 t) (iblk m c 8 t) (iblk m c 5 t) rfl [] y

theorem pooled_first (t : Fin cfg0.N) (h0 : t.val % 16 = 0) : (outsAt0 m c t.val t.isLt).2.2.1 = fun y => pooledRow (zB m c t) (iblk m c 7 t) (iblk m c 8 t) (y 0).val (y 1).val := by
  rw [outsAt0_A m c t h0 h0 (by omega)]
  dsimp only
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    ld_rows, ld_mixed, ld_gain, ld_weights, ld_sums, ld_attn, ld_eight]
  exact funext fun y => pooled_canon (zB m c t) (iblk m c 7 t) (iblk m c 8 t) [] y

theorem pooled_later (t : Fin cfg0.N) (h0 : ¬ t.val % 16 = 0) : (outsAt0 m c t.val t.isLt).2.2.1 = fun y => pooledRow (zB m c t) (iblk m c 7 t) (iblk m c 8 t) (y 0).val (y 1).val := by
  by_cases h1 : t.val % 16 = 15
  · rw [outsAt0_C m c t h0 h0 h1]
    dsimp only
    unfold out0_C_12
    rw [View.read_writes_eq_canon _ _ _ (cover0_C_12 c _ _ _ _ _ _ _ _ _ _ _ _ _ _ _ _ _ _ _ _ _ _ _ _ _ _ _ _ _ _ _ _ _ _ _ _ _ _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      ld_rows, ld_mixed, ld_gain, ld_weights, ld_sums, ld_attn, ld_eight]
    exact funext fun y => pooled_canon (zB m c t) (iblk m c 7 t) (iblk m c 8 t) [] y
  · rw [outsAt0_B m c t h0 h0 h1]
    dsimp only
    unfold out0_B_12
    rw [View.read_writes_eq_canon _ _ _ (cover0_B_12 c _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
      ld_rows, ld_mixed, ld_gain, ld_weights, ld_sums, ld_attn, ld_eight]
    exact funext fun y => pooled_canon (zB m c t) (iblk m c 7 t) (iblk m c 8 t) [] y

theorem gain_first (t : Fin cfg0.N) (h0 : t.val % 16 = 0) : (outsAt0 m c t.val t.isLt).2.2.2.1 = k0_pay8 (iblk m c 1 t) (iblk m c 0 t) (k0_pay2 (F := Ideal)) := by
  rw [outsAt0_A m c t h0 h0 (by omega)]
  dsimp only
  unfold out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    ld_rows, ld_mixed, ld_gain, ld_weights, ld_sums, ld_attn, ld_eight]
  exact canon_whole (e := .f32) (n0 := 8) (n1 := 1024) inb_S8x1024_S8x1024_0_0 (k0_pay8 (iblk m c 1 t) (iblk m c 0 t) (k0_pay2 (F := Ideal))) [⟨Rect.unit (s := S8x1024) ![0, 0] ![8, 1024] inb_S8x1024_S8x1024_0_0, k0_pay2 (F := Ideal)⟩]

theorem gain_later (t : Fin cfg0.N) (h0 : ¬ t.val % 16 = 0) : (outsAt0 m c t.val t.isLt).2.2.2.1 = k0_pay8 (iblk m c 1 t) (iblk m c 0 t) (outsAt0 m c (t.val - 1) (Nat.lt_of_le_of_lt (Nat.sub_le _ _) t.isLt)).2.2.2.1 := by
  by_cases h1 : t.val % 16 = 15
  · rw [outsAt0_C m c t h0 h0 h1]
    dsimp only
    unfold out0_C_13
    rw [View.read_writes_eq_canon _ _ _ (cover0_C_13 c _ _ _ _ _ _ _ _ _ _ _ _ _ _ _ _ _ _ _ _ _ _ _ _ _ _ _ _ _ _ _ _ _ _ _ _ _ _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread,
      ld_rows, ld_mixed, ld_gain, ld_weights, ld_sums, ld_attn, ld_eight]
    exact canon_whole (e := .f32) (n0 := 8) (n1 := 1024) inb_S8x1024_S8x1024_0_0 (k0_pay8 (iblk m c 1 t) (iblk m c 0 t) (outsAt0 m c (t.val - 1) (Nat.lt_of_le_of_lt (Nat.sub_le _ _) t.isLt)).2.2.2.1) []
  · rw [outsAt0_B m c t h0 h0 h1]
    dsimp only
    unfold out0_B_13
    rw [View.read_writes_eq_canon _ _ _ (cover0_B_13 c _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread,
      ld_rows, ld_mixed, ld_gain, ld_weights, ld_sums, ld_attn, ld_eight]
    exact canon_whole (e := .f32) (n0 := 8) (n1 := 1024) inb_S8x1024_S8x1024_0_0 (k0_pay8 (iblk m c 1 t) (iblk m c 0 t) (outsAt0 m c (t.val - 1) (Nat.lt_of_le_of_lt (Nat.sub_le _ _) t.isLt)).2.2.2.1) []

theorem scale_first (t : Fin cfg0.N) (h0 : t.val % 16 = 0) : (outsAt0 m c t.val t.isLt).2.2.2.2.1 = fun y => scaleRows (zB m c t) (iblk m c 6 t) (iblk m c 7 t) (at2 (n0 := 8) (n1 := 512) (k0_pay3 (F := Ideal))) (y 0).val (y 1).val := by
  rw [outsAt0_A m c t h0 h0 (by omega)]
  dsimp only
  unfold out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    ld_rows, ld_mixed, ld_gain, ld_weights, ld_sums, ld_attn, ld_eight]
  exact funext fun y => scale_canon (zB m c t) (iblk m c 6 t) (iblk m c 7 t) (k0_pay3 (F := Ideal)) [⟨Rect.unit (s := S8x512) ![0, 0] ![8, 512] inb_S8x512_S8x512_0_0, k0_pay3 (F := Ideal)⟩] y

theorem scale_later (t : Fin cfg0.N) (h0 : ¬ t.val % 16 = 0) : (outsAt0 m c t.val t.isLt).2.2.2.2.1 = fun y => scaleRows (zB m c t) (iblk m c 6 t) (iblk m c 7 t) (at2 (n0 := 8) (n1 := 512) (outsAt0 m c (t.val - 1) (Nat.lt_of_le_of_lt (Nat.sub_le _ _) t.isLt)).2.2.2.2.1) (y 0).val (y 1).val := by
  by_cases h1 : t.val % 16 = 15
  · rw [outsAt0_C m c t h0 h0 h1]
    dsimp only
    unfold out0_C_14
    rw [View.read_writes_eq_canon _ _ _ (cover0_C_14 c _ _ _ _ _ _ _ _ _ _ _ _ _ _ _ _ _ _ _ _ _ _ _ _ _ _ _ _ _ _ _ _ _ _ _ _ _ _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_14 t).read_unread,
      ld_rows, ld_mixed, ld_gain, ld_weights, ld_sums, ld_attn, ld_eight]
    exact funext fun y => scale_canon (zB m c t) (iblk m c 6 t) (iblk m c 7 t) (outsAt0 m c (t.val - 1) (Nat.lt_of_le_of_lt (Nat.sub_le _ _) t.isLt)).2.2.2.2.1 [] y
  · rw [outsAt0_B m c t h0 h0 h1]
    dsimp only
    unfold out0_B_14
    rw [View.read_writes_eq_canon _ _ _ (cover0_B_14 c _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_14 t).read_unread,
      ld_rows, ld_mixed, ld_gain, ld_weights, ld_sums, ld_attn, ld_eight]
    exact funext fun y => scale_canon (zB m c t) (iblk m c 6 t) (iblk m c 7 t) (outsAt0 m c (t.val - 1) (Nat.lt_of_le_of_lt (Nat.sub_le _ _) t.isLt)).2.2.2.2.1 [] y

theorem map_first (t : Fin cfg0.N) (h0 : t.val % 16 = 0) : (outsAt0 m c t.val t.isLt).2.2.2.2.2.1 = fun y => mapSum (zB m c t) (iblk m c 6 t) (iblk m c 8 t) (at3 (n0 := 4) (n1 := 128) (n2 := 128) (k0_pay4 (F := Ideal))) (y 0).val (y 1).val (y 2).val := by
  rw [outsAt0_A m c t h0 h0 (by omega)]
  dsimp only
  unfold out0_A_15
  rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    ld_rows, ld_mixed, ld_gain, ld_weights, ld_sums, ld_attn, ld_eight]
  exact funext fun y => map_canon (zB m c t) (iblk m c 6 t) (iblk m c 8 t) (k0_pay4 (F := Ideal)) [⟨Rect.unit (s := S4x128x128) ![0, 0, 0] ![4, 128, 128] inb_S4x128x128_S4x128x128_0_0_0, k0_pay4 (F := Ideal)⟩] y

theorem map_later (t : Fin cfg0.N) (h0 : ¬ t.val % 16 = 0) : (outsAt0 m c t.val t.isLt).2.2.2.2.2.1 = fun y => mapSum (zB m c t) (iblk m c 6 t) (iblk m c 8 t) (at3 (n0 := 4) (n1 := 128) (n2 := 128) (outsAt0 m c (t.val - 1) (Nat.lt_of_le_of_lt (Nat.sub_le _ _) t.isLt)).2.2.2.2.2.1) (y 0).val (y 1).val (y 2).val := by
  by_cases h1 : t.val % 16 = 15
  · rw [outsAt0_C m c t h0 h0 h1]
    dsimp only
    unfold out0_C_15
    rw [View.read_writes_eq_canon _ _ _ (cover0_C_15 c _ _ _ _ _ _ _ _ _ _ _ _ _ _ _ _ _ _ _ _ _ _ _ _ _ _ _ _ _ _ _ _ _ _ _ _ _ _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_15 t).read_unread,
      ld_rows, ld_mixed, ld_gain, ld_weights, ld_sums, ld_attn, ld_eight]
    exact funext fun y => map_canon (zB m c t) (iblk m c 6 t) (iblk m c 8 t) (outsAt0 m c (t.val - 1) (Nat.lt_of_le_of_lt (Nat.sub_le _ _) t.isLt)).2.2.2.2.2.1 [] y
  · rw [outsAt0_B m c t h0 h0 h1]
    dsimp only
    unfold out0_B_15
    rw [View.read_writes_eq_canon _ _ _ (cover0_B_15 c _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_15 t).read_unread,
      ld_rows, ld_mixed, ld_gain, ld_weights, ld_sums, ld_attn, ld_eight]
    exact funext fun y => map_canon (zB m c t) (iblk m c 6 t) (iblk m c 8 t) (outsAt0 m c (t.val - 1) (Nat.lt_of_le_of_lt (Nat.sub_le _ _) t.isLt)).2.2.2.2.2.1 [] y

theorem sums_first (t : Fin cfg0.N) (h0 : t.val % 16 = 0) : (outsAt0 m c t.val t.isLt).2.2.2.2.2.2.2 = k0_pay11 (dyB m c t) (iblk m c 9 t) (k0_pay10 (F := Ideal)) := by
  rw [outsAt0_A m c t h0 h0 (by omega)]
  dsimp only
  unfold sout0_A_0
  rw [View.read_writes_eq_canon _ _ _ (scover0_A_0 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    ld_rows, ld_mixed, ld_gain, ld_weights, ld_sums, ld_attn, ld_eight]
  exact canon_whole (e := .f32) (n0 := 1024) (n1 := 1024) inb_S1024x1024_S1024x1024_0_0 (k0_pay11 (dyB m c t) (iblk m c 9 t) (k0_pay10 (F := Ideal))) [⟨Rect.unit (s := S1024x1024) ![0, 0] ![1024, 1024] inb_S1024x1024_S1024x1024_0_0, k0_pay10 (F := Ideal)⟩]

theorem sums_later (t : Fin cfg0.N) (h0 : ¬ t.val % 16 = 0) : (outsAt0 m c t.val t.isLt).2.2.2.2.2.2.2 = k0_pay11 (dyB m c t) (iblk m c 9 t) (outsAt0 m c (t.val - 1) (Nat.lt_of_le_of_lt (Nat.sub_le _ _) t.isLt)).2.2.2.2.2.2.2 := by
  by_cases h1 : t.val % 16 = 15
  · rw [outsAt0_C m c t h0 h0 h1]
    dsimp only
    unfold sout0_C_0
    rw [View.read_writes_eq_canon _ _ _ (scover0_C_0 c _ _ _ _ _ _ _ _ _ _ _ _ _ _ _ _ _ _ _ _ _ _ _ _ _ _ _ _ _ _ _ _ _ _ _ _ _ _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (Memref.isWhole_whole cc0_scratch0).read_unread,
      ld_rows, ld_mixed, ld_gain, ld_weights, ld_sums, ld_attn, ld_eight]
    exact canon_whole (e := .f32) (n0 := 1024) (n1 := 1024) inb_S1024x1024_S1024x1024_0_0 (k0_pay11 (dyB m c t) (iblk m c 9 t) (outsAt0 m c (t.val - 1) (Nat.lt_of_le_of_lt (Nat.sub_le _ _) t.isLt)).2.2.2.2.2.2.2) []
  · rw [outsAt0_B m c t h0 h0 h1]
    dsimp only
    unfold sout0_B_0
    rw [View.read_writes_eq_canon _ _ _ (scover0_B_0 c _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (Memref.isWhole_whole cc0_scratch0).read_unread,
      ld_rows, ld_mixed, ld_gain, ld_weights, ld_sums, ld_attn, ld_eight]
    exact canon_whole (e := .f32) (n0 := 1024) (n1 := 1024) inb_S1024x1024_S1024x1024_0_0 (k0_pay11 (dyB m c t) (iblk m c 9 t) (outsAt0 m c (t.val - 1) (Nat.lt_of_le_of_lt (Nat.sub_le _ _) t.isLt)).2.2.2.2.2.2.2) []

/-- At the last point the weights' gradient is the running products. -/
theorem weights_last (t : Fin cfg0.N) (h1 : t.val % 16 = 15) : (outsAt0 m c t.val t.isLt).2.2.2.2.2.2.1 = (outsAt0 m c t.val t.isLt).2.2.2.2.2.2.2 := by
  have h0 : ¬ t.val % 16 = 0 := by omega
  rw [sums_later m c t h0]
  rw [outsAt0_C m c t h0 h0 h1]
  dsimp only
  unfold out0_C_16
  rw [View.read_writes_eq_canon _ _ _ (cover0_C_16 c _ _ _ _ _ _ _ _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (Memref.isWhole_whole cc0_scratch0).read_unread, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    ld_rows, ld_mixed, ld_gain, ld_weights, ld_sums, ld_attn, ld_eight]
  rw [canon_whole (e := .bf16) (n0 := 1024) (n1 := 1024), View.readCov_cons_toLoadRect]
  rfl

end OutGrad
end
-- ==== Proof.OutGrad.Blocks.lean ====
/-
  The blocks that a grid point reads, as parts of the arrays at the region's entry, and the result blocks as parts of
  whole arrays of results.
-/
module
public import proofs.«01_k».proof.Proof.OutGrad.Points
@[expose] public section
set_option maxRecDepth 16384
noncomputable section
namespace OutGrad
open Cert.Kernel6Ideal Cert.Kernel6Ideal.Gen Idealize.ShloMosaic Idealize.ShloMosaic.TcCoe Idealize.SL.Sem
open PoolGrad (at2 elem_eq_at2 idx_eq_at2 at2_block nCols nEps rms meanSq)
open NormGate.In1 (logi)
open Idealize.ShloMosaic.Pipeline (Dat)

variable (m : (ℓ : Loc nD τ sig) → Buf (Elt Ideal) ℓ) (c : Dev nD)

/-! ## The arrays at the region's entry, read at numbers -/

/-- The gradient of the layer's output, the norm's input and gain, the transposed weights, the gates, the attention's
    output, the pooled rows, the groups' matrices, the scale and the mixed rows. -/
def aD : ℕ → ℕ → EReal := at2 (n0 := 8192) (n1 := 1024) (V m c main_arg0)
def aY : ℕ → ℕ → EReal := at2 (n0 := 8192) (n1 := 1024) (V m c main_v20)
def aG : ℕ → ℕ → EReal := at2 (n0 := 1) (n1 := 1024) (V m c main_arg1)
def aW : ℕ → ℕ → EReal := at2 (n0 := 1024) (n1 := 1024) (V m c main_v22)
def aU : ℕ → ℕ → EReal := at2 (n0 := 8192) (n1 := 1536) (V m c main_arg3)
def aO : ℕ → ℕ → EReal := at2 (n0 := 8192) (n1 := 512) (V m c main_arg4)
def aP : ℕ → ℕ → EReal := at2 (n0 := 8192) (n1 := 512) (V m c main_arg5)
def aM : ℕ → ℕ → ℕ → EReal := at3 (n0 := 4) (n1 := 128) (n2 := 128) (V m c main_v23)
def aS : ℕ → ℕ → EReal := at2 (n0 := 1) (n1 := 512) (V m c main_arg7)
def aX : ℕ → ℕ → EReal := at2 (n0 := 8192) (n1 := 1024) (V m c main_v24)

/-- The gradient of the norm's input, and of the mixed rows. -/
def aDy (r : ℕ) : ℕ → EReal := dNorm (aD m c r) (aY m c r) (aG m c 0)
def aE (r : ℕ) : ℕ → EReal := dMix (aDy m c r) (aW m c)

/-! ## Reading a block -/

theorem point_lt (t : Fin cfg0.N) : t.val < 16 := t.isLt

theorem index_rows : ∀ t : Fin grid0.N, (win0_0.index t 0 = t.val ∧ win0_0.index t 1 = 0) ∧ (win0_1.index t 0 = t.val ∧ win0_1.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_9.index t 0 = t.val ∧ win0_9.index t 1 = 0) := by decide +kernel

theorem index_out : ∀ t : Fin grid0.N, (win0_10.index t 0 = t.val ∧ win0_10.index t 1 = 0) ∧ (win0_11.index t 0 = t.val ∧ win0_11.index t 1 = 0)
    ∧ (win0_12.index t 0 = t.val ∧ win0_12.index t 1 = 0) := by decide +kernel

theorem index_whole : ∀ t : Fin grid0.N, (win0_2.index t 0 = 0 ∧ win0_2.index t 1 = 0) ∧ (win0_3.index t 0 = 0 ∧ win0_3.index t 1 = 0)
    ∧ (win0_8.index t 0 = 0 ∧ win0_8.index t 1 = 0) ∧ (win0_7.index t 0 = 0 ∧ win0_7.index t 1 = 0 ∧ win0_7.index t 2 = 0) := by decide +kernel

theorem index_sums : ∀ t : Fin grid0.N, (win0_13.index t 0 = 0 ∧ win0_13.index t 1 = 0) ∧ (win0_14.index t 0 = 0 ∧ win0_14.index t 1 = 0)
    ∧ (win0_16.index t 0 = 0 ∧ win0_16.index t 1 = 0) ∧ (win0_15.index t 0 = 0 ∧ win0_15.index t 1 = 0 ∧ win0_15.index t 2 = 0) := by decide +kernel

/-- A block of rows from its windows' coordinates. -/
theorem rows_of {n0 n1 : ℕ} (A : (⟨2, ![n0, n1]⟩ : Shape).Idx → EReal) (B : (⟨2, ![512, n1]⟩ : Shape).Idx → EReal) (t : ℕ)
    (f : (⟨2, ![512, n1]⟩ : Shape).Idx → (⟨2, ![n0, n1]⟩ : Shape).Idx) (hB : ∀ y, B y = A (f y))
    (h0 : ∀ y, (f y 0).val = t * 512 + (y 0).val) (h1 : ∀ y, (f y 1).val = (y 1).val) (p : ℕ) (hp : p < 512) :
    at2 B p = at2 A (512 * t + p) :=
  funext fun j => at2_block A B (512 * t) (fun p j => ⟨f (ix2 p j), hB _, (h0 _).trans (congrArg (· + p.val) (Nat.mul_comm _ _)), h1 _⟩) p j hp

/-- A window that holds the whole array. -/
theorem whole_of {n0 n1 : ℕ} (A B : (⟨2, ![n0, n1]⟩ : Shape).Idx → EReal) (f : (⟨2, ![n0, n1]⟩ : Shape).Idx → (⟨2, ![n0, n1]⟩ : Shape).Idx)
    (hB : ∀ y, B y = A (f y)) (h0 : ∀ y, (f y 0).val = (y 0).val) (h1 : ∀ y, (f y 1).val = (y 1).val) : B = A :=
  funext fun y => (hB y).trans (congrArg A (funext fun a => Fin.ext (match a with | ⟨0, _⟩ => h0 y | ⟨1, _⟩ => h1 y)))

theorem rows_d (t : Fin cfg0.N) (p : ℕ) (hp : p < 512) : at2 (n0 := 512) (n1 := 1024) (iblk m c 0 t) p = aD m c (512 * t.val + p) :=
  rows_of (n0 := 8192) (n1 := 1024) (V m c main_arg0) (iblk m c 0 t) t.val ((cfg0.win 0).rect t).emb (fun _ => rfl)
    (fun y => (Pipeline.Window.rect_emb_val (cfg0.win 0) t y 0).trans (congrArg (· * 512 + (y 0).val) (index_rows t).1.1))
    (fun y => Pipeline.Window.rect_emb_val_of_index_zero (cfg0.win 0) t 1 (index_rows t).1.2 y) p hp

theorem rows_y (t : Fin cfg0.N) (p : ℕ) (hp : p < 512) : at2 (n0 := 512) (n1 := 1024) (iblk m c 1 t) p = aY m c (512 * t.val + p) :=
  rows_of (n0 := 8192) (n1 := 1024) (V m c main_v20) (iblk m c 1 t) t.val ((cfg0.win 1).rect t).emb (fun _ => rfl)
    (fun y => (Pipeline.Window.rect_emb_val (cfg0.win 1) t y 0).trans (congrArg (· * 512 + (y 0).val) (index_rows t).2.1.1))
    (fun y => Pipeline.Window.rect_emb_val_of_index_zero (cfg0.win 1) t 1 (index_rows t).2.1.2 y) p hp

theorem rows_u (t : Fin cfg0.N) (p : ℕ) (hp : p < 512) : at2 (n0 := 512) (n1 := 1536) (iblk m c 4 t) p = aU m c (512 * t.val + p) :=
  rows_of (n0 := 8192) (n1 := 1536) (V m c main_arg3) (iblk m c 4 t) t.val ((cfg0.win 4).rect t).emb (fun _ => rfl)
    (fun y => (Pipeline.Window.rect_emb_val (cfg0.win 4) t y 0).trans (congrArg (· * 512 + (y 0).val) (index_rows t).2.2.1.1))
    (fun y => Pipeline.Window.rect_emb_val_of_index_zero (cfg0.win 4) t 1 (index_rows t).2.2.1.2 y) p hp

theorem rows_o (t : Fin cfg0.N) (p : ℕ) (hp : p < 512) : at2 (n0 := 512) (n1 := 512) (iblk m c 5 t) p = aO m c (512 * t.val + p) :=
  rows_of (n0 := 8192) (n1 := 512) (V m c main_arg4) (iblk m c 5 t) t.val ((cfg0.win 5).rect t).emb (fun _ => rfl)
    (fun y => (Pipeline.Window.rect_emb_val (cfg0.win 5) t y 0).trans (congrArg (· * 512 + (y 0).val) (index_rows t).2.2.2.1.1))
    (fun y => Pipeline.Window.rect_emb_val_of_index_zero (cfg0.win 5) t 1 (index_rows t).2.2.2.1.2 y) p hp

theorem rows_p (t : Fin cfg0.N) (p : ℕ) (hp : p < 512) : at2 (n0 := 512) (n1 := 512) (iblk m c 6 t) p = aP m c (512 * t.val + p) :=
  rows_of (n0 := 8192) (n1 := 512) (V m c main_arg5) (iblk m c 6 t) t.val ((cfg0.win 6).rect t).emb (fun _ => rfl)
    (fun y => (Pipeline.Window.rect_emb_val (cfg0.win 6) t y 0).trans (congrArg (· * 512 + (y 0).val) (index_rows t).2.2.2.2.1.1))
    (fun y => Pipeline.Window.rect_emb_val_of_index_zero (cfg0.win 6) t 1 (index_rows t).2.2.2.2.1.2 y) p hp

theorem rows_x (t : Fin cfg0.N) (p : ℕ) (hp : p < 512) : at2 (n0 := 512) (n1 := 1024) (iblk m c 9 t) p = aX m c (512 * t.val + p) :=
  rows_of (n0 := 8192) (n1 := 1024) (V m c main_v24) (iblk m c 9 t) t.val ((cfg0.win 9).rect t).emb (fun _ => rfl)
    (fun y => (Pipeline.Window.rect_emb_val (cfg0.win 9) t y 0).trans (congrArg (· * 512 + (y 0).val) (index_rows t).2.2.2.2.2.1))
    (fun y => Pipeline.Window.rect_emb_val_of_index_zero (cfg0.win 9) t 1 (index_rows t).2.2.2.2.2.2 y) p hp

theorem whole_g (t : Fin cfg0.N) : iblk m c 2 t = V m c main_arg1 :=
  whole_of (n0 := 1) (n1 := 1024) (V m c main_arg1) (iblk m c 2 t) ((cfg0.win 2).rect t).emb (fun _ => rfl)
    (Pipeline.Window.rect_emb_val_of_index_zero (cfg0.win 2) t 0 (index_whole t).1.1)
    (Pipeline.Window.rect_emb_val_of_index_zero (cfg0.win 2) t 1 (index_whole t).1.2)

theorem whole_w (t : Fin cfg0.N) : iblk m c 3 t = V m c main_v22 :=
  whole_of (n0 := 1024) (n1 := 1024) (V m c main_v22) (iblk m c 3 t) ((cfg0.win 3).rect t).emb (fun _ => rfl)
    (Pipeline.Window.rect_emb_val_of_index_zero (cfg0.win 3) t 0 (index_whole t).2.1.1)
    (Pipeline.Window.rect_emb_val_of_index_zero (cfg0.win 3) t 1 (index_whole t).2.1.2)

theorem whole_s (t : Fin cfg0.N) : iblk m c 8 t = V m c main_arg7 :=
  whole_of (n0 := 1) (n1 := 512) (V m c main_arg7) (iblk m c 8 t) ((cfg0.win 8).rect t).emb (fun _ => rfl)
    (Pipeline.Window.rect_emb_val_of_index_zero (cfg0.win 8) t 0 (index_whole t).2.2.1.1)
    (Pipeline.Window.rect_emb_val_of_index_zero (cfg0.win 8) t 1 (index_whole t).2.2.1.2)

theorem whole_m (t : Fin cfg0.N) : iblk m c 7 t = V m c main_v23 :=
  funext fun y => congrArg (V m c main_v23 : S4x128x128.Idx → EReal) (funext fun a => Fin.ext (match a with
    | ⟨0, _⟩ => Pipeline.Window.rect_emb_val_of_index_zero (cfg0.win 7) t 0 (index_whole t).2.2.2.1 y
    | ⟨1, _⟩ => Pipeline.Window.rect_emb_val_of_index_zero (cfg0.win 7) t 1 (index_whole t).2.2.2.2.1 y
    | ⟨2, _⟩ => Pipeline.Window.rect_emb_val_of_index_zero (cfg0.win 7) t 2 (index_whole t).2.2.2.2.2 y))

/-! ## The intermediate blocks -/

variable (t : Fin cfg0.N) (r : ℕ) (hr : r < 512)

include hr in
theorem uA_at (l : ℕ) (hl : l < 512) : at2 (n0 := 512) (n1 := 512) (uA m c t) r l = aU m c (512 * t.val + r) l := by
  rw [at2, dif_pos ⟨hr, hl⟩]
  refine (ld_bf16 (n0 := 512) (n1 := 1536) (iblk m c 4 t) 0 0 inb_S512x1536_S512x512_0_0 ⟨r, hr⟩ ⟨l, hl⟩).trans ?_
  simp only [Nat.zero_add]
  exact congrFun (rows_u m c t r hr) l

include hr in
theorem uB_at (l : ℕ) (hl : l < 512) : at2 (n0 := 512) (n1 := 512) (uB m c t) r l = aU m c (512 * t.val + r) (1024 + l) := by
  rw [at2, dif_pos ⟨hr, hl⟩]
  refine (ld_bf16 (n0 := 512) (n1 := 1536) (iblk m c 4 t) 0 1024 inb_S512x1536_S512x512_0_1024 ⟨r, hr⟩ ⟨l, hl⟩).trans ?_
  simp only [Nat.zero_add]
  exact congrFun (rows_u m c t r hr) (1024 + l)

include hr in
theorem dy_at (j : ℕ) (hj : j < 1024) : at2 (n0 := 512) (n1 := 1024) (dyB m c t) r j = aDy m c (512 * t.val + r) j := by
  rw [at2, dif_pos ⟨hr, hj⟩]
  refine (norm_read (iblk m c 1 t) (iblk m c 2 t) (iblk m c 0 t) ⟨r, hr⟩ ⟨j, hj⟩).trans ?_
  rw [show at2 (n0 := 512) (n1 := 1024) (iblk m c 0 t) (⟨r, hr⟩ : Fin 512).val = _ from rows_d m c t r hr,
    show at2 (n0 := 512) (n1 := 1024) (iblk m c 1 t) (⟨r, hr⟩ : Fin 512).val = _ from rows_y m c t r hr, whole_g]
  rfl

include hr in
theorem mix_at (l : ℕ) : dMix (at2 (n0 := 512) (n1 := 1024) (dyB m c t) r) (at2 (n0 := 1024) (n1 := 1024) (iblk m c 3 t)) l = aE m c (512 * t.val + r) l := by
  rw [whole_w]
  exact Finset.sum_congr rfl fun (k : Fin 1024) _ => congrArg (· * aW m c l k.val) (dy_at m c t r hr k.val k.isLt)

include hr in
theorem eA_at (l : ℕ) (hl : l < 512) : at2 (n0 := 512) (n1 := 512) (eA m c t) r l = aE m c (512 * t.val + r) l := by
  rw [at2, dif_pos ⟨hr, hl⟩]
  exact (halves_read (iblk m c 3 t) (dyB m c t) ⟨r, hr⟩ ⟨l, hl⟩).1.trans (mix_at m c t r hr l)

include hr in
theorem eB_at (l : ℕ) (hl : l < 512) : at2 (n0 := 512) (n1 := 512) (eB m c t) r l = aE m c (512 * t.val + r) (512 + l) := by
  rw [at2, dif_pos ⟨hr, hl⟩]
  exact (halves_read (iblk m c 3 t) (dyB m c t) ⟨r, hr⟩ ⟨l, hl⟩).2.trans (mix_at m c t r hr (512 + l))

include hr in
theorem z_at (l : ℕ) (hl : l < 512) : at2 (n0 := 512) (n1 := 512) (zB m c t) r l = dScaled (aE m c (512 * t.val + r)) (aU m c (512 * t.val + r)) l := by
  rw [at2, dif_pos ⟨hr, hl⟩]
  refine (scaled_read (uB m c t) (eB m c t) ⟨r, hr⟩ ⟨l, hl⟩).trans ?_
  rw [eB_at m c t r hr l hl, uB_at m c t r hr l hl]
  rfl

include hr in
theorem b_at (l : ℕ) (hl : l < 512) : at2 (n0 := 512) (n1 := 512) (bB m c t) r l = slope (aU m c (512 * t.val + r) (1024 + l)) := by
  rw [at2, dif_pos ⟨hr, hl⟩]
  refine (slope_read (uB m c t) ⟨r, hr⟩ ⟨l, hl⟩).trans ?_
  rw [uB_at m c t r hr l hl]

include hr in
theorem mapped_at (l : ℕ) : mapped (at2 (n0 := 512) (n1 := 512) (iblk m c 6 t) r) (at3 (n0 := 4) (n1 := 128) (n2 := 128) (iblk m c 7 t)) l
    = mapped (aP m c (512 * t.val + r)) (aM m c) l := by
  rw [rows_p m c t r hr, whole_m]; rfl

/-! ## The result blocks -/

theorem out_blk (r l : Fin 512) : k0_pay19 (eA m c t) (k0_pay15 (uA m c t)) (k0_pay17 (uA m c t)) (ix2 r l)
    = dOut (aE m c (512 * t.val + r.val)) (aU m c (512 * t.val + r.val)) l.val := by
  refine (out_read (uA m c t) (eA m c t) r l).trans ?_
  rw [eA_at m c t r.val r.isLt l.val l.isLt, uA_at m c t r.val r.isLt l.val l.isLt]
  rfl

include hr in
theorem gates_blk (l : ℕ) (hl : l < 1024) : gatesBlk (eA m c t) (bB m c t) (eB m c t) (uA m c t) (iblk m c 6 t) (iblk m c 7 t) (iblk m c 8 t) (iblk m c 5 t) r l
    = dGates (aE m c (512 * t.val + r)) (aU m c (512 * t.val + r)) (aO m c (512 * t.val + r)) (aP m c (512 * t.val + r)) (aM m c) (aS m c 0) l := by
  unfold gatesBlk dGates
  by_cases h : l < 512
  · rw [if_pos h, if_pos h, at2, dif_pos ⟨hr, h⟩]
    refine (gateA_read (uA m c t) (eA m c t) (iblk m c 5 t) ⟨r, hr⟩ ⟨l, h⟩).trans ?_
    rw [eA_at m c t r hr l h, uA_at m c t r hr l h, show at2 (n0 := 512) (n1 := 512) (iblk m c 5 t) (⟨r, hr⟩ : Fin 512).val = _ from rows_o m c t r hr]
    rfl
  · rw [if_neg h, if_neg h]
    unfold gateRow dGateB
    rw [eB_at m c t r hr _ (by omega), b_at m c t r hr _ (by omega), mapped_at m c t r hr, whole_s]
    rfl

include hr in
theorem pooled_blk (l : ℕ) (hl : l < 512) : pooledRow (zB m c t) (iblk m c 7 t) (iblk m c 8 t) r l
    = dPooled (aE m c (512 * t.val + r)) (aU m c (512 * t.val + r)) (aM m c) (aS m c 0) l := by
  refine Finset.sum_congr rfl fun k _ => ?_
  rw [z_at m c t r hr _ (by omega), whole_s, whole_m]
  rfl

theorem gain_blk (old : Vec Ideal S8x1024 .f32) (s : Fin 8) (j : Fin 1024) : k0_pay8 (iblk m c 1 t) (iblk m c 0 t) old (ix2 s j)
    = old (ix2 s j) + ∑ q : Fin 64, dGain (aD m c (512 * t.val + (q.val * 8 + s.val))) (aY m c (512 * t.val + (q.val * 8 + s.val))) j.val := by
  refine (gain_read (iblk m c 1 t) (iblk m c 0 t) old s j).trans ?_
  rw [elem_eq_at2 old s j]
  refine congrArg (_ + ·) (Finset.sum_congr rfl fun q _ => ?_)
  rw [rows_d m c t _ (by omega), rows_y m c t _ (by omega)]

theorem scale_blk (old : ℕ → ℕ → EReal) (s : ℕ) (hs : s < 8) (l : ℕ) (hl : l < 512) : scaleRows (zB m c t) (iblk m c 6 t) (iblk m c 7 t) old s l
    = old s l + ∑ q : Fin 64, dScale (aE m c (512 * t.val + (q.val * 8 + s))) (aU m c (512 * t.val + (q.val * 8 + s))) (aP m c (512 * t.val + (q.val * 8 + s))) (aM m c) l := by
  refine congrArg (_ + ·) (Finset.sum_congr rfl fun q _ => ?_)
  rw [z_at m c t _ (by omega) l hl, mapped_at m c t _ (by omega)]
  rfl

theorem map_blk (old : ℕ → ℕ → ℕ → EReal) (g a b : ℕ) (hg : g < 4) (ha : a < 128) (hb : b < 128) : mapSum (zB m c t) (iblk m c 6 t) (iblk m c 8 t) old g a b
    = old g a b + ∑ q : Fin 512, aP m c (512 * t.val + q.val) (128 * g + a) * dMapped (aE m c (512 * t.val + q.val)) (aU m c (512 * t.val + q.val)) (aS m c 0) (128 * g + b) := by
  refine congrArg (_ + ·) (Finset.sum_congr rfl fun q _ => ?_)
  rw [z_at m c t _ q.isLt _ (by omega), rows_p m c t _ q.isLt, whole_s]
  rfl

theorem sums_blk (old : Vec Ideal S1024x1024 .f32) (i j : Fin 1024) : k0_pay11 (dyB m c t) (iblk m c 9 t) old (ix2 i j)
    = old (ix2 i j) + ∑ q : Fin 512, aX m c (512 * t.val + q.val) i.val * aDy m c (512 * t.val + q.val) j.val := by
  refine (weights_read (dyB m c t) (iblk m c 9 t) old i j).trans ?_
  rw [elem_eq_at2 old i j]
  refine congrArg (_ + ·) (Finset.sum_congr rfl fun q _ => ?_)
  rw [dy_at m c t _ q.isLt _ j.isLt, rows_x m c t _ q.isLt]

end OutGrad
end
-- ==== Proof.OutGrad.Final.lean ====
/-
  What the kernel's seven results hold when the region ends.
-/
module
public import proofs.«01_k».proof.Proof.OutGrad.Blocks
@[expose] public section
set_option maxRecDepth 16384
noncomputable section
namespace OutGrad
open Cert.Kernel6Ideal Cert.Kernel6Ideal.Gen Idealize.ShloMosaic Idealize.ShloMosaic.TcCoe Idealize.SL.Sem
open PoolGrad (at2 elem_eq_at2 idx_eq_at2 at2_block nCols nEps rms meanSq)
open Idealize.ShloMosaic.Pipeline (Dat)
variable (m : (ℓ : Loc nD τ sig) → Buf (Elt Ideal) ℓ) (c : Dev nD)

/-- The point whose block holds row `i`. -/
def pointOf (i : ℕ) (h : i < 8192) : Fin cfg0.N := ⟨i / 512, Nat.div_lt_of_lt_mul h⟩

/-- The last point. -/
def lastPoint : Fin cfg0.N := ⟨15, by decide⟩

/-! ## The results that are stored block by block -/

/-- The gradients of the attention's output, of the gates and of the pooled rows, whole. -/
def outAll : S8192x512.Idx → EReal := fun i => dOut (aE m c (i 0).val) (aU m c (i 0).val) (i 1).val
def gatesRow (r : ℕ) : ℕ → EReal := dGates (aE m c r) (aU m c r) (aO m c r) (aP m c r) (aM m c) (aS m c 0)
def gatesAll : S8192x1024.Idx → EReal := fun i => gatesRow m c (i 0).val (i 1).val
def pooledAll : S8192x512.Idx → EReal := fun i => dPooled (aE m c (i 0).val) (aU m c (i 0).val) (aM m c) (aS m c 0) (i 1).val

theorem out_point (t : Fin cfg0.N) : (outsAt0 m c t.val t.isLt).1 = k0_pay19 (eA m c t) (k0_pay15 (uA m c t)) (k0_pay17 (uA m c t)) := by
  by_cases h : t.val % 16 = 0
  · exact out_first m c t h
  · exact out_later m c t h

theorem gates_point (t : Fin cfg0.N) (y : S512x1024.Idx) : (outsAt0 m c t.val t.isLt).2.1 y = gatesRow m c (512 * t.val + (y 0).val) (y 1).val := by
  refine Eq.trans ?_ (gates_blk m c t (y 0).val (y 0).isLt (y 1).val (y 1).isLt)
  by_cases h : t.val % 16 = 0
  · exact congrFun (gates_first m c t h) y
  · exact congrFun (gates_later m c t h) y

theorem pooled_point (t : Fin cfg0.N) (y : S512x512.Idx) : (outsAt0 m c t.val t.isLt).2.2.1 y
    = dPooled (aE m c (512 * t.val + (y 0).val)) (aU m c (512 * t.val + (y 0).val)) (aM m c) (aS m c 0) (y 1).val := by
  refine Eq.trans ?_ (pooled_blk m c t (y 0).val (y 0).isLt (y 1).val (y 1).isLt)
  by_cases h : t.val % 16 = 0
  · exact congrFun (pooled_first m c t h) y
  · exact congrFun (pooled_later m c t h) y

theorem out_final : (dats m 0 c).arrAt 10 cfg0.N = outAll m c := by
  funext i
  refine (dats m 0 c).arrAt_forall_of_cover 10 (fun i v => v = outAll m c i) (fun t _ y => ?_) (fun i => ?_) i
  · show (cfg0.win 10).cut (grid0.coords t) ((dats m 0 c).after 10 t) y = _
    rw [after0_10]
    have h0 : ((((cfg0.win 10).rect t).emb y 0 : Fin _) : ℕ) = 512 * t.val + (y 0).val :=
      (Pipeline.Window.rect_emb_val (cfg0.win 10) t y 0).trans (by
        rw [show (cfg0.win 10).index t 0 = t.val from (index_out t).1.1]; exact congrArg (· + (y 0).val) (Nat.mul_comm _ _))
    have h1 : ((((cfg0.win 10).rect t).emb y 1 : Fin _) : ℕ) = (y 1).val :=
      Pipeline.Window.rect_emb_val_of_index_zero (cfg0.win 10) t 1 (index_out t).1.2 y
    rw [out_point]
    refine (congrArg (k0_pay19 (eA m c t) (k0_pay15 (uA m c t)) (k0_pay17 (uA m c t))) (eq_ix2 (n0 := 512) (n1 := 512) y)).trans ((out_blk m c t (y 0) (y 1)).trans ?_)
    exact congrArg₂ (fun r l => dOut (aE m c r) (aU m c r) l) h0.symm h1.symm
  · refine ⟨pointOf (i 0).val (i 0).isLt, flush0_10 _, Finset.mem_map.2 ⟨ix2 ⟨(i 0).val % 512, Nat.mod_lt _ (by norm_num)⟩ (i 1), Finset.mem_univ _, ?_⟩⟩
    funext a
    apply Fin.ext
    match a with
    | ⟨0, _⟩ =>
      refine (Pipeline.Window.rect_emb_val (cfg0.win 10) (pointOf (i 0).val (i 0).isLt) _ 0).trans ?_
      rw [show (cfg0.win 10).index (pointOf (i 0).val (i 0).isLt) 0 = (i 0).val / 512 from (index_out _).1.1]
      exact Nat.div_add_mod' _ _
    | ⟨1, _⟩ => exact Pipeline.Window.rect_emb_val_of_index_zero (cfg0.win 10) _ 1 (index_out _).1.2 _

theorem gates_final : (dats m 0 c).arrAt 11 cfg0.N = gatesAll m c := by
  funext i
  refine (dats m 0 c).arrAt_forall_of_cover 11 (fun i v => v = gatesAll m c i) (fun t _ y => ?_) (fun i => ?_) i
  · show (cfg0.win 11).cut (grid0.coords t) ((dats m 0 c).after 11 t) y = _
    rw [after0_11]
    have h0 : ((((cfg0.win 11).rect t).emb y 0 : Fin _) : ℕ) = 512 * t.val + (y 0).val :=
      (Pipeline.Window.rect_emb_val (cfg0.win 11) t y 0).trans (by
        rw [show (cfg0.win 11).index t 0 = t.val from (index_out t).2.1.1]; exact congrArg (· + (y 0).val) (Nat.mul_comm _ _))
    have h1 : ((((cfg0.win 11).rect t).emb y 1 : Fin _) : ℕ) = (y 1).val :=
      Pipeline.Window.rect_emb_val_of_index_zero (cfg0.win 11) t 1 (index_out t).2.1.2 y
    exact (gates_point m c t y).trans (congrArg₂ (gatesRow m c) h0.symm h1.symm)
  · refine ⟨pointOf (i 0).val (i 0).isLt, flush0_11 _, Finset.mem_map.2 ⟨ix2 ⟨(i 0).val % 512, Nat.mod_lt _ (by norm_num)⟩ (i 1), Finset.mem_univ _, ?_⟩⟩
    funext a
    apply Fin.ext
    match a with
    | ⟨0, _⟩ =>
      refine (Pipeline.Window.rect_emb_val (cfg0.win 11) (pointOf (i 0).val (i 0).isLt) _ 0).trans ?_
      rw [show (cfg0.win 11).index (pointOf (i 0).val (i 0).isLt) 0 = (i 0).val / 512 from (index_out _).2.1.1]
      exact Nat.div_add_mod' _ _
    | ⟨1, _⟩ => exact Pipeline.Window.rect_emb_val_of_index_zero (cfg0.win 11) _ 1 (index_out _).2.1.2 _

theorem pooled_final : (dats m 0 c).arrAt 12 cfg0.N = pooledAll m c := by
  funext i
  refine (dats m 0 c).arrAt_forall_of_cover 12 (fun i v => v = pooledAll m c i) (fun t _ y => ?_) (fun i => ?_) i
  · show (cfg0.win 12).cut (grid0.coords t) ((dats m 0 c).after 12 t) y = _
    rw [after0_12]
    have h0 : ((((cfg0.win 12).rect t).emb y 0 : Fin _) : ℕ) = 512 * t.val + (y 0).val :=
      (Pipeline.Window.rect_emb_val (cfg0.win 12) t y 0).trans (by
        rw [show (cfg0.win 12).index t 0 = t.val from (index_out t).2.2.1]; exact congrArg (· + (y 0).val) (Nat.mul_comm _ _))
    have h1 : ((((cfg0.win 12).rect t).emb y 1 : Fin _) : ℕ) = (y 1).val :=
      Pipeline.Window.rect_emb_val_of_index_zero (cfg0.win 12) t 1 (index_out t).2.2.2 y
    exact (pooled_point m c t y).trans (congrArg₂ (fun r l => dPooled (aE m c r) (aU m c r) (aM m c) (aS m c 0) l) h0.symm h1.symm)
  · refine ⟨pointOf (i 0).val (i 0).isLt, flush0_12 _, Finset.mem_map.2 ⟨ix2 ⟨(i 0).val % 512, Nat.mod_lt _ (by norm_num)⟩ (i 1), Finset.mem_univ _, ?_⟩⟩
    funext a
    apply Fin.ext
    match a with
    | ⟨0, _⟩ =>
      refine (Pipeline.Window.rect_emb_val (cfg0.win 12) (pointOf (i 0).val (i 0).isLt) _ 0).trans ?_
      rw [show (cfg0.win 12).index (pointOf (i 0).val (i 0).isLt) 0 = (i 0).val / 512 from (index_out _).2.2.1]
      exact Nat.div_add_mod' _ _
    | ⟨1, _⟩ => exact Pipeline.Window.rect_emb_val_of_index_zero (cfg0.win 12) _ 1 (index_out _).2.2.2 _

/-! ## The results that add up over the points -/

/-- Sums that each point continues are sums over the points so far. -/
theorem running (N : ℕ) (S : (n : ℕ) → n < N → EReal) (f : ℕ → EReal) (h0 : ∀ h, S 0 h = 0 + f 0)
    (hs : ∀ n (h : n + 1 < N), S (n + 1) h = S n (Nat.lt_of_succ_lt h) + f (n + 1)) :
    ∀ (n : ℕ) (h : n < N), S n h = ∑ t ∈ Finset.range (n + 1), f t := by
  intro n
  induction n with
  | zero => intro h; rw [h0, zero_add, Finset.sum_range_one]
  | succ n ih => intro h; rw [hs, ih, Finset.sum_range_succ _ (n + 1)]

/-- The contributions of row `r` to the gradients of the gain, the scale, the groups' matrices and the weights. -/
def gainRow (j r : ℕ) : EReal := dGain (aD m c r) (aY m c r) j
def scaleRow (l r : ℕ) : EReal := dScale (aE m c r) (aU m c r) (aP m c r) (aM m c) l
def mapRow (g a b r : ℕ) : EReal := aP m c r (128 * g + a) * dMapped (aE m c r) (aU m c r) (aS m c 0) (128 * g + b)
def weightRow (i j r : ℕ) : EReal := aX m c r i * aDy m c r j

theorem later_point {n : ℕ} (h : n + 1 < cfg0.N) : ¬ (n + 1) % 16 = 0 := by have : n + 1 < 16 := h; omega

theorem gain_sums (n : ℕ) (h : n < cfg0.N) (s : Fin 8) (j : Fin 1024) :
    (outsAt0 m c n h).2.2.2.1 (ix2 s j) = ∑ t ∈ Finset.range (n + 1), ∑ q : Fin 64, gainRow m c j.val (512 * t + (q.val * 8 + s.val)) := by
  refine running cfg0.N (fun n h => (outsAt0 m c n h).2.2.2.1 (ix2 s j)) _ (fun h => ?_) (fun n h => ?_) n h
  · refine (congrFun (gain_first m c ⟨0, h⟩ rfl) (ix2 s j)).trans ((gain_blk m c ⟨0, h⟩ _ s j).trans (congrArg (· + _) ?_))
    pointwise [k0_pay2]
  · exact (congrFun (gain_later m c ⟨n + 1, h⟩ (later_point h)) (ix2 s j)).trans (gain_blk m c ⟨n + 1, h⟩ _ s j)

theorem scale_sums (n : ℕ) (h : n < cfg0.N) (s : Fin 8) (l : Fin 512) :
    (outsAt0 m c n h).2.2.2.2.1 (ix2 s l) = ∑ t ∈ Finset.range (n + 1), ∑ q : Fin 64, scaleRow m c l.val (512 * t + (q.val * 8 + s.val)) := by
  refine running cfg0.N (fun n h => (outsAt0 m c n h).2.2.2.2.1 (ix2 s l)) _ (fun h => ?_) (fun n h => ?_) n h
  · refine (congrFun (scale_first m c ⟨0, h⟩ rfl) (ix2 s l)).trans ((scale_blk m c ⟨0, h⟩ _ s.val s.isLt l.val l.isLt).trans (congrArg (· + _) ?_))
    refine (elem_eq_at2 (n0 := 8) (n1 := 512) (k0_pay3 (F := Ideal)) s l).symm.trans ?_
    pointwise [k0_pay3]
  · refine (congrFun (scale_later m c ⟨n + 1, h⟩ (later_point h)) (ix2 s l)).trans ((scale_blk m c ⟨n + 1, h⟩ _ s.val s.isLt l.val l.isLt).trans (congrArg (· + _) ?_))
    exact (elem_eq_at2 (n0 := 8) (n1 := 512) (outsAt0 m c n (Nat.lt_of_succ_lt h)).2.2.2.2.1 s l).symm

theorem map_sums (n : ℕ) (h : n < cfg0.N) (g : Fin 4) (a b : Fin 128) :
    (outsAt0 m c n h).2.2.2.2.2.1 (ix3 g a b) = ∑ t ∈ Finset.range (n + 1), ∑ q : Fin 512, mapRow m c g.val a.val b.val (512 * t + q.val) := by
  refine running cfg0.N (fun n h => (outsAt0 m c n h).2.2.2.2.2.1 (ix3 g a b)) _ (fun h => ?_) (fun n h => ?_) n h
  · refine (congrFun (map_first m c ⟨0, h⟩ rfl) (ix3 g a b)).trans ((map_blk m c ⟨0, h⟩ _ g.val a.val b.val g.isLt a.isLt b.isLt).trans (congrArg (· + _) ?_))
    refine (elem_eq_at3 (n0 := 4) (n1 := 128) (n2 := 128) (k0_pay4 (F := Ideal)) g a b).symm.trans ?_
    pointwise [k0_pay4]
  · refine (congrFun (map_later m c ⟨n + 1, h⟩ (later_point h)) (ix3 g a b)).trans ((map_blk m c ⟨n + 1, h⟩ _ g.val a.val b.val g.isLt a.isLt b.isLt).trans (congrArg (· + _) ?_))
    exact (elem_eq_at3 (n0 := 4) (n1 := 128) (n2 := 128) (outsAt0 m c n (Nat.lt_of_succ_lt h)).2.2.2.2.2.1 g a b).symm

theorem weight_sums (n : ℕ) (h : n < cfg0.N) (i j : Fin 1024) :
    (outsAt0 m c n h).2.2.2.2.2.2.2 (ix2 i j) = ∑ t ∈ Finset.range (n + 1), ∑ q : Fin 512, weightRow m c i.val j.val (512 * t + q.val) := by
  refine running cfg0.N (fun n h => (outsAt0 m c n h).2.2.2.2.2.2.2 (ix2 i j)) _ (fun h => ?_) (fun n h => ?_) n h
  · refine (congrFun (sums_first m c ⟨0, h⟩ rfl) (ix2 i j)).trans ((sums_blk m c ⟨0, h⟩ _ i j).trans (congrArg (· + _) ?_))
    pointwise [k0_pay10]
  · exact (congrFun (sums_later m c ⟨n + 1, h⟩ (later_point h)) (ix2 i j)).trans (sums_blk m c ⟨n + 1, h⟩ _ i j)

/-- What the kernel leaves: the eight running rows of the gain's and of the scale's gradient, the groups' matrices'
    gradient and the weights' gradient. -/
def gainAll : S8x1024.Idx → EReal := fun i => ∑ t ∈ Finset.range 16, ∑ q : Fin 64, gainRow m c (i 1).val (512 * t + (q.val * 8 + (i 0).val))
def scaleAll : S8x512.Idx → EReal := fun i => ∑ t ∈ Finset.range 16, ∑ q : Fin 64, scaleRow m c (i 1).val (512 * t + (q.val * 8 + (i 0).val))
def mapAll : S4x128x128.Idx → EReal := fun i => ∑ t ∈ Finset.range 16, ∑ q : Fin 512, mapRow m c (i 0).val (i 1).val (i 2).val (512 * t + q.val)
def weightAll : S1024x1024.Idx → EReal := fun i => ∑ t ∈ Finset.range 16, ∑ q : Fin 512, weightRow m c (i 0).val (i 1).val (512 * t + q.val)

theorem gain_final : (dats m 0 c).arrAt 13 cfg0.N = gainAll m c := by
  funext i
  refine (dats m 0 c).arrAt_forall_of_cover 13 (fun i v => v = gainAll m c i) (fun t hf y => ?_) (fun i => ?_) i
  · have ht : t.val = 15 := by have := (flush0_13 t).1 hf; have := point_lt t; omega
    show (cfg0.win 13).cut (grid0.coords t) ((dats m 0 c).after 13 t) y = _
    rw [after0_13]
    have h0 : ((((cfg0.win 13).rect t).emb y 0 : Fin _) : ℕ) = (y 0).val :=
      Pipeline.Window.rect_emb_val_of_index_zero (cfg0.win 13) t 0 (index_sums t).1.1 y
    have h1 : ((((cfg0.win 13).rect t).emb y 1 : Fin _) : ℕ) = (y 1).val :=
      Pipeline.Window.rect_emb_val_of_index_zero (cfg0.win 13) t 1 (index_sums t).1.2 y
    refine (congrArg (outsAt0 m c t.val t.isLt).2.2.2.1 (eq_ix2 (n0 := 8) (n1 := 1024) y)).trans ((gain_sums m c t.val t.isLt (y 0) (y 1)).trans ?_)
    rw [ht]
    exact congrArg₂ (fun a b => ∑ t ∈ Finset.range 16, ∑ q : Fin 64, gainRow m c a (512 * t + (q.val * 8 + b))) h1.symm h0.symm
  · refine ⟨lastPoint, (flush0_13 lastPoint).2 rfl, Finset.mem_map.2 ⟨ix2 (i 0) (i 1), Finset.mem_univ _, ?_⟩⟩
    funext a
    apply Fin.ext
    match a with
    | ⟨0, _⟩ => exact Pipeline.Window.rect_emb_val_of_index_zero (cfg0.win 13) _ 0 (index_sums _).1.1 _
    | ⟨1, _⟩ => exact Pipeline.Window.rect_emb_val_of_index_zero (cfg0.win 13) _ 1 (index_sums _).1.2 _

theorem scale_final : (dats m 0 c).arrAt 14 cfg0.N = scaleAll m c := by
  funext i
  refine (dats m 0 c).arrAt_forall_of_cover 14 (fun i v => v = scaleAll m c i) (fun t hf y => ?_) (fun i => ?_) i
  · have ht : t.val = 15 := by have := (flush0_14 t).1 hf; have := point_lt t; omega
    show (cfg0.win 14).cut (grid0.coords t) ((dats m 0 c).after 14 t) y = _
    rw [after0_14]
    have h0 : ((((cfg0.win 14).rect t).emb y 0 : Fin _) : ℕ) = (y 0).val :=
      Pipeline.Window.rect_emb_val_of_index_zero (cfg0.win 14) t 0 (index_sums t).2.1.1 y
    have h1 : ((((cfg0.win 14).rect t).emb y 1 : Fin _) : ℕ) = (y 1).val :=
      Pipeline.Window.rect_emb_val_of_index_zero (cfg0.win 14) t 1 (index_sums t).2.1.2 y
    refine (congrArg (outsAt0 m c t.val t.isLt).2.2.2.2.1 (eq_ix2 (n0 := 8) (n1 := 512) y)).trans ((scale_sums m c t.val t.isLt (y 0) (y 1)).trans ?_)
    rw [ht]
    exact congrArg₂ (fun a b => ∑ t ∈ Finset.range 16, ∑ q : Fin 64, scaleRow m c a (512 * t + (q.val * 8 + b))) h1.symm h0.symm
  · refine ⟨lastPoint, (flush0_14 lastPoint).2 rfl, Finset.mem_map.2 ⟨ix2 (i 0) (i 1), Finset.mem_univ _, ?_⟩⟩
    funext a
    apply Fin.ext
    match a with
    | ⟨0, _⟩ => exact Pipeline.Window.rect_emb_val_of_index_zero (cfg0.win 14) _ 0 (index_sums _).2.1.1 _
    | ⟨1, _⟩ => exact Pipeline.Window.rect_emb_val_of_index_zero (cfg0.win 14) _ 1 (index_sums _).2.1.2 _

theorem map_final : (dats m 0 c).arrAt 15 cfg0.N = mapAll m c := by
  funext i
  refine (dats m 0 c).arrAt_forall_of_cover 15 (fun i v => v = mapAll m c i) (fun t hf y => ?_) (fun i => ?_) i
  · have ht : t.val = 15 := by have := (flush0_15 t).1 hf; have := point_lt t; omega
    show (cfg0.win 15).cut (grid0.coords t) ((dats m 0 c).after 15 t) y = _
    rw [after0_15]
    have h0 : ((((cfg0.win 15).rect t).emb y 0 : Fin _) : ℕ) = (y 0).val :=
      Pipeline.Window.rect_emb_val_of_index_zero (cfg0.win 15) t 0 (index_sums t).2.2.2.1 y
    have h1 : ((((cfg0.win 15).rect t).emb y 1 : Fin _) : ℕ) = (y 1).val :=
      Pipeline.Window.rect_emb_val_of_index_zero (cfg0.win 15) t 1 (index_sums t).2.2.2.2.1 y
    have h2 : ((((cfg0.win 15).rect t).emb y 2 : Fin _) : ℕ) = (y 2).val :=
      Pipeline.Window.rect_emb_val_of_index_zero (cfg0.win 15) t 2 (index_sums t).2.2.2.2.2 y
    refine (congrArg (outsAt0 m c t.val t.isLt).2.2.2.2.2.1 (ix3_eta (n0 := 4) (n1 := 128) (n2 := 128) y).symm).trans ((map_sums m c t.val t.isLt (y 0) (y 1) (y 2)).trans ?_)
    rw [ht]
    have e := congr (congrArg₂ (fun g a b => ∑ t ∈ Finset.range 16, ∑ q : Fin 512, mapRow m c g a b (512 * t + q.val)) h0.symm h1.symm) h2.symm
    exact e
  · refine ⟨lastPoint, (flush0_15 lastPoint).2 rfl, Finset.mem_map.2 ⟨ix3 (i 0) (i 1) (i 2), Finset.mem_univ _, ?_⟩⟩
    funext a
    apply Fin.ext
    match a with
    | ⟨0, _⟩ => exact Pipeline.Window.rect_emb_val_of_index_zero (cfg0.win 15) _ 0 (index_sums _).2.2.2.1 _
    | ⟨1, _⟩ => exact Pipeline.Window.rect_emb_val_of_index_zero (cfg0.win 15) _ 1 (index_sums _).2.2.2.2.1 _
    | ⟨2, _⟩ => exact Pipeline.Window.rect_emb_val_of_index_zero (cfg0.win 15) _ 2 (index_sums _).2.2.2.2.2 _

theorem weight_final : (dats m 0 c).arrAt 16 cfg0.N = weightAll m c := by
  funext i
  refine (dats m 0 c).arrAt_forall_of_cover 16 (fun i v => v = weightAll m c i) (fun t hf y => ?_) (fun i => ?_) i
  · have ht : t.val = 15 := by have := (flush0_16 t).1 hf; have := point_lt t; omega
    show (cfg0.win 16).cut (grid0.coords t) ((dats m 0 c).after 16 t) y = _
    rw [after0_16]
    have h0 : ((((cfg0.win 16).rect t).emb y 0 : Fin _) : ℕ) = (y 0).val :=
      Pipeline.Window.rect_emb_val_of_index_zero (cfg0.win 16) t 0 (index_sums t).2.2.1.1 y
    have h1 : ((((cfg0.win 16).rect t).emb y 1 : Fin _) : ℕ) = (y 1).val :=
      Pipeline.Window.rect_emb_val_of_index_zero (cfg0.win 16) t 1 (index_sums t).2.2.1.2 y
    rw [weights_last m c t (by omega)]
    refine (congrArg (outsAt0 m c t.val t.isLt).2.2.2.2.2.2.2 (eq_ix2 (n0 := 1024) (n1 := 1024) y)).trans ((weight_sums m c t.val t.isLt (y 0) (y 1)).trans ?_)
    rw [ht]
    exact congrArg₂ (fun a b => ∑ t ∈ Finset.range 16, ∑ q : Fin 512, weightRow m c a b (512 * t + q.val)) h0.symm h1.symm
  · refine ⟨lastPoint, (flush0_16 lastPoint).2 rfl, Finset.mem_map.2 ⟨ix2 (i 0) (i 1), Finset.mem_univ _, ?_⟩⟩
    funext a
    apply Fin.ext
    match a with
    | ⟨0, _⟩ => exact Pipeline.Window.rect_emb_val_of_index_zero (cfg0.win 16) _ 0 (index_sums _).2.2.1.1 _
    | ⟨1, _⟩ => exact Pipeline.Window.rect_emb_val_of_index_zero (cfg0.win 16) _ 1 (index_sums _).2.2.1.2 _

end OutGrad
end
-- ==== Proof.OutGrad.Run.lean ====
/-
  The run of the gradient kernel's program with its seven results named.
-/
module
public import proofs.«01_k».proof.Proof.OutGrad.Final
public import proofs.«01_k».proof.Proof.PoolGrad.Run
@[expose] public section
set_option maxRecDepth 16384
noncomputable section
namespace OutGrad
open Cert.Kernel6Ideal Cert.Kernel6Ideal.Gen Idealize.ShloMosaic Idealize.ShloMosaic.TcCoe Idealize.SL.Sem
open PoolGrad (eight_rows sum_range_blocks)
open Idealize.ShloMosaic.Pipeline (Dat)
variable (m : (ℓ : Loc nD τ sig) → Buf (Elt Ideal) ℓ) (ρ : Dev nD → PrngReg) (c : Dev nD)

/-- Sums over sixteen blocks of rows are sums over all rows. -/
theorem block_rows (f : ℕ → EReal) : ∑ t ∈ Finset.range 16, ∑ q : Fin 512, f (512 * t + q.val) = ∑ r : Fin 8192, f r.val := by
  rw [← Finset.sum_range (fun r => f r), show (8192 : ℕ) = 16 * 512 by norm_num, sum_range_blocks 16 512]
  refine Finset.sum_congr rfl fun t _ => ?_
  rw [Finset.sum_range (fun q => f (t * 512 + q)), Nat.mul_comm t]

/-- The gradients of the gain, the scale, the groups' matrices and the weights as sums over all rows. -/
def gainSum : S1x1024.Idx → EReal := fun i => ∑ r : Fin 8192, gainRow m c (i 1).val r.val
def scaleSum : S1x512.Idx → EReal := fun i => ∑ r : Fin 8192, scaleRow m c (i 1).val r.val
def mapTotal : S4x128x128.Idx → EReal := fun i => ∑ r : Fin 8192, mapRow m c (i 0).val (i 1).val (i 2).val r.val
def weightTotal : S1024x1024.Idx → EReal := fun i => ∑ r : Fin 8192, weightRow m c (i 0).val (i 1).val r.val

theorem map_total : mapAll m c = mapTotal m c := funext fun i => block_rows (mapRow m c (i 0).val (i 1).val (i 2).val)
theorem weight_total : weightAll m c = weightTotal m c := funext fun i => block_rows (weightRow m c (i 0).val (i 1).val)

theorem gain_tail : Pipeline.afterTail₀ cfgs (dats m) 0 (V0 m) [hostOps1] c main_v27 = gainSum m c := by
  have hw : Pipeline.withArrays (cfgs 0).spec c (V0 m c) (fun w => (dats m 0 c).arrAt w (cfgs 0).N) (Proc.devRef .tc main_v25_3) = gainAll m c :=
    (Pipeline.withArrays_arr spec0 winFacts0.arr_inj c (V0 m c) (fun w => (dats m 0 c).arrAt w cfg0.N) 13).trans (gain_final m c)
  unfold Pipeline.afterTail₀
  simp only [hostOps1, List.flatten_cons, List.flatten_nil, List.append_nil]
  generalize Pipeline.withArrays (cfgs 0).spec c (V0 m c) (fun w => (dats m 0 c).arrAt w (cfgs 0).N) = W at hw ⊢
  after_results
  rw [hw]
  funext i
  rw [eq_ix2 (n0 := 1) (n1 := 1024) i]
  generalize i 1 = j
  change Fin 1024 at j
  pointwise
  exact eight_rows (fun r => gainRow m c j.val r)

theorem scale_tail : Pipeline.afterTail₀ cfgs (dats m) 0 (V0 m) [hostOps1] c main_v29 = scaleSum m c := by
  have hw : Pipeline.withArrays (cfgs 0).spec c (V0 m c) (fun w => (dats m 0 c).arrAt w (cfgs 0).N) (Proc.devRef .tc main_v25_4) = scaleAll m c :=
    (Pipeline.withArrays_arr spec0 winFacts0.arr_inj c (V0 m c) (fun w => (dats m 0 c).arrAt w cfg0.N) 14).trans (scale_final m c)
  unfold Pipeline.afterTail₀
  simp only [hostOps1, List.flatten_cons, List.flatten_nil, List.append_nil]
  generalize Pipeline.withArrays (cfgs 0).spec c (V0 m c) (fun w => (dats m 0 c).arrAt w (cfgs 0).N) = W at hw ⊢
  after_results
  rw [hw]
  funext i
  rw [eq_ix2 (n0 := 1) (n1 := 512) i]
  generalize i 1 = l
  change Fin 512 at l
  pointwise
  exact eight_rows (fun r => scaleRow m c l.val r)

/-- The results after the run. -/
theorem run_results : θ_run defs (onTc (τ := τ) (main (F := Ideal))) ⟨m, fun _ => 0, ρ⟩ fun r => ∀ c : Dev nD,
      r.2.mem ((c.tc : Thread nD τ).loc main_v25_0) = outAll m c
      ∧ r.2.mem ((c.tc : Thread nD τ).loc main_v25_1) = gatesAll m c
      ∧ r.2.mem ((c.tc : Thread nD τ).loc main_v25_2) = pooledAll m c
      ∧ r.2.mem ((c.tc : Thread nD τ).loc main_v27) = gainSum m c
      ∧ r.2.mem ((c.tc : Thread nD τ).loc main_v29) = scaleSum m c
      ∧ r.2.mem ((c.tc : Thread nD τ).loc main_v25_5) = mapTotal m c
      ∧ r.2.mem ((c.tc : Thread nD τ).loc main_v25_6) = weightTotal m c :=
  (θ_run defs _ _).mono (fun r h c => ⟨((h c).1 10).trans (out_final m c), ((h c).1 11).trans (gates_final m c), ((h c).1 12).trans (pooled_final m c),
    ((h c).2 main_v27 (Pipeline.mem_restRefs_of main_v27 (by decide) (by decide))).trans (gain_tail m c),
    ((h c).2 main_v29 (Pipeline.mem_restRefs_of main_v29 (by decide) (by decide))).trans (scale_tail m c),
    ((h c).1 15).trans ((map_final m c).trans (map_total m c)), ((h c).1 16).trans ((weight_final m c).trans (weight_total m c))⟩) (run_main m ρ)

end OutGrad
end
-- ==== Proof.OutGrad.Entry.lean ====
/-
  The arrays that the program's host part hands the gradient kernel, as the reference's values of the same arguments.
-/
module
public import proofs.«01_k».proof.Proof.OutGrad.Blocks
public import proofs.«01_k».proof.Proof.Gen.Reference6Ideal.Read
@[expose] public section
set_option maxRecDepth 16384
noncomputable section
namespace OutGrad
open Cert.Kernel6Ideal Cert.Kernel6Ideal.Gen Idealize.ShloMosaic Idealize.ShloMosaic.TcCoe Idealize.SL.Sem
variable (m : (ℓ : Loc nD τ sig) → Buf (Elt Ideal) ℓ) (c : Dev nD)

/-- An argument of the program, on a device. -/
abbrev arg (b : Ref sig .tc) : Buf (Elt Ideal) ((c : Thread nD τ).loc b) := m ((c : Thread nD τ).loc b)

theorem entry_weights : V m c main_v22 = Cert.Reference6Ideal.Read.val_main_v6 (F := Ideal) (arg m c main_arg2) := by
  unfold V V0
  simp only [hostOps0, hostOps0_1, hostOps0_2, hostOps0_3, hostOps0_4, List.flatten_cons, List.flatten_nil, List.append_nil, List.cons_append, List.nil_append]
  after_reads_simp
  rfl

theorem entry_maps : V m c main_v23 = Cert.Reference6Ideal.Read.val_main_v4 (F := Ideal) (arg m c main_arg6) := by
  unfold V V0
  simp only [hostOps0, hostOps0_1, hostOps0_2, hostOps0_3, hostOps0_4, List.flatten_cons, List.flatten_nil, List.append_nil, List.cons_append, List.nil_append]
  after_reads_simp
  rfl

theorem entry_mixed : V m c main_v24
    = Cert.Reference6Ideal.Read.val_main_v19 (F := Ideal) (arg m c main_arg3) (arg m c main_arg4) (arg m c main_arg5) (arg m c main_arg6) (arg m c main_arg7) := by
  unfold V V0
  simp only [hostOps0, hostOps0_1, hostOps0_2, hostOps0_3, hostOps0_4, List.flatten_cons, List.flatten_nil, List.append_nil, List.cons_append, List.nil_append]
  after_reads_simp
  rfl

theorem entry_rows : V m c main_v20
    = Cert.Reference6Ideal.Read.val_main_v20 (F := Ideal) (arg m c main_arg2) (arg m c main_arg3) (arg m c main_arg4) (arg m c main_arg5) (arg m c main_arg6)
        (arg m c main_arg7) := by
  unfold V V0
  simp only [hostOps0, hostOps0_1, hostOps0_2, hostOps0_3, hostOps0_4, List.flatten_cons, List.flatten_nil, List.append_nil, List.cons_append, List.nil_append]
  after_reads_simp
  rfl

end OutGrad
end
-- ==== Proof.OutGrad.RefNorm.lean ====
/-
  The reference's gradients of the norm, of the mixed rows and of the weights, as the kernel's expressions.
-/
module
public import proofs.«01_k».proof.Proof.OutGrad.Rows
public import proofs.«01_k».proof.Proof.PoolGrad.RefNorm
public import proofs.«01_k».proof.Proof.Gen.Reference6Ideal.Read
@[expose] public section
set_option maxRecDepth 16384
noncomputable section
namespace OutGrad.Ref
open Cert.Reference6Ideal Cert.Reference6Ideal.Gen Cert.Reference6Ideal.Read Idealize.ShloMosaic
open PoolGrad (at2 elem_eq_at2 idx_eq_at2 nCols nEps rms meanSq norm_grad minus_half)

variable (x0 : S8192x1024.Idx → EReal) (x1 : S1x1024.Idx → EReal) (x2 : S1x1024x1024.Idx → EReal) (x3 : S8192x1536.Idx → EReal)
  (x4 x5 : S8192x512.Idx → EReal) (x6 : S1x4x128x128.Idx → EReal) (x7 : S1x512.Idx → EReal)

/-- The norm's input, the mixed rows, the weights and the groups' matrices, read at numbers. -/
def rY : ℕ → ℕ → EReal := at2 (n0 := 8192) (n1 := 1024) (val_main_v20 (F := Ideal) x2 x3 x4 x5 x6 x7)
def rX : ℕ → ℕ → EReal := at2 (n0 := 8192) (n1 := 1024) (val_main_v19 (F := Ideal) x3 x4 x5 x6 x7)
def rW : ℕ → ℕ → EReal := at2 (n0 := 1024) (n1 := 1024) (val_main_v6 (F := Ideal) x2)
def rM : ℕ → ℕ → ℕ → EReal := at3 (n0 := 4) (n1 := 128) (n2 := 128) (val_main_v4 (F := Ideal) x6)
/-- The gradient of the norm's input, and of the mixed rows. -/
def rDy (r : ℕ) : ℕ → EReal := dNorm (at2 x0 r) (rY x2 x3 x4 x5 x6 x7 r) (at2 x1 0)
def rE (r : ℕ) : ℕ → EReal := dMix (rDy x0 x1 x2 x3 x4 x5 x6 x7 r) (rW x2)

theorem rows_read (i : S8192x1024.Idx) : val_main_v20 (F := Ideal) x2 x3 x4 x5 x6 x7 i = rY x2 x3 x4 x5 x6 x7 (i 0).val (i 1).val :=
  idx_eq_at2 (n0 := 8192) (n1 := 1024) _ i

theorem meanSq_read (i : S8192x1.Idx) : val_main_v27 (F := Ideal) x2 x3 x4 x5 x6 x7 i = meanSq (rY x2 x3 x4 x5 x6 x7) (i 0).val := by
  rw [val_main_v27_apply, val_main_v25_apply, val_main_v23_apply, val_main_v22_apply, val_main_v24_apply, val_main_v26_apply]
  show Ideal.div (Ideal.ofBits FTy.f32 0x00000000#32 + _) nCols + nEps = _
  rw [Ideal.ofBits_zero_f32, zero_add]
  unfold meanSq
  refine congrArg (fun v : EReal => Ideal.div v nCols + nEps) (Finset.sum_congr rfl fun k _ => ?_)
  rw [val_main_v21_apply, rows_read]
  rfl

theorem rms_read (i : S8192x1.Idx) : val_main_v28 (F := Ideal) x2 x3 x4 x5 x6 x7 i = rms (rY x2 x3 x4 x5 x6 x7) (i 0).val := by
  rw [val_main_v28_apply, meanSq_read]
  rfl

theorem scaled_read (i : S8192x1024.Idx) : val_main_v40 (F := Ideal) x0 x1 i = at2 x0 (i 0).val (i 1).val * at2 x1 0 (i 1).val := by
  rw [val_main_v40_apply, val_main_v39_apply, idx_eq_at2 x0, idx_eq_at2 x1]
  rfl

theorem dot_read (i : S8192.Idx) : val_main_v42 (F := Ideal) x0 x1 x2 x3 x4 x5 x6 x7 i
    = ∑ k : Fin 1024, rY x2 x3 x4 x5 x6 x7 (i 0).val k.val * (at2 x0 (i 0).val k.val * at2 x1 0 k.val) := by
  rw [val_main_v42_apply]
  refine (congrArg (· + _) Ideal.ofBits_zero_f32).trans ((zero_add _).trans (Finset.sum_congr rfl fun k _ => ?_))
  rw [val_main_v41_apply, scaled_read, rows_read]
  rfl

theorem coef_read (i : S8192x1024.Idx) : val_main_v50 (F := Ideal) x0 x1 x2 x3 x4 x5 x6 x7 i
    = Ideal.div ((∑ k : Fin 1024, rY x2 x3 x4 x5 x6 x7 (i 0).val k.val * (at2 x0 (i 0).val k.val * at2 x1 0 k.val))
        * ((-1 / 2 : ℝ) * Ideal.div (rms (rY x2 x3 x4 x5 x6 x7) (i 0).val) (meanSq (rY x2 x3 x4 x5 x6 x7) (i 0).val))) nCols := by
  rw [val_main_v50_apply, val_main_v49_apply]
  refine (congrArg (· + _) Ideal.ofBits_zero_f32).trans ((zero_add _).trans ?_)
  rw [Fin.sum_univ_one, val_main_v48_apply, val_main_v46_apply, val_main_v47_apply, val_main_v43_apply, val_main_v31_apply,
    val_main_v30_apply, val_main_v29_apply, meanSq_read, rms_read, dot_read x0 x1 x2 x3 x4 x5 x6 x7]
  have e : (idx_main_v43 (idx_main_v49 (idx_main_v50 i) 0) 0).val = (i 0).val := by
    show (i 0).val * 1 + 0 = (i 0).val
    omega
  rw [e, ← minus_half]
  rfl

/-- The reference's gradient of the norm's input. -/
theorem input_read (i : S8192x1024.Idx) : val_main_v54 (F := Ideal) x0 x1 x2 x3 x4 x5 x6 x7 i = rDy x0 x1 x2 x3 x4 x5 x6 x7 (i 0).val (i 1).val := by
  rw [val_main_v54_apply, val_main_v52_apply, val_main_v45_apply, val_main_v51_apply, val_main_v53_apply, val_main_v44_apply,
    coef_read x0 x1 x2 x3 x4 x5 x6 x7, scaled_read, rms_read, rows_read]
  have h := norm_grad (rY x2 x3 x4 x5 x6 x7) (i 0).val (rY x2 x3 x4 x5 x6 x7 (i 0).val (i 1).val) (at2 x0 (i 0).val (i 1).val * at2 x1 0 (i 1).val) 0
    (∑ k : Fin 1024, rY x2 x3 x4 x5 x6 x7 (i 0).val k.val * (at2 x0 (i 0).val k.val * at2 x1 0 k.val))
  rw [zero_add, zero_add] at h
  exact h

/-- The reference's gradient of the norm's gain. -/
theorem gain_read (i : S1x1024.Idx) : val_main_v38 (F := Ideal) x0 x2 x3 x4 x5 x6 x7 i
    = ∑ r : Fin 8192, dGain (at2 x0 r.val) (rY x2 x3 x4 x5 x6 x7 r.val) (i 1).val := by
  have h0 : (i 0).val = 0 := Nat.lt_one_iff.1 (i 0).isLt
  rw [val_main_v38_apply, val_main_v37_apply]
  refine (congrArg (· + _) Ideal.ofBits_zero_f32).trans ((zero_add _).trans (Finset.sum_congr rfl fun r _ => ?_))
  have e1 : (idx_main_v37 (idx_main_v38 i) r 1).val = (i 1).val := by
    show (i 0).val * 1024 + (i 1).val = (i 1).val
    omega
  have e0 : (idx_main_v37 (idx_main_v38 i) r 0).val = r.val := rfl
  rw [val_main_v36_apply, val_main_v33_apply, val_main_v32_apply, rms_read, rows_read, idx_eq_at2 x0, e1, e0]
  exact mul_comm _ _

/-- The reference's gradient of the mixed rows. -/
theorem mixed_read (i : S8192x1024.Idx) : val_main_v57 (F := Ideal) x0 x1 x2 x3 x4 x5 x6 x7 i = rE x0 x1 x2 x3 x4 x5 x6 x7 (i 0).val (i 1).val := by
  rw [val_main_v57_apply]
  unfold rE dMix
  refine Finset.sum_congr rfl fun k _ => ?_
  rw [input_read x0 x1 x2 x3 x4 x5 x6 x7, idx_eq_at2 (n0 := 1024) (n1 := 1024) (val_main_v6 (F := Ideal) x2)]
  rfl

/-- The reference's gradient of the weights. -/
theorem weight_read (i : S1024x1024.Idx) : val_main_v84 (F := Ideal) x0 x1 x2 x3 x4 x5 x6 x7 i
    = ∑ r : Fin 8192, rX x3 x4 x5 x6 x7 r.val (i 0).val * rDy x0 x1 x2 x3 x4 x5 x6 x7 r.val (i 1).val := by
  rw [val_main_v84_apply, val_main_v56_apply]
  refine (val_main_v55_apply x0 x1 x2 x3 x4 x5 x6 x7 (idx_main_v56 i)).trans (Finset.sum_congr rfl fun r _ => ?_)
  rw [input_read x0 x1 x2 x3 x4 x5 x6 x7, idx_eq_at2 (n0 := 8192) (n1 := 1024) (val_main_v19 (F := Ideal) x3 x4 x5 x6 x7)]
  exact mul_comm _ _

end OutGrad.Ref
end
-- ==== Proof.OutGrad.RefGate.lean ====
/-
  The reference's gradients of the attention's output, of the gates, of the pooled rows, of the scale and of the
  groups' matrices, as the kernel's expressions.
-/
module
public import proofs.«01_k».proof.Proof.OutGrad.RefNorm
@[expose] public section
set_option maxRecDepth 16384
noncomputable section
namespace OutGrad.Ref
open Cert.Reference6Ideal Cert.Reference6Ideal.Gen Cert.Reference6Ideal.Read Idealize.ShloMosaic
open PoolGrad (at2 elem_eq_at2 idx_eq_at2 nCols nEps rms meanSq)
open NormGate.In1 (logi)

/-- An element at an index whose coordinates are known numbers. -/
theorem idx_at2 {n0 n1 : ℕ} (A : (⟨2, ![n0, n1]⟩ : Shape).Idx → EReal) (y : (⟨2, ![n0, n1]⟩ : Shape).Idx) {r c : ℕ}
    (h0 : (y 0).val = r) (h1 : (y 1).val = c) : A y = at2 A r c := by
  subst h0 h1
  exact idx_eq_at2 A y

theorem idx_at3 {n0 n1 n2 : ℕ} (A : (⟨3, ![n0, n1, n2]⟩ : Shape).Idx → EReal) (y : (⟨3, ![n0, n1, n2]⟩ : Shape).Idx) {g r c : ℕ}
    (h0 : (y 0).val = g) (h1 : (y 1).val = r) (h2 : (y 2).val = c) : A y = at3 A g r c := by
  subst h0 h1 h2
  exact idx_eq_at3 A y

variable (x0 : S8192x1024.Idx → EReal) (x1 : S1x1024.Idx → EReal) (x2 : S1x1024x1024.Idx → EReal) (x3 : S8192x1536.Idx → EReal)
  (x4 x5 : S8192x512.Idx → EReal) (x6 : S1x4x128x128.Idx → EReal) (x7 : S1x512.Idx → EReal)

/-! ## The gates -/

theorem gateA_read (i : S8192x512.Idx) : val_main_v1 (F := Ideal) x3 i = at2 x3 (i 0).val (i 1).val := by
  rw [val_main_v1_apply, val_main_v0_apply]
  exact idx_at2 (n0 := 8192) (n1 := 1536) x3 _ rfl rfl

theorem gateB_read (i : S8192x512.Idx) : val_main_v2 (F := Ideal) x3 i = at2 x3 (i 0).val (1024 + (i 1).val) := by
  rw [val_main_v2_apply, val_main_v0_apply]
  exact idx_at2 (n0 := 8192) (n1 := 1536) x3 _ rfl rfl

theorem logiA_read (i : S8192x512.Idx) : val_main_v7_2 (F := Ideal) x3 i = logi (at2 x3 (i 0).val (i 1).val) := by
  rw [val_main_v7_2_apply, val_main_call0_v4_apply, val_main_call0_v3_apply, val_main_call0_v2_apply, val_main_call0_v1_apply, val_main_call0_v0_apply, gateA_read]
  show Ideal.div (Ideal.ofBits FTy.f32 0x3F800000#32) (Ideal.ofBits FTy.f32 0x3F800000#32 + Ideal.exp (-(at2 x3 (i 0).val (i 1).val))) = _
  rw [Ideal.ofBits_one_f32]
  rfl

theorem logiB_read (i : S8192x512.Idx) : val_main_v17_2 (F := Ideal) x3 i = logi (at2 x3 (i 0).val (1024 + (i 1).val)) := by
  rw [val_main_v17_2_apply, val_main_call1_v4_apply, val_main_call1_v3_apply, val_main_call1_v2_apply, val_main_call1_v1_apply, val_main_call1_v0_apply, gateB_read]
  show Ideal.div (Ideal.ofBits FTy.f32 0x3F800000#32) (Ideal.ofBits FTy.f32 0x3F800000#32 + Ideal.exp (-(at2 x3 (i 0).val (1024 + (i 1).val)))) = _
  rw [Ideal.ofBits_one_f32]
  rfl

theorem bellA_read (i : S8192x512.Idx) :
    val_main_v7_1 (F := Ideal) x3 i = logi (at2 x3 (i 0).val (i 1).val) * (1 - logi (at2 x3 (i 0).val (i 1).val)) := by
  rw [val_main_v7_1_apply, val_main_call0_v7_apply, val_main_call0_v6_apply, logiA_read]
  show logi (at2 x3 (i 0).val (i 1).val) * (Ideal.ofBits FTy.f32 0x3F800000#32 - logi (at2 x3 (i 0).val (i 1).val)) = _
  rw [Ideal.ofBits_one_f32]

theorem bellB_read (i : S8192x512.Idx) :
    val_main_v17_1 (F := Ideal) x3 i = logi (at2 x3 (i 0).val (1024 + (i 1).val)) * (1 - logi (at2 x3 (i 0).val (1024 + (i 1).val))) := by
  rw [val_main_v17_1_apply, val_main_call1_v7_apply, val_main_call1_v6_apply, logiB_read]
  show logi (at2 x3 (i 0).val (1024 + (i 1).val)) * (Ideal.ofBits FTy.f32 0x3F800000#32 - logi (at2 x3 (i 0).val (1024 + (i 1).val))) = _
  rw [Ideal.ofBits_one_f32]

/-! ## The pooled rows through the groups' matrices -/

theorem pooled_in_read (i : S8192x4x128.Idx) : val_main_v9 (F := Ideal) x5 i = at2 x5 (i 0).val (128 * (i 1).val + (i 2).val) := by
  have h1 : (i 1).val < 4 := (i 1).isLt
  have h2 : (i 2).val < 128 := (i 2).isLt
  rw [val_main_v9_apply, val_main_v3_apply]
  refine idx_at2 (n0 := 8192) (n1 := 512) x5 _ ?_ ?_
  · show (((i 0).val * 4 + (i 1).val) * 128 + (i 2).val) / 512 = (i 0).val
    omega
  · show (((i 0).val * 4 + (i 1).val) * 128 + (i 2).val) % 512 = 128 * (i 1).val + (i 2).val
    omega

theorem mapped_read (i : S8192x4x128.Idx) :
    val_main_v11 (F := Ideal) x5 x6 i = mapped (at2 x5 (i 0).val) (rM x6) (128 * (i 1).val + (i 2).val) := by
  have h2 : (i 2).val < 128 := (i 2).isLt
  rw [val_main_v11_apply, val_main_v10_apply]
  unfold mapped
  rw [show (128 * (i 1).val + (i 2).val) / 128 = (i 1).val by omega, show (128 * (i 1).val + (i 2).val) % 128 = (i 2).val by omega]
  refine Finset.sum_congr rfl fun k _ => ?_
  rw [pooled_in_read, mul_comm]
  exact congrArg (at2 x5 (i 0).val (128 * (i 1).val + k.val) * ·) (idx_at3 (n0 := 4) (n1 := 128) (n2 := 128) _ _ rfl rfl rfl)

theorem scale_in_read (i : S1x4x128.Idx) : val_main_v13 (F := Ideal) x7 i = at2 x7 0 (128 * (i 1).val + (i 2).val) := by
  have h1 : (i 1).val < 4 := (i 1).isLt
  have h2 : (i 2).val < 128 := (i 2).isLt
  rw [val_main_v13_apply, val_main_v12_apply, val_main_v5_apply]
  refine idx_at2 (n0 := 1) (n1 := 512) x7 _ rfl ?_
  show ((i 1).val * 128 + (i 2).val) % 512 = 128 * (i 1).val + (i 2).val
  omega

theorem branch_read (i : S8192x512.Idx) :
    val_main_v16 (F := Ideal) x5 x6 x7 i = mapped (at2 x5 (i 0).val) (rM x6) (i 1).val * at2 x7 0 (i 1).val := by
  have h1 : (i 1).val < 512 := (i 1).isLt
  have e0 : (idx_main_v16 i 0).val = (i 0).val := by
    show ((i 0).val * 512 + (i 1).val) / 512 = (i 0).val
    omega
  have e1 : 128 * (idx_main_v16 i 1).val + (idx_main_v16 i 2).val = (i 1).val := by
    show 128 * (((i 0).val * 512 + (i 1).val) / 128 % 4) + ((i 0).val * 512 + (i 1).val) % 128 = (i 1).val
    omega
  rw [val_main_v16_apply, val_main_v15_apply, val_main_v14_apply, mapped_read, scale_in_read, e0, e1]
  exact congrArg (fun n => mapped (at2 x5 (i 0).val) (rM x6) (i 1).val * at2 x7 0 n) rfl

/-! ## The gradients -/

theorem mixedA_read (i : S8192x512.Idx) : val_main_v58 (F := Ideal) x0 x1 x2 x3 x4 x5 x6 x7 i = rE x0 x1 x2 x3 x4 x5 x6 x7 (i 0).val (i 1).val := by
  rw [val_main_v58_apply, mixed_read]

theorem mixedB_read (i : S8192x512.Idx) : val_main_v59 (F := Ideal) x0 x1 x2 x3 x4 x5 x6 x7 i = rE x0 x1 x2 x3 x4 x5 x6 x7 (i 0).val (512 + (i 1).val) := by
  rw [val_main_v59_apply, mixed_read]

/-- The reference's gradient of the attention's output. -/
theorem out_read (i : S8192x512.Idx) :
    val_main_v81 (F := Ideal) x0 x1 x2 x3 x4 x5 x6 x7 i = dOut (rE x0 x1 x2 x3 x4 x5 x6 x7 (i 0).val) (at2 x3 (i 0).val) (i 1).val := by
  rw [val_main_v81_apply, val_main_v78_apply, val_main_v7_0_apply, mixedA_read, gateA_read, logiA_read]
  rfl

theorem dScaled_read (i : S8192x512.Idx) :
    val_main_v61 (F := Ideal) x0 x1 x2 x3 x4 x5 x6 x7 i = dScaled (rE x0 x1 x2 x3 x4 x5 x6 x7 (i 0).val) (at2 x3 (i 0).val) (i 1).val := by
  rw [val_main_v61_apply, val_main_v17_0_apply, mixedB_read, gateB_read, logiB_read]
  rfl

theorem dScaled3_read (i : S8192x4x128.Idx) : val_main_v63 (F := Ideal) x0 x1 x2 x3 x4 x5 x6 x7 i
    = dScaled (rE x0 x1 x2 x3 x4 x5 x6 x7 (i 0).val) (at2 x3 (i 0).val) (128 * (i 1).val + (i 2).val) := by
  have h1 : (i 1).val < 4 := (i 1).isLt
  have h2 : (i 2).val < 128 := (i 2).isLt
  have e0 : (idx_main_v63 i 0).val = (i 0).val := by
    show (((i 0).val * 4 + (i 1).val) * 128 + (i 2).val) / 512 = (i 0).val
    omega
  have e1 : (idx_main_v63 i 1).val = 128 * (i 1).val + (i 2).val := by
    show (((i 0).val * 4 + (i 1).val) * 128 + (i 2).val) % 512 = 128 * (i 1).val + (i 2).val
    omega
  rw [val_main_v63_apply, dScaled_read, e0, e1]

/-- The reference's gradient of the scale. -/
theorem scale_read (i : S1x512.Idx) : val_main_v83 (F := Ideal) x0 x1 x2 x3 x4 x5 x6 x7 i
    = ∑ r : Fin 8192, dScale (rE x0 x1 x2 x3 x4 x5 x6 x7 r.val) (at2 x3 r.val) (at2 x5 r.val) (rM x6) (i 1).val := by
  have h0 : (i 0).val = 0 := Nat.lt_one_iff.1 (i 0).isLt
  have h1 : (i 1).val < 512 := (i 1).isLt
  rw [val_main_v83_apply, val_main_v70_apply, val_main_v69_apply]
  refine (congrArg (· + _) Ideal.ofBits_zero_f32).trans ((zero_add _).trans ?_)
  rw [Fin.sum_univ_one, val_main_v66_apply, val_main_v65_apply]
  refine (congrArg (· + _) Ideal.ofBits_zero_f32).trans ((zero_add _).trans (Finset.sum_congr rfl fun r _ => ?_))
  generalize hj : idx_main_v65 (idx_main_v66 (idx_main_v69 (idx_main_v70 (idx_main_v83 i)) 0)) r = j
  have e0 : (j 0).val = r.val := by rw [← hj]
  have e1 : 128 * (j 1).val + (j 2).val = (i 1).val := by
    rw [← hj]
    show 128 * (((0 * 4 + ((i 0).val * 512 + (i 1).val) / 128) * 128 + ((i 0).val * 512 + (i 1).val) % 128) / 128)
      + ((0 * 4 + ((i 0).val * 512 + (i 1).val) / 128) * 128 + ((i 0).val * 512 + (i 1).val) % 128) % 128 = (i 1).val
    omega
  rw [val_main_v64_apply, mapped_read, dScaled3_read, e0, e1]
  exact mul_comm _ _

theorem dMapped_read (i : S4x128x8192.Idx) : val_main_v71 (F := Ideal) x0 x1 x2 x3 x4 x5 x6 x7 i
    = dMapped (rE x0 x1 x2 x3 x4 x5 x6 x7 (i 2).val) (at2 x3 (i 2).val) (at2 x7 0) (128 * (i 0).val + (i 1).val) := by
  rw [val_main_v71_apply, val_main_v68_apply, val_main_v67_apply, dScaled3_read, scale_in_read]
  rfl

/-- The reference's gradient of the pooled rows. -/
theorem pooled_read (i : S8192x512.Idx) : val_main_v76 (F := Ideal) x0 x1 x2 x3 x4 x5 x6 x7 i
    = dPooled (rE x0 x1 x2 x3 x4 x5 x6 x7 (i 0).val) (at2 x3 (i 0).val) (rM x6) (at2 x7 0) (i 1).val := by
  have h1 : (i 1).val < 512 := (i 1).isLt
  have e0 : (idx_main_v76 i 0).val = (i 0).val := by
    show ((i 0).val * 512 + (i 1).val) / 512 = (i 0).val
    omega
  have e1 : (idx_main_v76 i 1).val = (i 1).val / 128 := by
    show ((i 0).val * 512 + (i 1).val) / 128 % 4 = (i 1).val / 128
    omega
  have e2 : (idx_main_v76 i 2).val = (i 1).val % 128 := by
    show ((i 0).val * 512 + (i 1).val) % 128 = (i 1).val % 128
    omega
  rw [val_main_v76_apply, val_main_v73_apply, val_main_v72_apply]
  unfold dPooled
  refine Finset.sum_congr rfl fun k _ => ?_
  rw [dMapped_read, idx_at3 (n0 := 4) (n1 := 128) (n2 := 128) (val_main_v4 (F := Ideal) x6) (ridx_main_v72 (idx_main_v73 (idx_main_v76 i)) k)
    (g := (i 1).val / 128) (r := (i 1).val % 128) (c := k.val) e1 e2 rfl]
  show dMapped (rE x0 x1 x2 x3 x4 x5 x6 x7 (idx_main_v76 i 0).val) (at2 x3 (idx_main_v76 i 0).val) (at2 x7 0) (128 * (idx_main_v76 i 1).val + k.val) * _ = _
  rw [e0, e1]
  rfl

/-- The reference's gradient of the groups' matrices. -/
theorem map_read (i : S4x128x128.Idx) : val_main_v75 (F := Ideal) x0 x1 x2 x3 x4 x5 x6 x7 i
    = ∑ r : Fin 8192, at2 x5 r.val (128 * (i 0).val + (i 1).val)
        * dMapped (rE x0 x1 x2 x3 x4 x5 x6 x7 r.val) (at2 x3 r.val) (at2 x7 0) (128 * (i 0).val + (i 2).val) := by
  rw [val_main_v75_apply, val_main_v74_apply]
  refine Finset.sum_congr rfl fun r _ => ?_
  rw [dMapped_read, pooled_in_read]
  exact mul_comm _ _

/-! ## The gradient of the gates -/

/-- The logistic function's derivative, split as the reference splits it. -/
theorem slope_split (a : ℝ) (x : EReal) : (a : EReal) * logi x + x * a * (logi x * (1 - logi x)) = a * slope x := by
  unfold slope
  induction x using EReal.rec with
  | bot =>
    have h : logi ⊥ = 0 := by
      show Ideal.div 1 (1 + Ideal.exp (-⊥)) = 0
      rw [EReal.neg_bot, show Ideal.exp ⊤ = ⊤ from rfl, show (1 : EReal) + ⊤ = ⊤ from EReal.add_top_of_ne_bot (by decide)]
      simp [Ideal.div]
    rw [h]; simp
  | top =>
    have h : logi ⊤ = 1 := by
      show Ideal.div 1 (1 + Ideal.exp (-⊤)) = 1
      rw [EReal.neg_top, show Ideal.exp ⊥ = 0 from rfl, add_zero, ← EReal.coe_one, Ideal.div_coe one_ne_zero, ← EReal.coe_mul]
      norm_num
    have h1 : (1 : EReal) - 1 = 0 := by rw [← EReal.coe_one, ← EReal.coe_sub, sub_self, EReal.coe_zero]
    rw [h, h1]; simp
  | coe r =>
    obtain ⟨s, hs⟩ : ∃ s : ℝ, logi r = s := by
      refine ⟨1 / (1 + Real.exp (-r)), ?_⟩
      have hp : (1 + Real.exp (-r)) ≠ 0 := by positivity
      show Ideal.div 1 (1 + Ideal.exp (-(r : EReal))) = _
      rw [← EReal.coe_neg, show Ideal.exp ((-r : ℝ) : EReal) = (Real.exp (-r) : ℝ) from rfl, ← EReal.coe_one, ← EReal.coe_add, Ideal.div_coe hp,
        ← EReal.coe_mul, one_mul]
    rw [hs, ← EReal.coe_one]
    simp only [← EReal.coe_sub, ← EReal.coe_mul, ← EReal.coe_add]
    congr 1
    ring

theorem dGateA_read (i : S8192x512.Idx) (hE : ∃ a : ℝ, rE x0 x1 x2 x3 x4 x5 x6 x7 (i 0).val (i 1).val * at2 x4 (i 0).val (i 1).val = a) :
    val_main_v79 (F := Ideal) x0 x1 x2 x3 x4 x5 x6 x7 i
      = dGateA (rE x0 x1 x2 x3 x4 x5 x6 x7 (i 0).val) (at2 x3 (i 0).val) (at2 x4 (i 0).val) (i 1).val := by
  obtain ⟨a, ha⟩ := hE
  rw [val_main_v79_apply, val_main_call3_v1_apply, val_main_call3_v2_apply, val_main_call3_v0_apply, val_main_v77_apply, mixedA_read, gateA_read, logiA_read,
    bellA_read, idx_eq_at2 (n0 := 8192) (n1 := 512) x4]
  unfold dGateA
  rw [ha, ← slope_split a]
  have ha' : FloatOps.mulf (F := Ideal) (φ := .f32) (at2 x4 (i 0).val (i 1).val) (rE x0 x1 x2 x3 x4 x5 x6 x7 (i 0).val (i 1).val) = (a : EReal) :=
    (mul_comm _ _).trans ha
  rw [ha']
  rfl

theorem dGateB_read (i : S8192x512.Idx) (hE : ∃ a : ℝ, rE x0 x1 x2 x3 x4 x5 x6 x7 (i 0).val (512 + (i 1).val)
      * (mapped (at2 x5 (i 0).val) (rM x6) (i 1).val * at2 x7 0 (i 1).val) = a) :
    val_main_v62 (F := Ideal) x0 x1 x2 x3 x4 x5 x6 x7 i
      = dGateB (rE x0 x1 x2 x3 x4 x5 x6 x7 (i 0).val) (at2 x3 (i 0).val) (at2 x5 (i 0).val) (rM x6) (at2 x7 0) (i 1).val := by
  obtain ⟨a, ha⟩ := hE
  rw [val_main_v62_apply, val_main_call2_v1_apply, val_main_call2_v2_apply, val_main_call2_v0_apply, val_main_v60_apply, mixedB_read, gateB_read, logiB_read,
    bellB_read, branch_read]
  unfold dGateB
  rw [ha, ← slope_split a]
  have ha' : FloatOps.mulf (F := Ideal) (φ := .f32) (mapped (at2 x5 (i 0).val) (rM x6) (i 1).val * at2 x7 0 (i 1).val)
      (rE x0 x1 x2 x3 x4 x5 x6 x7 (i 0).val (512 + (i 1).val)) = (a : EReal) := (mul_comm _ _).trans ha
  rw [ha']
  rfl

/-- The reference's gradient of the gates. -/
theorem gates_read
    (hA : ∀ r l : ℕ, ∃ a : ℝ, rE x0 x1 x2 x3 x4 x5 x6 x7 r l * at2 x4 r l = a)
    (hB : ∀ r l : ℕ, ∃ a : ℝ, rE x0 x1 x2 x3 x4 x5 x6 x7 r (512 + l) * (mapped (at2 x5 r) (rM x6) l * at2 x7 0 l) = a) (i : S8192x1024.Idx) :
    val_main_v82 (F := Ideal) x0 x1 x2 x3 x4 x5 x6 x7 i
      = dGates (rE x0 x1 x2 x3 x4 x5 x6 x7 (i 0).val) (at2 x3 (i 0).val) (at2 x4 (i 0).val) (at2 x5 (i 0).val) (rM x6) (at2 x7 0) (i 1).val := by
  have h79 := fun i : S8192x512.Idx => dGateA_read x0 x1 x2 x3 x4 x5 x6 x7 i (hA _ _)
  have h62 := fun i : S8192x512.Idx => dGateB_read x0 x1 x2 x3 x4 x5 x6 x7 i (hB _ _)
  rw [val_main_v82_apply]
  unfold val_main_v80
  generalize val_main_v79 (F := Ideal) x0 x1 x2 x3 x4 x5 x6 x7 = y1 at h79 ⊢
  generalize val_main_v62 (F := Ideal) x0 x1 x2 x3 x4 x5 x6 x7 = y2 at h62 ⊢
  generalize rE x0 x1 x2 x3 x4 x5 x6 x7 = E at h79 h62 ⊢
  rw [eq_ix2 (n0 := 8192) (n1 := 1024) i]
  generalize i 0 = r
  generalize i 1 = k
  change Fin 8192 at r
  change Fin 1024 at k
  pointwise
  simp only [h79, h62]
  rfl

end OutGrad.Ref
end
-- ==== Proof.OutGrad.Real.lean ====
/-
  Which values are real numbers, and not infinite, when the arguments named by the precondition are.
-/
module
public import proofs.«01_k».proof.Defs
public import proofs.«01_k».proof.Proof.OutGrad.Rows
public import proofs.«01_k».proof.Proof.PoolGrad.RefNorm
@[expose] public section
set_option maxRecDepth 16384
noncomputable section
namespace OutGrad
open Idealize.ShloMosaic
open PoolGrad (at2 nCols nEps rms meanSq nEps_pos meanSq_ge nCols_val)

/-- A real number among the extended reals. -/
def IsReal (x : EReal) : Prop := ∃ a : ℝ, x = a

theorem isReal_of {x : EReal} (ht : x ≠ ⊤) (hb : x ≠ ⊥) : IsReal x := ⟨x.toReal, (EReal.coe_toReal ht hb).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ k, IsReal (f k)) : IsReal (∑ k, f k) :=
  Finset.sum_induction f IsReal (fun _ _ => IsReal.add) ⟨0, rfl⟩ (fun k _ => h k)

theorem IsReal.mean {x : EReal} (h : IsReal x) : IsReal (Ideal.div x nCols) := by
  rw [nCols_val, Ideal.div_coe (by norm_num)]
  exact h.mul ⟨_, rfl⟩

theorem real_at2 {n0 n1 : ℕ} {A : (⟨2, ![n0, n1]⟩ : Shape).Idx → EReal} (h : ∀ i, IsReal (A i)) (r c : ℕ) : IsReal (at2 A r c) := by
  unfold at2
  split
  · exact h _
  · exact ⟨0, rfl⟩

theorem real_at3 {n0 n1 n2 : ℕ} {A : (⟨3, ![n0, n1, n2]⟩ : Shape).Idx → EReal} (h : ∀ i, IsReal (A i)) (g r c : ℕ) : IsReal (at3 A g r c) := by
  unfold at3
  split
  · exact h _
  · exact ⟨0, rfl⟩

/-- The norm's gradient is real even where the norm's input is not: an infinite row has a vanishing reciprocal root. -/
theorem real_dNorm {d y g : ℕ → EReal} (hd : ∀ k, IsReal (d k)) (hg : ∀ k, IsReal (g k)) (j : Fin 1024) : IsReal (dNorm d y g j.val) := by
  obtain ⟨e, he, hn⟩ := nEps_pos
  have hge := meanSq_ge (fun _ => y) 0
  rw [hn] at hge
  by_cases ht : meanSq (fun _ => y) 0 = ⊤
  · have hr : rowRms y = 0 := by
      show Ideal.rsqrt (meanSq (fun _ => y) 0) = 0
      rw [ht]
      rfl
    refine ⟨0, ?_⟩
    unfold dNorm
    rw [hr]
    simp
  have hy : ∀ k : Fin 1024, IsReal (y k.val) := by
    intro k
    by_contra hk
    refine ht ?_
    have hkk : y k.val * y k.val = ⊤ := by
      by_cases h1 : y k.val = ⊤
      · rw [h1]; rfl
      by_cases h2 : y k.val = ⊥
      · rw [h2]; rfl
      exact absurd (isReal_of h1 h2) hk
    have hs : ∑ k : Fin 1024, y k.val * y k.val = ⊤ := by
      refine top_le_iff.1 ?_
      rw [← hkk]
      exact Finset.single_le_sum (f := fun k : Fin 1024 => y k.val * y k.val) (fun i _ => PoolGrad.mul_self_nonneg _) (Finset.mem_univ k)
    unfold meanSq
    rw [hs, nCols_val, Ideal.div_coe (by norm_num), hn, EReal.top_mul_coe_of_pos (by norm_num)]
    rfl
  have hr : IsReal (rowRms y) := by
    show IsReal (Ideal.rsqrt (meanSq (fun _ => y) 0))
    have hb : meanSq (fun _ => y) 0 ≠ ⊥ := fun hb => by
      rw [hb] at hge
      exact absurd hge (by simp)
    obtain ⟨q, hq⟩ := isReal_of ht hb
    rw [hq] at hge ⊢
    have hq0 : 0 < q := lt_of_lt_of_le he (by exact_mod_cast hge)
    rw [Ideal.rsqrt_coe, if_neg (not_lt.2 hq0.le), if_neg hq0.ne']
    exact ⟨_, rfl⟩
  exact (hr.mul ((hd _).mul (hg _))).sub (((hy j).mul ((hr.mul hr).mul hr)).mul (IsReal.sum fun k => (hy k).mul ((hd _).mul (hg _))).mean)

theorem real_dMix {d y g : ℕ → EReal} {W : ℕ → ℕ → EReal} (hd : ∀ k, IsReal (d k)) (hg : ∀ k, IsReal (g k)) (hW : ∀ l k, IsReal (W l k)) (l : ℕ) :
    IsReal (dMix (dNorm d y g) W l) := IsReal.sum fun k => (real_dNorm hd hg k).mul (hW _ _)

theorem real_mapped {p : ℕ → EReal} {M : ℕ → ℕ → ℕ → EReal} (hp : ∀ k, IsReal (p k)) (hM : ∀ g a b, IsReal (M g a b)) (l : ℕ) : IsReal (mapped p M l) :=
  IsReal.sum fun _ => (hp _).mul (hM _ _ _)

/-! ## The precondition -/

theorem pre_facts : Cert.Pre_out0_finite.Facts :=
  ⟨by decide, by decide, by decide, by decide, by decide, by decide, by decide, by decide⟩

instance : Cert.Pre_out0_finite.Facts := pre_facts

/-- Where the sum of an array's differences with itself does not reach down to minus infinity, every element is real. -/
theorem real_of_sum {s : Shape} {axes : List (Fin s.rank)} (h : s.ReducesTo axes Cert.Pre_out0_finite.S_) (x : s.Idx → EReal) (init : EReal)
    (j : Cert.Pre_out0_finite.S_.Idx) (hne : Ideal.hostReduceAdd h (fun i => x i - x i) init j ≠ ⊥) (i : s.Idx) : IsReal (x i) := by
  have hd : h.drop i = j := funext fun a : Fin 0 => a.elim0
  have hi : x i - x i ≠ ⊥ := by
    intro hb
    refine hne ?_
    unfold Ideal.hostReduceAdd
    rw [← Finset.add_sum_erase _ _ (Finset.mem_filter.2 ⟨Finset.mem_univ i, hd⟩), hb, EReal.bot_add, EReal.add_bot]
  refine isReal_of (fun e => hi ?_) (fun e => hi ?_)
  · rw [e]; rfl
  · rw [e]; rfl

open Cert.Pre_out0_finite in
/-- The precondition says that the elements of seven of the eight arguments are real numbers. -/
theorem real_of_pre (x0 : S8192x1024.Idx → EReal) (x1 : S1x1024.Idx → EReal) (x2 : S1x1024x1024.Idx → EReal) (x3 : S8192x1536.Idx → EReal)
    (x4 x5 : S8192x512.Idx → EReal) (x6 : S1x4x128x128.Idx → EReal) (x7 : S1x512.Idx → EReal)
    (h : fn (F := Ideal) x0 x1 x2 x3 x4 x5 x6 x7 = fun _ => 1#1) :
    (∀ i, IsReal (x0 i)) ∧ (∀ i, IsReal (x1 i)) ∧ (∀ i, IsReal (x2 i)) ∧ (∀ i, IsReal (x4 i)) ∧ (∀ i, IsReal (x5 i)) ∧ (∀ i, IsReal (x6 i))
      ∧ ∀ i, IsReal (x7 i) := by
  have e := congrFun h ix0
  change Ideal.cmp .oeq (_ + _ + _ + _ + _ + _ + _ : EReal) (Ideal.ofBits .f32 0x00000000#32) = 1#1 at e
  rw [Ideal.ofBits_zero_f32] at e
  have e0 : ∀ s : EReal, Ideal.cmp .oeq s 0 = 1#1 → s ≠ ⊥ := by
    intro s hs hb
    rw [hb] at hs
    revert hs
    simp [Ideal.cmp]
  have e1 := e0 _ e
  rw [Ne, EReal.add_eq_bot_iff, EReal.add_eq_bot_iff, EReal.add_eq_bot_iff, EReal.add_eq_bot_iff, EReal.add_eq_bot_iff, EReal.add_eq_bot_iff] at e1
  simp only [not_or] at e1
  obtain ⟨⟨⟨⟨⟨⟨s0, s1⟩, s2⟩, s4⟩, s5⟩, s6⟩, s7⟩ := e1
  exact ⟨real_of_sum _ x0 _ _ s0, real_of_sum _ x1 _ _ s1, real_of_sum _ x2 _ _ s2, real_of_sum _ x4 _ _ s4, real_of_sum _ x5 _ _ s5,
    real_of_sum _ x6 _ _ s6, real_of_sum _ x7 _ _ s7⟩

end OutGrad
end
-- ==== Proof.OutGrad.Claims.lean ====
/-
  The claims about the gradient of the first layer's output side: its frames, and the equality of its seven results
  with the reference's.
-/
module
public import proofs.«01_k».proof.Defs
public import proofs.«01_k».proof.Proof.Gen.Kernel6.Frame
public import proofs.«01_k».proof.Proof.OutGrad.Run
public import proofs.«01_k».proof.Proof.OutGrad.Entry
public import proofs.«01_k».proof.Proof.OutGrad.RefGate
public import proofs.«01_k».proof.Proof.OutGrad.Real
public import Idealize.ShloMosaic.Adequacy
public import Idealize.ShloMosaic.Init
@[expose] public section
set_option maxRecDepth 16384
noncomputable section
namespace OutGrad
open Idealize.ShloMosaic Idealize.ShloMosaic.TcCoe Idealize.SL.Sem
open PoolGrad (at2)
open Ref (rY rX rW rM rDy rE)

section Match
open Cert.Kernel6Ideal Cert.Kernel6Ideal.Gen
open Cert.Reference6Ideal.Read
variable (m : (ℓ : Loc nD τ sig) → Buf (Elt Ideal) ℓ) (c : Dev nD)

/-! ## The arrays at the region's entry, as the reference's -/

theorem rows_entry : aY m c = rY (arg m c main_arg2) (arg m c main_arg3) (arg m c main_arg4) (arg m c main_arg5) (arg m c main_arg6) (arg m c main_arg7) :=
  congrArg (at2 (n0 := 8192) (n1 := 1024)) (entry_rows m c)

theorem mixed_entry : aX m c = rX (arg m c main_arg3) (arg m c main_arg4) (arg m c main_arg5) (arg m c main_arg6) (arg m c main_arg7) :=
  congrArg (at2 (n0 := 8192) (n1 := 1024)) (entry_mixed m c)

theorem weights_entry : aW m c = rW (arg m c main_arg2) := congrArg (at2 (n0 := 1024) (n1 := 1024)) (entry_weights m c)

theorem maps_entry : aM m c = rM (arg m c main_arg6) := congrArg (at3 (n0 := 4) (n1 := 128) (n2 := 128)) (entry_maps m c)

theorem d_entry : aD m c = at2 (n0 := 8192) (n1 := 1024) (arg m c main_arg0) := congrArg (at2 (n0 := 8192) (n1 := 1024)) (V_main_arg0 m c)
theorem g_entry : aG m c = at2 (n0 := 1) (n1 := 1024) (arg m c main_arg1) := congrArg (at2 (n0 := 1) (n1 := 1024)) (V_main_arg1 m c)
theorem u_entry : aU m c = at2 (n0 := 8192) (n1 := 1536) (arg m c main_arg3) := congrArg (at2 (n0 := 8192) (n1 := 1536)) (V_main_arg3 m c)
theorem o_entry : aO m c = at2 (n0 := 8192) (n1 := 512) (arg m c main_arg4) := congrArg (at2 (n0 := 8192) (n1 := 512)) (V_main_arg4 m c)
theorem p_entry : aP m c = at2 (n0 := 8192) (n1 := 512) (arg m c main_arg5) := congrArg (at2 (n0 := 8192) (n1 := 512)) (V_main_arg5 m c)
theorem s_entry : aS m c = at2 (n0 := 1) (n1 := 512) (arg m c main_arg7) := congrArg (at2 (n0 := 1) (n1 := 512)) (V_main_arg7 m c)

theorem dy_entry (r : ℕ) : aDy m c r = rDy (arg m c main_arg0) (arg m c main_arg1) (arg m c main_arg2) (arg m c main_arg3) (arg m c main_arg4)
    (arg m c main_arg5) (arg m c main_arg6) (arg m c main_arg7) r := by
  unfold aDy rDy
  rw [d_entry, g_entry, rows_entry]

theorem e_entry (r : ℕ) : aE m c r = rE (arg m c main_arg0) (arg m c main_arg1) (arg m c main_arg2) (arg m c main_arg3) (arg m c main_arg4)
    (arg m c main_arg5) (arg m c main_arg6) (arg m c main_arg7) r := by
  unfold aE rE
  rw [dy_entry, weights_entry]

/-! ## The results -/

variable {x0 : S8192x1024.Idx → EReal} {x1 : S1x1024.Idx → EReal} {x2 : S1x1024x1024.Idx → EReal} {x3 : S8192x1536.Idx → EReal}
  {x4 x5 : S8192x512.Idx → EReal} {x6 : S1x4x128x128.Idx → EReal} {x7 : S1x512.Idx → EReal}
  (h0 : x0 = arg m c main_arg0) (h1 : x1 = arg m c main_arg1) (h2 : x2 = arg m c main_arg2) (h3 : x3 = arg m c main_arg3)
  (h4 : x4 = arg m c main_arg4) (h5 : x5 = arg m c main_arg5) (h6 : x6 = arg m c main_arg6) (h7 : x7 = arg m c main_arg7)
include h0 h2 h3 h4 h5 h6 h7

theorem gain_match : val_main_v38 (F := Ideal) x0 x2 x3 x4 x5 x6 x7 = gainSum m c := by
  subst h0 h2 h3 h4 h5 h6 h7
  funext i
  unfold gainSum gainRow
  rw [d_entry, rows_entry]
  exact Ref.gain_read _ _ _ _ _ _ _ i

include h1

theorem out_match : val_main_v81 (F := Ideal) x0 x1 x2 x3 x4 x5 x6 x7 = outAll m c := by
  subst h0 h1 h2 h3 h4 h5 h6 h7
  funext i
  unfold outAll
  rw [e_entry, u_entry]
  exact Ref.out_read _ _ _ _ _ _ _ _ i

theorem pooled_match : val_main_v76 (F := Ideal) x0 x1 x2 x3 x4 x5 x6 x7 = pooledAll m c := by
  subst h0 h1 h2 h3 h4 h5 h6 h7
  funext i
  unfold pooledAll
  rw [e_entry, u_entry, maps_entry, s_entry]
  exact Ref.pooled_read _ _ _ _ _ _ _ _ i

theorem scale_match : val_main_v83 (F := Ideal) x0 x1 x2 x3 x4 x5 x6 x7 = scaleSum m c := by
  subst h0 h1 h2 h3 h4 h5 h6 h7
  funext i
  unfold scaleSum scaleRow
  simp only [e_entry, u_entry, maps_entry, p_entry]
  exact Ref.scale_read _ _ _ _ _ _ _ _ i

theorem map_match : val_main_v75 (F := Ideal) x0 x1 x2 x3 x4 x5 x6 x7 = mapTotal m c := by
  subst h0 h1 h2 h3 h4 h5 h6 h7
  funext i
  unfold mapTotal mapRow
  simp only [e_entry, u_entry, p_entry, s_entry]
  exact Ref.map_read _ _ _ _ _ _ _ _ i

theorem weight_match : val_main_v84 (F := Ideal) x0 x1 x2 x3 x4 x5 x6 x7 = weightTotal m c := by
  subst h0 h1 h2 h3 h4 h5 h6 h7
  funext i
  unfold weightTotal weightRow
  simp only [dy_entry, mixed_entry]
  exact Ref.weight_read _ _ _ _ _ _ _ _ i

theorem gates_match (hpre : Cert.Pre_out0_finite.fn (F := Ideal) x0 x1 x2 x3 x4 x5 x6 x7 = fun _ => 1#1) :
    val_main_v82 (F := Ideal) x0 x1 x2 x3 x4 x5 x6 x7 = gatesAll m c := by
  obtain ⟨r0, r1, r2, r4, r5, r6, r7⟩ := real_of_pre x0 x1 x2 x3 x4 x5 x6 x7 hpre
  have rw6 : ∀ i, IsReal (val_main_v6 (F := Ideal) x2 i) := fun i => by rw [val_main_v6_apply]; exact r2 _
  have rw4 : ∀ i, IsReal (val_main_v4 (F := Ideal) x6 i) := fun i => by rw [val_main_v4_apply]; exact r6 _
  have rE' : ∀ r l, IsReal (rE x0 x1 x2 x3 x4 x5 x6 x7 r l) := fun r l => real_dMix (real_at2 r0 r) (real_at2 r1 0) (real_at2 rw6) l
  funext i
  refine (Ref.gates_read x0 x1 x2 x3 x4 x5 x6 x7 (fun r l => (rE' r l).mul (real_at2 r4 r l))
    (fun r l => (rE' r (512 + l)).mul ((real_mapped (real_at2 r5 r) (real_at3 rw4) l).mul (real_at2 r7 0 l))) i).trans ?_
  subst h0 h1 h2 h3 h4 h5 h6 h7
  unfold gatesAll gatesRow
  rw [e_entry, u_entry, o_entry, p_entry, maps_entry, s_entry]

end Match

theorem reference_frame : Cert.quiescent_Reference6Ideal := fun m ρ _ =>
  (θ_run Cert.Reference6Ideal.defs _ _).mono (fun r h => ⟨fun c => (h c).2.2.2.2.2.2.2, sem_eq_zero_of_no_sems (by decide) r.2⟩)
    (Cert.Reference6Ideal.Value.run (F := Ideal) m ρ)

theorem equal_results : Cert.algebraic_Kernel6Ideal_Reference6Ideal_pre_out0_finite := by
  intro m g m' g' hpre hagree
  refine ⟨outAll m, gatesAll m, pooledAll m, gainSum m, scaleSum m, mapTotal m, weightTotal m,
    (θ_run Cert.Kernel6Ideal.defs _ _).mono (fun r h c =>
      ⟨(h.1 c).1, (h.1 c).2.1, (h.1 c).2.2.1, (h.1 c).2.2.2.1, (h.1 c).2.2.2.2.1, (h.1 c).2.2.2.2.2.1, (h.1 c).2.2.2.2.2.2, h.2 c⟩)
      (θ_run_and (run_results m g) (Cert.Kernel6Ideal.Gen.unchanged m g)),
    (θ_run Cert.Reference6Ideal.defs _ _).mono (fun r h c => ?_) (Cert.Reference6Ideal.Value.run (F := Ideal) m' g')⟩
  obtain ⟨a0, a1, a2, a3, a4, a5, a6, a7⟩ := hagree c
  have hp := hpre c
  rw [← a0, ← a1, ← a2, ← a3, ← a4, ← a5, ← a6, ← a7] at hp
  obtain ⟨r0, r1, r2, r3, r4, r5, r6, rest⟩ := h c
  exact ⟨r0.trans ((Cert.Reference6Ideal.Read.val_main_v81_eq (StableHlo.launchContents m' c)).trans (out_match m c a0 a1 a2 a3 a4 a5 a6 a7)),
    r1.trans ((Cert.Reference6Ideal.Read.val_main_v82_eq (StableHlo.launchContents m' c)).trans (gates_match m c a0 a1 a2 a3 a4 a5 a6 a7 hp)),
    r2.trans ((Cert.Reference6Ideal.Read.val_main_v76_eq (StableHlo.launchContents m' c)).trans (pooled_match m c a0 a1 a2 a3 a4 a5 a6 a7)),
    r3.trans ((Cert.Reference6Ideal.Read.val_main_v38_eq (StableHlo.launchContents m' c)).trans (gain_match m c a0 a2 a3 a4 a5 a6 a7)),
    r4.trans ((Cert.Reference6Ideal.Read.val_main_v83_eq (StableHlo.launchContents m' c)).trans (scale_match m c a0 a1 a2 a3 a4 a5 a6 a7)),
    r5.trans ((Cert.Reference6Ideal.Read.val_main_v75_eq (StableHlo.launchContents m' c)).trans (map_match m c a0 a1 a2 a3 a4 a5 a6 a7)),
    r6.trans ((Cert.Reference6Ideal.Read.val_main_v84_eq (StableHlo.launchContents m' c)).trans (weight_match m c a0 a1 a2 a3 a4 a5 a6 a7)), rest⟩

end OutGrad
end
-- ==== Proof.AdamStep.Step.lean ====
/-
  One step of the optimiser on an array: the two running means and the change of the weights, element by element, and that
  the plain reference's arrays are these.
-/
module
public import Idealize.ShloMosaic.PureOps
public import Idealize.ShloMosaic.PureOps.Ideal
public import Idealize.ShloMosaic.Adequacy
public import Idealize.ShloMosaic.Init
@[expose] public section
noncomputable section
namespace AdamStep
open Idealize.ShloMosaic

/-- The number that a word of 32 bits is. -/
def num (w : BitVec 32) : EReal := Ideal.ofBits .f32 w

/-- The running mean of the gradient: 0.9 of the old one and 0.1 of the gradient. -/
def meanOf {S : Shape} (g mu : S.Idx → EReal) : S.Idx → EReal := fun i => num 0x3F666666#32 * mu i + num 0x3DCCCCCD#32 * g i

/-- The running mean of the gradient's square: 0.999 of the old one and 0.001 of the square. -/
def squareOf {S : Shape} (g v : S.Idx → EReal) : S.Idx → EReal := fun i => num 0x3F7FBE77#32 * v i + num 0x3A83126F#32 * (g i * g i)

/-- The change of the weights: minus the rate times the corrected mean over the root of the corrected square, and the decay. -/
def changeOf {S : Shape} (w g mu v : S.Idx → EReal) : S.Idx → EReal := fun i =>
  num 0xBA83126F#32 * (Ideal.div (Ideal.div (meanOf g mu i) (num 0x3F26BD02#32))
    (Ideal.sqrt (Ideal.div (squareOf g v i) (num 0x3C231ACC#32)) + num 0x322BCC77#32) + num 0x3C23D70A#32 * w i)

/-- A number spread over an array, as the reference writes it. -/
abbrev spread {S : Shape} (b : (⟨0, ![]⟩ : Shape).BroadcastsInDim S (![] : Fin 0 → Fin S.rank)) (w : BitVec 32) : FVec Ideal S .f32 :=
  broadcastInDim S ![] b (constant (F := Ideal) ⟨0, ![]⟩ .f32 w)

section Match
variable {S : Shape} (b : (⟨0, ![]⟩ : Shape).BroadcastsInDim S (![] : Fin 0 → Fin S.rank)) {w w' g g' mu mu' v v' : FVec Ideal S .f32}

theorem mean_match (hg : g' = g) (hm : mu' = mu) :
    addf (mulf (spread b 0x3F666666#32) mu') (mulf (spread b 0x3DCCCCCD#32) g') = (meanOf g mu : FVec Ideal S .f32) := by
  subst hg hm; rfl

theorem square_match (hg : g' = g) (hv : v' = v) :
    addf (mulf (spread b 0x3F7FBE77#32) v') (mulf (spread b 0x3A83126F#32) (mulf g' g')) = (squareOf g v : FVec Ideal S .f32) := by
  subst hg hv; rfl

theorem change_match (hw : w' = w) (hg : g' = g) (hm : mu' = mu) (hv : v' = v) :
    mulf (spread b 0xBA83126F#32) (addf (Host.divf (Host.divf (addf (mulf (spread b 0x3F666666#32) mu') (mulf (spread b 0x3DCCCCCD#32) g')) (spread b 0x3F26BD02#32))
      (addf (Host.sqrt (Host.divf (addf (mulf (spread b 0x3F7FBE77#32) v') (mulf (spread b 0x3A83126F#32) (mulf g' g'))) (spread b 0x3C231ACC#32))) (spread b 0x322BCC77#32)))
      (mulf (spread b 0x3C23D70A#32) w')) = (changeOf w g mu v : FVec Ideal S .f32) := by
  subst hw hg hm hv; rfl

end Match
end AdamStep
end
-- ==== Proof.AdamStep.Matrices.lean ====
/-
  The optimiser's call on the four large weights: what it leaves, and what the reference computes.
-/
module
public import proofs.«01_k».proof.Defs
public import proofs.«01_k».proof.Proof.Gen.Kernel7Ideal.Value
public import proofs.«01_k».proof.Proof.Gen.Reference7Ideal.Run
public import proofs.«01_k».proof.Proof.AdamStep.Step
@[expose] public section
set_option maxRecDepth 16384
noncomputable section
namespace AdamStep.Matrices
open Cert.Kernel7Ideal Cert.Kernel7Ideal.Gen Idealize.ShloMosaic Idealize.ShloMosaic.TcCoe Idealize.SL.Sem

theorem reference_frame : Cert.quiescent_Reference7Ideal := fun m ρ _ =>
  (θ_run Cert.Reference7Ideal.defs _ _).mono (fun r h => ⟨fun c => (h c).2.2.2.2.2.2.2.2.2.2.2.2, sem_eq_zero_of_no_sems (by decide) r.2⟩)
    (Cert.Reference7Ideal.Value.run (F := Ideal) m ρ)

/-- The call and the reference leave the same changes, means and squares. -/
theorem equal_results : Cert.algebraic_Kernel7Ideal_Reference7Ideal := by
  intro m g m' g' _ hagree
  refine ⟨fun c => changeOf (m ((c : Thread nD τ).loc main_arg0)) (m ((c : Thread nD τ).loc main_arg4)) (m ((c : Thread nD τ).loc main_arg8)) (m ((c : Thread nD τ).loc main_arg12)),
    fun c => changeOf (m ((c : Thread nD τ).loc main_arg1)) (m ((c : Thread nD τ).loc main_arg5)) (m ((c : Thread nD τ).loc main_arg9)) (m ((c : Thread nD τ).loc main_arg13)),
    fun c => changeOf (m ((c : Thread nD τ).loc main_arg2)) (m ((c : Thread nD τ).loc main_arg6)) (m ((c : Thread nD τ).loc main_arg10)) (m ((c : Thread nD τ).loc main_arg14)),
    fun c => changeOf (m ((c : Thread nD τ).loc main_arg3)) (m ((c : Thread nD τ).loc main_arg7)) (m ((c : Thread nD τ).loc main_arg11)) (m ((c : Thread nD τ).loc main_arg15)),
    fun c => meanOf (m ((c : Thread nD τ).loc main_arg4)) (m ((c : Thread nD τ).loc main_arg8)),
    fun c => meanOf (m ((c : Thread nD τ).loc main_arg5)) (m ((c : Thread nD τ).loc main_arg9)),
    fun c => meanOf (m ((c : Thread nD τ).loc main_arg6)) (m ((c : Thread nD τ).loc main_arg10)),
    fun c => meanOf (m ((c : Thread nD τ).loc main_arg7)) (m ((c : Thread nD τ).loc main_arg11)),
    fun c => squareOf (m ((c : Thread nD τ).loc main_arg4)) (m ((c : Thread nD τ).loc main_arg12)),
    fun c => squareOf (m ((c : Thread nD τ).loc main_arg5)) (m ((c : Thread nD τ).loc main_arg13)),
    fun c => squareOf (m ((c : Thread nD τ).loc main_arg6)) (m ((c : Thread nD τ).loc main_arg14)),
    fun c => squareOf (m ((c : Thread nD τ).loc main_arg7)) (m ((c : Thread nD τ).loc main_arg15)),
    (θ_run Cert.Kernel7Ideal.defs _ _).mono (fun r h c => h c) (Value.run m g),
    (θ_run Cert.Reference7Ideal.defs _ _).mono (fun r h c => ?_) (Cert.Reference7Ideal.Value.run (F := Ideal) m' g')⟩
  obtain ⟨a0, a1, a2, a3, a4, a5, a6, a7, a8, a9, a10, a11, a12, a13, a14, a15⟩ := hagree c
  obtain ⟨r0, r1, r2, r3, r4, r5, r6, r7, r8, r9, r10, r11, rest⟩ := h c
  exact ⟨r0.trans (change_match _ a0 a4 a8 a12),
    r1.trans (change_match _ a1 a5 a9 a13),
    r2.trans (change_match _ a2 a6 a10 a14),
    r3.trans (change_match _ a3 a7 a11 a15),
    r4.trans (mean_match _ a4 a8),
    r5.trans (mean_match _ a5 a9),
    r6.trans (mean_match _ a6 a10),
    r7.trans (mean_match _ a7 a11),
    r8.trans (square_match _ a4 a12),
    r9.trans (square_match _ a5 a13),
    r10.trans (square_match _ a6 a14),
    r11.trans (square_match _ a7 a15), rest⟩

end AdamStep.Matrices
end
-- ==== Proof.lean ====
/- The claims, assembled: the frames are the generated ones, the equality of the results is in Proof/PoolGrad/Claims.lean for the first
   program, in Proof/WeightGrad/ for the next three, in
   Proof/NormGate/In1.lean for the fifth, in Proof/OutGrad/Claims.lean for the sixth and in Proof/AdamStep/Matrices.lean for the last. -/
module

public import proofs.«01_k».proof.Defs
public import proofs.«01_k».proof.Proof.PoolGrad.Claims
public import proofs.«01_k».proof.Proof.WeightGrad.In1
public import proofs.«01_k».proof.Proof.WeightGrad.Out1
public import proofs.«01_k».proof.Proof.WeightGrad.In0
public import proofs.«01_k».proof.Proof.NormGate.In1
public import proofs.«01_k».proof.Proof.OutGrad.Claims
public import proofs.«01_k».proof.Proof.AdamStep.Matrices
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel7.Frame

@[expose] public section

noncomputable section

namespace Cert.Proof

open Idealize.ShloMosaic Idealize.SL.Sem WeightGrad

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  PoolGrad.finite_facts, OutGrad.pre_facts,
  fun m ρ _ => Cert.Kernel.Gen.frame m ρ, fun m ρ _ => Cert.KernelIdeal.Gen.frame m ρ, fun m ρ _ => Cert.KernelIdeal.Gen.frame m ρ,
  PoolGrad.reference_frame, fun m ρ _ => PoolGrad.reference_frame m ρ trivial,
  fun m ρ _ => Cert.Kernel2.Gen.frame m ρ, fun m ρ _ => Cert.Kernel2Ideal.Gen.frame m ρ, In1.reference_frame,
  fun m ρ _ => Cert.Kernel3.Gen.frame m ρ, fun m ρ _ => Cert.Kernel3Ideal.Gen.frame m ρ, Out1.reference_frame,
  fun m ρ _ => Cert.Kernel4.Gen.frame m ρ, fun m ρ _ => Cert.Kernel4Ideal.Gen.frame m ρ, In0.reference_frame,
  fun m ρ _ => Cert.Kernel5.Gen.frame m ρ, fun m ρ _ => Cert.Kernel5Ideal.Gen.frame m ρ, NormGate.In1.reference_frame,
  fun m ρ _ => Cert.Kernel6.Gen.frame m ρ, fun m ρ _ => Cert.Kernel6Ideal.Gen.frame m ρ, fun m ρ _ => Cert.Kernel6Ideal.Gen.frame m ρ,
  OutGrad.reference_frame, fun m ρ _ => OutGrad.reference_frame m ρ trivial,
  fun m ρ _ => Cert.Kernel7.Gen.frame m ρ, fun m ρ _ => Cert.Kernel7Ideal.Gen.frame m ρ, AdamStep.Matrices.reference_frame,
  trivial, PoolGrad.equal_results, trivial, In1.equal_results, trivial, Out1.equal_results, trivial, In0.equal_results,
  trivial, NormGate.In1.equal_results, trivial, OutGrad.equal_results,
  trivial, AdamStep.Matrices.equal_results⟩

end Cert.Proof

end
